-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8))
      ∧ r.2.sem = fun _ => 0)

def preserves_Kernel_KernelIdeal : Prop :=
  IdealRules.named_const.Statement Cert.KernelIdeal.κ "half_step" .f32 0x3B490FDB#32 ((Real.pi * 1024⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v36) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Inproj_InprojIdeal : Prop :=
  True

def algebraic_InprojIdeal_InprojReferenceIdeal_on_besides_pool [hInprojIdeal : Cert.InprojIdeal.Facts] [hInprojReferenceIdeal : Cert.InprojReferenceIdeal.Facts] [hOn_besides_pool : Cert.On_besides_pool.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)) (v2 : (c : Dev Cert.InprojIdeal.nD) → Buf (Elt Ideal) ((c.tc : Thread Cert.InprojIdeal.nD Cert.InprojIdeal.τ).loc Cert.InprojIdeal.main_v5_2)) (v3 : (c : Dev Cert.InprojIdeal.nD) → Buf (Elt Ideal) ((c.tc : Thread Cert.InprojIdeal.nD Cert.InprojIdeal.τ).loc Cert.InprojIdeal.main_v5_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          (∀ i : (⟨2, ![16384, 1024]⟩ : Shape).Idx, (Cert.On_besides_pool.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).1 i = 1#1 → r.2.mem ((c.tc : Thread Cert.InprojIdeal.nD Cert.InprojIdeal.τ).loc Cert.InprojIdeal.main_v5_0) i = v0 c i)
          ∧ (∀ i : (⟨2, ![16384, 1024]⟩ : Shape).Idx, (Cert.On_besides_pool.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.1 i = 1#1 → r.2.mem ((c.tc : Thread Cert.InprojIdeal.nD Cert.InprojIdeal.τ).loc Cert.InprojIdeal.main_v5_1) i = v1 c i)
          ∧ (∀ i : (⟨2, ![16384, 1024]⟩ : Shape).Idx, (Cert.On_besides_pool.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.1 i = 1#1 → r.2.mem ((c.tc : Thread Cert.InprojIdeal.nD Cert.InprojIdeal.τ).loc Cert.InprojIdeal.main_v5_2) i = v2 c i)
          ∧ (∀ i : (⟨2, ![16384, 2048]⟩ : Shape).Idx, (Cert.On_besides_pool.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.2 i = 1#1 → r.2.mem ((c.tc : Thread Cert.InprojIdeal.nD Cert.InprojIdeal.τ).loc Cert.InprojIdeal.main_v5_3) i = v3 c i)
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          (∀ i : (⟨2, ![16384, 1024]⟩ : Shape).Idx, (Cert.On_besides_pool.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).1 i = 1#1 → r.2.mem ((c.tc : Thread Cert.InprojReferenceIdeal.nD Cert.InprojReferenceIdeal.τ).loc Cert.InprojReferenceIdeal.main_v182) i = v0 c i)
          ∧ (∀ i : (⟨2, ![16384, 1024]⟩ : Shape).Idx, (Cert.On_besides_pool.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.1 i = 1#1 → r.2.mem ((c.tc : Thread Cert.InprojReferenceIdeal.nD Cert.InprojReferenceIdeal.τ).loc Cert.InprojReferenceIdeal.main_v184) i = v1 c i)
          ∧ (∀ i : (⟨2, ![16384, 1024]⟩ : Shape).Idx, (Cert.On_besides_pool.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.1 i = 1#1 → r.2.mem ((c.tc : Thread Cert.InprojReferenceIdeal.nD Cert.InprojReferenceIdeal.τ).loc Cert.InprojReferenceIdeal.main_v186) i = v2 c i)
          ∧ (∀ i : (⟨2, ![16384, 2048]⟩ : Shape).Idx, (Cert.On_besides_pool.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.2 i = 1#1 → r.2.mem ((c.tc : Thread Cert.InprojReferenceIdeal.nD Cert.InprojReferenceIdeal.τ).loc Cert.InprojReferenceIdeal.main_v189) i = v3 c i)
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hInproj : Cert.Inproj.Facts) (hInprojIdeal : Cert.InprojIdeal.Facts) (hInprojReferenceIdeal : Cert.InprojReferenceIdeal.Facts) (hPre_finite : Cert.Pre_finite.Facts) (hOn_besides_pool : Cert.On_besides_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Inproj_InprojIdeal
    ∧ algebraic_InprojIdeal_InprojReferenceIdeal_on_besides_pool (hInprojIdeal := hInprojIdeal) (hInprojReferenceIdeal := hInprojReferenceIdeal) (hOn_besides_pool := hOn_besides_pool)
-- ==== On_besides_pool.lean ====
abbrev S16384x1024 : Shape := ⟨2, ![16384, 1024]⟩
abbrev S1x1024 : Shape := ⟨2, ![1, 1024]⟩
abbrev S1x1024x8192 : Shape := ⟨3, ![1, 1024, 8192]⟩
abbrev S1x8192 : Shape := ⟨2, ![1, 8192]⟩
abbrev S1x3x3072 : Shape := ⟨3, ![1, 3, 3072]⟩
abbrev S1x3072 : Shape := ⟨2, ![1, 3072]⟩
abbrev S1x4x256x256 : Shape := ⟨4, ![1, 4, 256, 256]⟩
abbrev S_ : Shape := ⟨0, ![]⟩
abbrev S16384x2048 : Shape := ⟨2, ![16384, 2048]⟩

class Facts : Prop where
  bcast_S_S16384x1024 : S_.BroadcastsInDim S16384x1024 (![] : Fin 0 → Fin S16384x1024.rank)
  bcast_S_S16384x2048 : S_.BroadcastsInDim S16384x2048 (![] : Fin 0 → Fin S16384x2048.rank)

variable [Facts]

def fn {F : FTy → Type} [FloatOps F] (main_arg0 : FVec F S16384x1024 .f32) (main_arg1 : FVec F S1x1024 .f32) (main_arg2 : FVec F S1x1024x8192 .f32) (main_arg3 : FVec F S1x8192 .f32) (main_arg4 : FVec F S1x3x3072 .f32) (main_arg5 : FVec F S1x3072 .f32) (main_arg6 : FVec F S1x4x256x256 .f32) (main_arg7 : FVec F S1x1024 .f32) (main_arg8 : FVec F S1x1024 .f32) : IVec S16384x1024 1 × IVec S16384x1024 1 × IVec S16384x1024 1 × IVec S16384x2048 1 :=
  let main_c : IVec S_ 1 := constantI S_ 1 1#1
  let main_v0 : IVec S16384x1024 1 := broadcastInDim S16384x1024 ![] bcast_S_S16384x1024 main_c
  let main_c_0 : IVec S_ 1 := constantI S_ 1 1#1
  let main_v1 : IVec S16384x1024 1 := broadcastInDim S16384x1024 ![] bcast_S_S16384x1024 main_c_0
  let main_c_1 : IVec S_ 1 := constantI S_ 1 0#1
  let main_v2 : IVec S16384x1024 1 := broadcastInDim S16384x1024 ![] bcast_S_S16384x1024 main_c_1
  let main_c_2 : IVec S_ 1 := constantI S_ 1 1#1
  let main_v3 : IVec S16384x2048 1 := broadcastInDim S16384x2048 ![] bcast_S_S16384x2048 main_c_2
  (main_v0, main_v1, main_v2, main_v3)
-- ==== Pre_finite.lean ====
abbrev S16384x1024 : Shape := ⟨2, ![16384, 1024]⟩
abbrev S1x1024 : Shape := ⟨2, ![1, 1024]⟩
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S_ : Shape := ⟨0, ![]⟩

class Facts : Prop where
  bcast_S_S16384x1024 : S_.BroadcastsInDim S16384x1024 (![] : Fin 0 → Fin S16384x1024.rank)
  bcast_S_S1x33x64 : S_.BroadcastsInDim S1x33x64 (![] : Fin 0 → Fin S1x33x64.rank)
  bcast_S_S1x64 : S_.BroadcastsInDim S1x64 (![] : Fin 0 → Fin S1x64.rank)
  bcast_S_S1x64x64 : S_.BroadcastsInDim S1x64x64 (![] : Fin 0 → Fin S1x64x64.rank)
  bcast_S_S1x64x2048 : S_.BroadcastsInDim S1x64x2048 (![] : Fin 0 → Fin S1x64x2048.rank)

variable [Facts]

def fn_part1 {F : FTy → Type} [FloatOps F] (main_arg8 : FVec F S1x64 .f32) (main_arg9 : FVec F S1x64x2048 .f32) (main_arg10 : FVec F S1x64 .f32) (main_v2 : IVec S16384x1024 1) (main_v5 : IVec S1x33x64 1) (main_v8 : IVec S1x64 1) (main_v11 : IVec S1x64x64 1) (main_v14 : IVec S1x64 1) (main_v17 : IVec S1x64x64 1) : IVec S16384x1024 1 × IVec S1x33x64 1 × IVec S1x64 1 × IVec S1x64x64 1 × IVec S1x64 1 × IVec S1x64x64 1 × IVec S1x64 1 × IVec S1x64x2048 1 × IVec S1x64 1 :=
  let main_v18 : FVec F S1x64 .f32 := Host.absf main_arg8
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  let main_v21 : FVec F S1x64x2048 .f32 := Host.absf main_arg9
  let main_cst_6 : FVec F S_ .f32 := constant S_ .f32 0x7F800000#32
  let main_v22 : FVec F S1x64x2048 .f32 := broadcastInDim S1x64x2048 ![] bcast_S_S1x64x2048 main_cst_6
  let main_v23 : IVec S1x64x2048 1 := cmpf .olt main_v21 main_v22
  let main_v24 : FVec F S1x64 .f32 := Host.absf main_arg10
  let main_cst_7 : FVec F S_ .f32 := constant S_ .f32 0x7F800000#32
  let main_v25 : FVec F S1x64 .f32 := broadcastInDim S1x64 ![] bcast_S_S1x64 main_cst_7
  let main_v26 : IVec S1x64 1 := cmpf .olt main_v24 main_v25
  (main_v2, main_v5, main_v8, main_v11, main_v14, main_v17, main_v20, main_v23, main_v26)

def fn {F : FTy → Type} [FloatOps F] (main_arg0 : FVec F S16384x1024 .f32) (main_arg1 : FVec F S16384x1024 .bf16) (main_arg2 : FVec F S1x1024 .f32) (main_arg3 : FVec F S1x33x64 .f32) (main_arg4 : FVec F S1x64 .f32) (main_arg5 : FVec F S1x64x64 .f32) (main_arg6 : FVec F S1x64 .f32) (main_arg7 : FVec F S1x64x64 .f32) (main_arg8 : FVec F S1x64 .f32) (main_arg9 : FVec F S1x64x2048 .f32) (main_arg10 : FVec F S1x64 .f32) : IVec S16384x1024 1 × IVec S1x33x64 1 × IVec S1x64 1 × IVec S1x64x64 1 × IVec S1x64 1 × IVec S1x64x64 1 × IVec S1x64 1 × IVec S1x64x2048 1 × IVec S1x64 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x33x64 .f32 := Host.absf main_arg3
  let main_cst_0 : FVec F S_ .f32 := constant S_ .f32 0x7F800000#32
  let main_v4 : FVec F S1x33x64 .f32 := broadcastInDim S1x33x64 ![] bcast_S_S1x33x64 main_cst_0
  let main_v5 : IVec S1x33x64 1 := cmpf .olt main_v3 main_v4
  let main_v6 : FVec F S1x64 .f32 := Host.absf main_arg4
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64x64 .f32 := Host.absf main_arg5
  let main_cst_2 : FVec F S_ .f32 := constant S_ .f32 0x7F800000#32
  let main_v10 : FVec F S1x64x64 .f32 := broadcastInDim S1x64x64 ![] bcast_S_S1x64x64 main_cst_2
  let main_v11 : IVec S1x64x64 1 := cmpf .olt main_v9 main_v10
  let main_v12 : FVec F S1x64 .f32 := Host.absf main_arg6
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64x64 .f32 := Host.absf main_arg7
  let main_cst_4 : FVec F S_ .f32 := constant S_ .f32 0x7F800000#32
  let main_v16 : FVec F S1x64x64 .f32 := broadcastInDim S1x64x64 ![] bcast_S_S1x64x64 main_cst_4
  let main_v17 : IVec S1x64x64 1 := cmpf .olt main_v15 main_v16
  fn_part1 (F := F) main_arg8 main_arg9 main_arg10 main_v2 main_v5 main_v8 main_v11 main_v14 main_v17
-- ==== Kernel.lean ====
abbrev S16384x1024 : Shape := ⟨2, ![16384, 1024]⟩
abbrev S1x1024 : Shape := ⟨2, ![1, 1024]⟩
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S512x1024 : Shape := ⟨2, ![512, 1024]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x128 : Shape := ⟨2, ![2048, 128]⟩
abbrev S33x64 : Shape := ⟨2, ![33, 64]⟩
abbrev S128x64 : Shape := ⟨2, ![128, 64]⟩
abbrev S1023 : Shape := ⟨1, ![1023]⟩
abbrev S1024 : Shape := ⟨1, ![1024]⟩
abbrev S64x64 : Shape := ⟨2, ![64, 64]⟩
abbrev S64x2048 : Shape := ⟨2, ![64, 2048]⟩
abbrev S2048x256 : Shape := ⟨2, ![2048, 256]⟩
abbrev S1x256 : Shape := ⟨2, ![1, 256]⟩
abbrev S64x256 : Shape := ⟨2, ![64, 256]⟩
abbrev S8x512x256 : Shape := ⟨3, ![8, 512, 256]⟩
abbrev S4x1024x256 : Shape := ⟨3, ![4, 1024, 256]⟩
abbrev S7x512x256 : Shape := ⟨3, ![7, 512, 256]⟩
abbrev S2048x64 : Shape := ⟨2, ![2048, 64]⟩
abbrev S512x128 : Shape := ⟨2, ![512, 128]⟩
abbrev S512x2048 : Shape := ⟨2, ![512, 2048]⟩
abbrev S256x128 : Shape := ⟨2, ![256, 128]⟩
abbrev S256x64 : Shape := ⟨2, ![256, 64]⟩
abbrev S512x256 : Shape := ⟨2, ![512, 256]⟩
abbrev S1x512x256 : Shape := ⟨3, ![1, 512, 256]⟩
abbrev S1x1024x256 : Shape := ⟨3, ![1, 1024, 256]⟩
abbrev S1024x256 : Shape := ⟨2, ![1024, 256]⟩

abbrev nBuf : Space → Nat
  | .hbm => 156
  | .vmem => 34
  | .smem => 0
  | _ => 0

abbrev hbmTy0_0 (i : Nat) : BufTy := match i % 128 with
  | 0 => ⟨S16384x1024, .f32⟩
  | 1 => ⟨S16384x1024, .bf16⟩
  | 2 => ⟨S1x1024, .f32⟩
  | 3 => ⟨S1x33x64, .f32⟩
  | 4 => ⟨S1x64, .f32⟩
  | 5 => ⟨S1x64x64, .f32⟩
  | 6 => ⟨S1x64, .f32⟩
  | 7 => ⟨S1x64x64, .f32⟩
  | 8 => ⟨S1x64, .f32⟩
  | 9 => ⟨S1x64x2048, .f32⟩
  | 10 => ⟨S1x64, .f32⟩
  | 11 => ⟨S512, .i32⟩
  | 12 => ⟨S_, .i32⟩
  | 13 => ⟨S512, .i32⟩
  | 14 => ⟨S512, .i32⟩
  | 15 => ⟨S_, .i32⟩
  | 16 => ⟨S512, .i32⟩
  | 17 => ⟨S512, .i32⟩
  | 18 => ⟨S_, .f32⟩
  | 19 => ⟨S_, .f32⟩
  | 20 => ⟨S_, .f32⟩
  | 21 => ⟨S_, .f32⟩
  | 22 => ⟨S_, .f32⟩
  | 23 => ⟨S512x1, .i32⟩
  | 24 => ⟨S1x512, .i32⟩
  | 25 => ⟨S512x512, .i32⟩
  | 26 => ⟨S512x512, .i32⟩
  | 27 => ⟨S512x512, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S512x512, .i32⟩
  | 35 => ⟨S512x512, .i32⟩
  | 36 => ⟨S_, .i32⟩
  | 37 => ⟨S512x512, .i32⟩
  | 38 => ⟨S512x512, .i1⟩
  | 39 => ⟨S_, .i32⟩
  | 40 => ⟨S512x512, .i32⟩
  | 41 => ⟨S512x512, .i1⟩
  | 42 => ⟨S_, .i32⟩
  | 43 => ⟨S_, .i1⟩
  | 44 => ⟨S512x512, .i1⟩
  | 45 => ⟨S512x512, .i1⟩
  | 46 => ⟨S512x512, .i1⟩
  | 47 => ⟨S512x512, .i32⟩
  | 48 => ⟨S512x512, .i32⟩
  | 49 => ⟨S512x512, .i32⟩
  | 50 => ⟨S512x512, .f32⟩
  | 51 => ⟨S512x512, .f32⟩
  | 52 => ⟨S512x512, .f32⟩
  | 53 => ⟨S512x512, .f32⟩
  | 54 => ⟨S512x512, .f32⟩
  | 55 => ⟨S512x1024, .f32⟩
  | 56 => ⟨S512x1024, .bf16⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S2047, .f32⟩
  | 65 => ⟨S_, .f32⟩
  | 66 => ⟨S2047, .f32⟩
  | 67 => ⟨S2047, .f32⟩
  | 68 => ⟨S1, .f32⟩
  | 69 => ⟨S_, .f32⟩
  | 70 => ⟨S2047, .f32⟩
  | 71 => ⟨S2047, .f32⟩
  | 72 => ⟨S2047, .f32⟩
  | 73 => ⟨S2047, .f32⟩
  | 74 => ⟨S1, .f32⟩
  | 75 => ⟨S2047, .f32⟩
  | 76 => ⟨S2047, .f32⟩
  | 77 => ⟨S2047, .f32⟩
  | 78 => ⟨S1, .f32⟩
  | 79 => ⟨S2048, .f32⟩
  | 80 => ⟨S2048x1, .f32⟩
  | 81 => ⟨S2048, .f32⟩
  | 82 => ⟨S_, .f32⟩
  | 83 => ⟨S2048, .f32⟩
  | 84 => ⟨S2048, .f32⟩
  | 85 => ⟨S_, .f32⟩
  | 86 => ⟨S2048, .f32⟩
  | 87 => ⟨S2048, .f32⟩
  | 88 => ⟨S_, .f32⟩
  | 89 => ⟨S_, .i32⟩
  | 90 => ⟨S_, .f32⟩
  | 91 => ⟨S_, .f32⟩
  | 92 => ⟨S_, .f32⟩
  | 93 => ⟨S_, .f32⟩
  | 94 => ⟨S_, .f32⟩
  | 95 => ⟨S15, .f32⟩
  | 96 => ⟨S_, .f32⟩
  | 97 => ⟨S15, .f32⟩
  | 98 => ⟨S15, .f32⟩
  | 99 => ⟨S1, .f32⟩
  | 100 => ⟨S_, .f32⟩
  | 101 => ⟨S15, .f32⟩
  | 102 => ⟨S15, .f32⟩
  | 103 => ⟨S15, .f32⟩
  | 104 => ⟨S15, .f32⟩
  | 105 => ⟨S1, .f32⟩
  | 106 => ⟨S15, .f32⟩
  | 107 => ⟨S15, .f32⟩
  | 108 => ⟨S15, .f32⟩
  | 109 => ⟨S1, .f32⟩
  | 110 => ⟨S16, .f32⟩
  | 111 => ⟨S2048x1, .f32⟩
  | 112 => ⟨S1x16, .f32⟩
  | 113 => ⟨S2048x16, .f32⟩
  | 114 => ⟨S2048x16, .f32⟩
  | 115 => ⟨S2048x16, .f32⟩
  | 116 => ⟨S2048x16, .f32⟩
  | 117 => ⟨S2048x16, .f32⟩
  | 118 => ⟨S2048x16, .f32⟩
  | 119 => ⟨S2048x33, .f32⟩
  | 120 => ⟨S_, .i32⟩
  | 121 => ⟨S_, .f32⟩
  | 122 => ⟨S2048x128, .f32⟩
  | 123 => ⟨S33x64, .f32⟩
  | 124 => ⟨S_, .i32⟩
  | 125 => ⟨S_, .f32⟩
  | 126 => ⟨S128x64, .f32⟩
  | 127 => ⟨S_, .f32⟩
  | _ => ⟨S16384x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S1023, .f32⟩
  | 7 => ⟨S_, .f32⟩
  | 8 => ⟨S1023, .f32⟩
  | 9 => ⟨S1023, .f32⟩
  | 10 => ⟨S1, .f32⟩
  | 11 => ⟨S_, .f32⟩
  | 12 => ⟨S1023, .f32⟩
  | 13 => ⟨S1023, .f32⟩
  | 14 => ⟨S1023, .f32⟩
  | 15 => ⟨S1023, .f32⟩
  | 16 => ⟨S1, .f32⟩
  | 17 => ⟨S1023, .f32⟩
  | 18 => ⟨S1023, .f32⟩
  | 19 => ⟨S1023, .f32⟩
  | 20 => ⟨S1, .f32⟩
  | 21 => ⟨S1024, .f32⟩
  | 22 => ⟨S1024, .f32⟩
  | 23 => ⟨S1x1024, .f32⟩
  | 24 => ⟨S64x64, .f32⟩
  | 25 => ⟨S64x64, .f32⟩
  | 26 => ⟨S64x2048, .f32⟩
  | 27 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S1x256, .f32⟩
  | .local _ .vmem, ⟨6, _⟩ => ⟨S512x1024, .bf16⟩
  | .local _ .vmem, ⟨7, _⟩ => ⟨S2048x128, .f32⟩
  | .local _ .vmem, ⟨8, _⟩ => ⟨S128x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S64x256, .f32⟩
  | .local _ .vmem, ⟨19, _⟩ => ⟨S1x256, .f32⟩
  | .local _ .vmem, ⟨20, _⟩ => ⟨S1x256, .f32⟩
  | .local _ .vmem, ⟨21, _⟩ => ⟨S2048x256, .bf16⟩
  | .local _ .vmem, ⟨22, _⟩ => ⟨S2048x256, .bf16⟩
  | .local _ .vmem, ⟨23, _⟩ => ⟨S8x512x256, .bf16⟩
  | .local _ .vmem, ⟨24, _⟩ => ⟨S4x1024x256, .bf16⟩
  | .local _ .vmem, ⟨25, _⟩ => ⟨S7x512x256, .bf16⟩
  | .local _ .vmem, ⟨26, _⟩ => ⟨S7x512x256, .bf16⟩
  | .local _ .vmem, ⟨27, _⟩ => ⟨S2048x64, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x2048, .bf16⟩
  | .local _ .vmem, ⟨32, _⟩ => ⟨S512x2048, .f32⟩
  | .local _ .vmem, ⟨33, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_cst_1 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_4 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_cst : Ref sig .tc := ⟨.hbm, 62, rfl⟩
abbrev main_call1_v3 : Ref sig .tc := ⟨.hbm, 63, rfl⟩
abbrev main_call1_v4 : Ref sig .tc := ⟨.hbm, 64, rfl⟩
abbrev main_call1_cst_0 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_v15 : Ref sig .tc := ⟨.hbm, 77, rfl⟩
abbrev main_call1_v16 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_cst_6 : Ref sig .tc := ⟨.hbm, 82, rfl⟩
abbrev main_v23 : Ref sig .tc := ⟨.hbm, 83, rfl⟩
abbrev main_v24 : Ref sig .tc := ⟨.hbm, 84, rfl⟩
abbrev main_cst_7 : Ref sig .tc := ⟨.hbm, 85, rfl⟩
abbrev main_v25 : Ref sig .tc := ⟨.hbm, 86, rfl⟩
abbrev main_v26 : Ref sig .tc := ⟨.hbm, 87, rfl⟩
abbrev main_cst_8 : Ref sig .tc := ⟨.hbm, 88, rfl⟩
abbrev main_c_9 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_cst : Ref sig .tc := ⟨.hbm, 93, rfl⟩
abbrev main_call2_v3 : Ref sig .tc := ⟨.hbm, 94, rfl⟩
abbrev main_call2_v4 : Ref sig .tc := ⟨.hbm, 95, rfl⟩
abbrev main_call2_cst_0 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_cst_1 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_v15 : Ref sig .tc := ⟨.hbm, 108, rfl⟩
abbrev main_call2_v16 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_c_10 : Ref sig .tc := ⟨.hbm, 120, rfl⟩
abbrev main_call3_v0 : Ref sig .tc := ⟨.hbm, 121, rfl⟩
abbrev main_v37 : Ref sig .tc := ⟨.hbm, 122, rfl⟩
abbrev main_v38 : Ref sig .tc := ⟨.hbm, 123, rfl⟩
abbrev main_c_11 : Ref sig .tc := ⟨.hbm, 124, rfl⟩
abbrev main_call4_v0 : Ref sig .tc := ⟨.hbm, 125, rfl⟩
abbrev main_v39 : Ref sig .tc := ⟨.hbm, 126, rfl⟩
abbrev main_cst_12 : Ref sig .tc := ⟨.hbm, 127, rfl⟩
abbrev main_cst_13 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_cst : Ref sig .tc := ⟨.hbm, 132, rfl⟩
abbrev main_call5_v3 : Ref sig .tc := ⟨.hbm, 133, rfl⟩
abbrev main_call5_v4 : Ref sig .tc := ⟨.hbm, 134, rfl⟩
abbrev main_call5_cst_0 : Ref sig .tc := ⟨.hbm, 135, rfl⟩
abbrev main_call5_v5 : Ref sig .tc := ⟨.hbm, 136, rfl⟩
abbrev main_call5_v6 : Ref sig .tc := ⟨.hbm, 137, rfl⟩
abbrev main_call5_v7 : Ref sig .tc := ⟨.hbm, 138, rfl⟩
abbrev main_call5_cst_1 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_v12 : Ref sig .tc := ⟨.hbm, 144, rfl⟩
abbrev main_call5_v13 : Ref sig .tc := ⟨.hbm, 145, rfl⟩
abbrev main_call5_v14 : Ref sig .tc := ⟨.hbm, 146, rfl⟩
abbrev main_call5_v15 : Ref sig .tc := ⟨.hbm, 147, rfl⟩
abbrev main_call5_v16 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_scratch10 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_317 : BitVec 32 := 0#32
  let v399 : BitVec 1 := Scalar.cmpi .eq arg0 c0_i32_317
  let v400 : BitVec 32 := Scalar.extui v399
  let c0_i32_318 : BitVec 32 := 0#32
  let v401 : BitVec 1 := Scalar.cmpi .ne v400 c0_i32_318
  v401

@[reducible] def k0_t1_loop : Scf.Loop 32 :=
  let c0_i32_511 : BitVec 32 := 0#32
  let c8_i32 : BitVec 32 := 8#32
  let v714 : BitVec 32 := Scalar.addi c0_i32_511 c8_i32
  let c1_i32 : BitVec 32 := 1#32
  ⟨c0_i32_511, v714, c1_i32⟩
def k0_mult1 (k0_t1 : Fin k0_t1_loop.trips) : BitVec 32 :=
  let c0_i32_511 : BitVec 32 := 0#32
  let c1_i32 : BitVec 32 := 1#32
  let arg29 : BitVec 32 := Scf.iv c0_i32_511 c1_i32 k0_t1
  let c256_i32 : BitVec 32 := 256#32
  let v743 : BitVec 32 := Scalar.muli arg29 c256_i32
  v743
def k0_off1 (k0_t1 : Fin k0_t1_loop.trips) : Fin 2 → Nat :=
  let c0_i32_511 : BitVec 32 := 0#32
  let c1_i32 : BitVec 32 := 1#32
  let arg29 : BitVec 32 := Scf.iv c0_i32_511 c1_i32 k0_t1
  let c256_i32 : BitVec 32 := 256#32
  let v743 : BitVec 32 := Scalar.muli arg29 c256_i32
  let v744 : BitVec 32 := v743
  let v745 : Index := Scalar.indexCast v744
  let c0_525 : Index := 0#32
  ![v745.toNat, 0]
def k0_off2 (k0_t1 : Fin k0_t1_loop.trips) : Fin 2 → Nat :=
  let c0_i32_511 : BitVec 32 := 0#32
  let c1_i32 : BitVec 32 := 1#32
  let arg29 : BitVec 32 := Scf.iv c0_i32_511 c1_i32 k0_t1
  let c256_i32 : BitVec 32 := 256#32
  let v743 : BitVec 32 := Scalar.muli arg29 c256_i32
  let v744 : BitVec 32 := v743
  let v811 : Index := Scalar.indexCast v744
  let c0_547 : Index := 0#32
  ![v811.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "half_step" => some ((Real.pi * 1024⁻¹ : ℝ) : EReal)
  | _ => none
-- ==== ReferenceIdeal.lean ====
abbrev S16384x1024 : Shape := ⟨2, ![16384, 1024]⟩
abbrev S1x1024 : Shape := ⟨2, ![1, 1024]⟩
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S2048x2048 : Shape := ⟨2, ![2048, 2048]⟩
abbrev S1023 : Shape := ⟨1, ![1023]⟩
abbrev S1024 : Shape := ⟨1, ![1024]⟩
abbrev S2048x1024 : Shape := ⟨2, ![2048, 1024]⟩
abbrev S2048x2x1024 : Shape := ⟨3, ![2048, 2, 1024]⟩
abbrev S2048x1x1024 : Shape := ⟨3, ![2048, 1, 1024]⟩
abbrev S8x2048x1024 : Shape := ⟨3, ![8, 2048, 1024]⟩
abbrev S2047x1024 : Shape := ⟨2, ![2047, 1024]⟩
abbrev S4095x1024 : Shape := ⟨2, ![4095, 1024]⟩
abbrev S1x2048 : Shape := ⟨2, ![1, 2048]⟩
abbrev S2048x2048x1 : Shape := ⟨3, ![2048, 2048, 1]⟩
abbrev S2048x2048x1024 : Shape := ⟨3, ![2048, 2048, 1024]⟩
abbrev S1024x8x2048 : Shape := ⟨3, ![1024, 8, 2048]⟩
abbrev S1x1x1024 : Shape := ⟨3, ![1, 1, 1024]⟩

abbrev nBuf : Space → Nat
  | .hbm => 177
  | .vmem => 0
  | .smem => 0
  | _ => 0

abbrev hbmTy0_0 (i : Nat) : BufTy := match i % 128 with
  | 0 => ⟨S16384x1024, .f32⟩
  | 1 => ⟨S16384x1024, .bf16⟩
  | 2 => ⟨S1x1024, .f32⟩
  | 3 => ⟨S1x33x64, .f32⟩
  | 4 => ⟨S1x64, .f32⟩
  | 5 => ⟨S1x64x64, .f32⟩
  | 6 => ⟨S1x64, .f32⟩
  | 7 => ⟨S1x64x64, .f32⟩
  | 8 => ⟨S1x64, .f32⟩
  | 9 => ⟨S1x64x2048, .f32⟩
  | 10 => ⟨S1x64, .f32⟩
  | 11 => ⟨S33x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x2048, .f32⟩
  | 18 => ⟨S64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S2047, .f32⟩
  | 27 => ⟨S_, .f32⟩
  | 28 => ⟨S2047, .f32⟩
  | 29 => ⟨S2047, .f32⟩
  | 30 => ⟨S1, .f32⟩
  | 31 => ⟨S_, .f32⟩
  | 32 => ⟨S2047, .f32⟩
  | 33 => ⟨S2047, .f32⟩
  | 34 => ⟨S2047, .f32⟩
  | 35 => ⟨S2047, .f32⟩
  | 36 => ⟨S1, .f32⟩
  | 37 => ⟨S2047, .f32⟩
  | 38 => ⟨S2047, .f32⟩
  | 39 => ⟨S2047, .f32⟩
  | 40 => ⟨S1, .f32⟩
  | 41 => ⟨S2048, .f32⟩
  | 42 => ⟨S2048x1, .f32⟩
  | 43 => ⟨S2048, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S_, .f32⟩
  | 51 => ⟨S_, .i32⟩
  | 52 => ⟨S_, .f32⟩
  | 53 => ⟨S_, .f32⟩
  | 54 => ⟨S_, .f32⟩
  | 55 => ⟨S_, .f32⟩
  | 56 => ⟨S_, .f32⟩
  | 57 => ⟨S15, .f32⟩
  | 58 => ⟨S_, .f32⟩
  | 59 => ⟨S15, .f32⟩
  | 60 => ⟨S15, .f32⟩
  | 61 => ⟨S1, .f32⟩
  | 62 => ⟨S_, .f32⟩
  | 63 => ⟨S15, .f32⟩
  | 64 => ⟨S15, .f32⟩
  | 65 => ⟨S15, .f32⟩
  | 66 => ⟨S15, .f32⟩
  | 67 => ⟨S1, .f32⟩
  | 68 => ⟨S15, .f32⟩
  | 69 => ⟨S15, .f32⟩
  | 70 => ⟨S15, .f32⟩
  | 71 => ⟨S1, .f32⟩
  | 72 => ⟨S16, .f32⟩
  | 73 => ⟨S2048x1, .f32⟩
  | 74 => ⟨S1x16, .f32⟩
  | 75 => ⟨S2048x16, .f32⟩
  | 76 => ⟨S2048x16, .f32⟩
  | 77 => ⟨S2048x16, .f32⟩
  | 78 => ⟨S2048x16, .f32⟩
  | 79 => ⟨S2048x16, .f32⟩
  | 80 => ⟨S2048x16, .f32⟩
  | 81 => ⟨S2048x33, .f32⟩
  | 82 => ⟨S2048x64, .f32⟩
  | 83 => ⟨S1x64, .f32⟩
  | 84 => ⟨S2048x64, .f32⟩
  | 85 => ⟨S2048x64, .f32⟩
  | 86 => ⟨S1x64, .f32⟩
  | 87 => ⟨S2048x64, .f32⟩
  | 88 => ⟨S2048x64, .f32⟩
  | 89 => ⟨S2048x64, .f32⟩
  | 90 => ⟨S2048x64, .f32⟩
  | 91 => ⟨S1x64, .f32⟩
  | 92 => ⟨S2048x64, .f32⟩
  | 93 => ⟨S2048x64, .f32⟩
  | 94 => ⟨S1x64, .f32⟩
  | 95 => ⟨S2048x64, .f32⟩
  | 96 => ⟨S2048x64, .f32⟩
  | 97 => ⟨S2048x64, .f32⟩
  | 98 => ⟨S2048x64, .f32⟩
  | 99 => ⟨S1x64, .f32⟩
  | 100 => ⟨S2048x64, .f32⟩
  | 101 => ⟨S2048x64, .f32⟩
  | 102 => ⟨S1x64, .f32⟩
  | 103 => ⟨S2048x64, .f32⟩
  | 104 => ⟨S2048x64, .f32⟩
  | 105 => ⟨S2048x64, .f32⟩
  | 106 => ⟨S2048x2048, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S1023, .f32⟩
  | 115 => ⟨S_, .f32⟩
  | 116 => ⟨S1023, .f32⟩
  | 117 => ⟨S1023, .f32⟩
  | 118 => ⟨S1, .f32⟩
  | 119 => ⟨S_, .f32⟩
  | 120 => ⟨S1023, .f32⟩
  | 121 => ⟨S1023, .f32⟩
  | 122 => ⟨S1023, .f32⟩
  | 123 => ⟨S1023, .f32⟩
  | 124 => ⟨S1, .f32⟩
  | 125 => ⟨S1023, .f32⟩
  | 126 => ⟨S1023, .f32⟩
  | 127 => ⟨S1023, .f32⟩
  | _ => ⟨S16384x1024, .f32⟩

abbrev hbmTy0_1 (i : Nat) : BufTy := match i % 128 with
  | 0 => ⟨S1, .f32⟩
  | 1 => ⟨S1024, .f32⟩
  | 2 => ⟨S1024, .f32⟩
  | 3 => ⟨S2048x1, .f32⟩
  | 4 => ⟨S1x1024, .f32⟩
  | 5 => ⟨S2048x1024, .f32⟩
  | 6 => ⟨S2048x1024, .f32⟩
  | 7 => ⟨S2048x1024, .f32⟩
  | 8 => ⟨S2048x1024, .f32⟩
  | 9 => ⟨S2048x2x1024, .f32⟩
  | 10 => ⟨S2048x1x1024, .f32⟩
  | 11 => ⟨S2048x2x1024, .f32⟩
  | 12 => ⟨S2048x2x1024, .f32⟩
  | 13 => ⟨S2048x1x1024, .f32⟩
  | 14 => ⟨S2048x1024, .f32⟩
  | 15 => ⟨S2048x1x1024, .f32⟩
  | 16 => ⟨S2048x1024, .f32⟩
  | 17 => ⟨S8x2048x1024, .f32⟩
  | 18 => ⟨S1024, .f32⟩
  | 19 => ⟨S2047x1024, .f32⟩
  | 20 => ⟨S2047x1024, .f32⟩
  | 21 => ⟨S1x1024, .f32⟩
  | 22 => ⟨S1x1024, .f32⟩
  | 23 => ⟨S1x1024, .f32⟩
  | 24 => ⟨S2047x1024, .f32⟩
  | 25 => ⟨S4095x1024, .f32⟩
  | 26 => ⟨S2048, .i32⟩
  | 27 => ⟨S2048x1, .i32⟩
  | 28 => ⟨S2048, .i32⟩
  | 29 => ⟨S1x2048, .i32⟩
  | 30 => ⟨S2048x2048, .i32⟩
  | 31 => ⟨S2048x2048, .i32⟩
  | 32 => ⟨S2048x2048, .i32⟩
  | 33 => ⟨S_, .i32⟩
  | 34 => ⟨S2048x2048, .i32⟩
  | 35 => ⟨S2048x2048, .i32⟩
  | 36 => ⟨S2048x2048x1, .i32⟩
  | 37 => ⟨S2048x2048x1024, .f32⟩
  | 38 => ⟨S1024x8x2048, .f32⟩
  | 39 => ⟨S8x2048x1024, .f32⟩
  | 40 => ⟨S1x1x1024, .f32⟩
  | 41 => ⟨S8x2048x1024, .f32⟩
  | 42 => ⟨S8x2048x1024, .f32⟩
  | 43 => ⟨S8x2048x1024, .f32⟩
  | 44 => ⟨S16384x1024, .f32⟩
  | 45 => ⟨S8x2048x1024, .f32⟩
  | 46 => ⟨S8x2048x1024, .f32⟩
  | 47 => ⟨S16384x1024, .f32⟩
  | 48 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_cst : Ref sig .tc := ⟨.hbm, 24, rfl⟩
abbrev main_call0_v3 : Ref sig .tc := ⟨.hbm, 25, rfl⟩
abbrev main_call0_v4 : Ref sig .tc := ⟨.hbm, 26, rfl⟩
abbrev main_call0_cst_0 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_c : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_cst : Ref sig .tc := ⟨.hbm, 55, rfl⟩
abbrev main_call1_v3 : Ref sig .tc := ⟨.hbm, 56, rfl⟩
abbrev main_call1_v4 : Ref sig .tc := ⟨.hbm, 57, rfl⟩
abbrev main_call1_cst_0 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_v15 : Ref sig .tc := ⟨.hbm, 70, rfl⟩
abbrev main_call1_v16 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_4 : Ref sig .tc := ⟨.hbm, 107, rfl⟩
abbrev main_cst_5 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_cst : Ref sig .tc := ⟨.hbm, 112, rfl⟩
abbrev main_call2_v3 : Ref sig .tc := ⟨.hbm, 113, rfl⟩
abbrev main_call2_v4 : Ref sig .tc := ⟨.hbm, 114, rfl⟩
abbrev main_call2_cst_0 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_cst_1 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_v15 : Ref sig .tc := ⟨.hbm, 127, rfl⟩
abbrev main_call2_v16 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_c_6 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩

abbrev nD : Nat := 1
abbrev τ : Topo := Topo.v7x

variable {F : FTy → Type} [FloatOps F]
-- ==== Merge.lean ====
abbrev S16384x1024 : Shape := ⟨2, ![16384, 1024]⟩
abbrev S16384x2048 : Shape := ⟨2, ![16384, 2048]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S16384x1024 : Shape := ⟨2, ![16384, 1024]⟩
abbrev S16384x2048 : Shape := ⟨2, ![16384, 2048]⟩
abbrev S1x1024x1024 : Shape := ⟨3, ![1, 1024, 1024]⟩
abbrev S1024 : Shape := ⟨1, ![1024]⟩
abbrev S16384x2x1024 : Shape := ⟨3, ![16384, 2, 1024]⟩
abbrev S_ : Shape := ⟨0, ![]⟩
abbrev S1024x1024 : Shape := ⟨2, ![1024, 1024]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1024, .f32⟩
  | .hbm, ⟨8, _⟩ => ⟨S16384x2048, .f32⟩
  | .hbm, ⟨9, _⟩ => ⟨S16384x2x1024, .f32⟩
  | .hbm, ⟨10, _⟩ => ⟨S16384x2x1024, .f32⟩
  | .hbm, ⟨11, _⟩ => ⟨S16384x2x1024, .f32⟩
  | .hbm, ⟨12, _⟩ => ⟨S_, .f32⟩
  | .hbm, ⟨13, _⟩ => ⟨S16384x2x1024, .f32⟩
  | .hbm, ⟨14, _⟩ => ⟨S16384x2x1024, .f32⟩
  | .hbm, ⟨15, _⟩ => ⟨S_, .f32⟩
  | .hbm, ⟨16, _⟩ => ⟨S16384x2x1024, .f32⟩
  | .hbm, ⟨17, _⟩ => ⟨S16384x2x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S16384x1024, .f32⟩
  | .hbm, ⟨24, _⟩ => ⟨S16384x1x1024, .f32⟩
  | .hbm, ⟨25, _⟩ => ⟨S16384x1024, .f32⟩
  | .hbm, ⟨26, _⟩ => ⟨S16384x1024, .f32⟩
  | .hbm, ⟨27, _⟩ => ⟨S16384x1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1024x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Inproj.lean ====
abbrev S16384x1024 : Shape := ⟨2, ![16384, 1024]⟩
abbrev S1x1024 : Shape := ⟨2, ![1, 1024]⟩
abbrev S1x1024x8192 : Shape := ⟨3, ![1, 1024, 8192]⟩
abbrev S1x8192 : Shape := ⟨2, ![1, 8192]⟩
abbrev S1x3x3072 : Shape := ⟨3, ![1, 3, 3072]⟩
abbrev S1x3072 : Shape := ⟨2, ![1, 3072]⟩
abbrev S1x4x256x256 : Shape := ⟨4, ![1, 4, 256, 256]⟩
abbrev S1024x8192 : Shape := ⟨2, ![1024, 8192]⟩
abbrev S3x3072 : Shape := ⟨2, ![3, 3072]⟩
abbrev S4x256x256 : Shape := ⟨3, ![4, 256, 256]⟩
abbrev S16384x2048 : Shape := ⟨2, ![16384, 2048]⟩
abbrev S16x1024 : Shape := ⟨2, ![16, 1024]⟩
abbrev S1024x1024 : Shape := ⟨2, ![1024, 1024]⟩
abbrev S1024x2048 : Shape := ⟨2, ![1024, 2048]⟩
abbrev S1056x1024 : Shape := ⟨2, ![1056, 1024]⟩
abbrev S1056 : Shape := ⟨1, ![1056]⟩
abbrev S1056x1 : Shape := ⟨2, ![1056, 1]⟩
abbrev S1024x256 : Shape := ⟨2, ![1024, 256]⟩
abbrev S1056x256 : Shape := ⟨2, ![1056, 256]⟩
abbrev S1x256 : Shape := ⟨2, ![1, 256]⟩
abbrev S16x256 : Shape := ⟨2, ![16, 256]⟩
abbrev S3x256 : Shape := ⟨2, ![3, 256]⟩
abbrev S8x256 : Shape := ⟨2, ![8, 256]⟩
abbrev S1008x256 : Shape := ⟨2, ![1008, 256]⟩
abbrev S1x256x256 : Shape := ⟨3, ![1, 256, 256]⟩
abbrev S256x256 : Shape := ⟨2, ![256, 256]⟩

abbrev nBuf : Space → Nat
  | .hbm => 18
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x8192, .f32⟩
  | .hbm, ⟨3, _⟩ => ⟨S1x8192, .f32⟩
  | .hbm, ⟨4, _⟩ => ⟨S1x3x3072, .f32⟩
  | .hbm, ⟨5, _⟩ => ⟨S1x3072, .f32⟩
  | .hbm, ⟨6, _⟩ => ⟨S1x4x256x256, .f32⟩
  | .hbm, ⟨7, _⟩ => ⟨S1x1024, .f32⟩
  | .hbm, ⟨8, _⟩ => ⟨S1x1024, .f32⟩
  | .hbm, ⟨9, _⟩ => ⟨S1024x8192, .f32⟩
  | .hbm, ⟨10, _⟩ => ⟨S1024x8192, .bf16⟩
  | .hbm, ⟨11, _⟩ => ⟨S3x3072, .f32⟩
  | .hbm, ⟨12, _⟩ => ⟨S4x256x256, .f32⟩
  | .hbm, ⟨13, _⟩ => ⟨S4x256x256, .bf16⟩
  | .hbm, ⟨14, _⟩ => ⟨S16384x1024, .f32⟩
  | .hbm, ⟨15, _⟩ => ⟨S16384x1024, .bf16⟩
  | .hbm, ⟨16, _⟩ => ⟨S16384x1024, .bf16⟩
  | .hbm, ⟨17, _⟩ => ⟨S16384x2048, .bf16⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x8192, .bf16⟩
  | .local _ .vmem, ⟨8, _⟩ => ⟨S1x8192, .f32⟩
  | .local _ .vmem, ⟨9, _⟩ => ⟨S3x3072, .f32⟩
  | .local _ .vmem, ⟨10, _⟩ => ⟨S1x3072, .f32⟩
  | .local _ .vmem, ⟨11, _⟩ => ⟨S4x256x256, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x2048, .bf16⟩
  | .local _ .vmem, ⟨21, _⟩ => ⟨S1024x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InprojReferenceIdeal.lean ====
abbrev S16384x1024 : Shape := ⟨2, ![16384, 1024]⟩
abbrev S1x1024 : Shape := ⟨2, ![1, 1024]⟩
abbrev S1x1024x8192 : Shape := ⟨3, ![1, 1024, 8192]⟩
abbrev S1x8192 : Shape := ⟨2, ![1, 8192]⟩
abbrev S1x3x3072 : Shape := ⟨3, ![1, 3, 3072]⟩
abbrev S1x3072 : Shape := ⟨2, ![1, 3072]⟩
abbrev S1x4x256x256 : Shape := ⟨4, ![1, 4, 256, 256]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x8192 : Shape := ⟨2, ![1024, 8192]⟩
abbrev S16384x8192 : Shape := ⟨2, ![16384, 8192]⟩
abbrev S8192 : Shape := ⟨1, ![8192]⟩
abbrev S8x2048x8192 : Shape := ⟨3, ![8, 2048, 8192]⟩
abbrev S8x2048x3072 : Shape := ⟨3, ![8, 2048, 3072]⟩
abbrev S3x3072 : Shape := ⟨2, ![3, 3072]⟩
abbrev S3072 : Shape := ⟨1, ![3072]⟩
abbrev S8x2050x3072 : Shape := ⟨3, ![8, 2050, 3072]⟩
abbrev S1x1x3072 : Shape := ⟨3, ![1, 1, 3072]⟩
abbrev S8x2048x1024 : Shape := ⟨3, ![8, 2048, 1024]⟩
abbrev S4x256x256 : Shape := ⟨3, ![4, 256, 256]⟩
abbrev S2048 : Shape := ⟨1, ![2048]⟩
abbrev S8x2048x256 : Shape := ⟨3, ![8, 2048, 256]⟩
abbrev S2048x1 : Shape := ⟨2, ![2048, 1]⟩
abbrev S1x2048 : Shape := ⟨2, ![1, 2048]⟩
abbrev S2048x2048 : Shape := ⟨2, ![2048, 2048]⟩
abbrev S8x256x2048 : Shape := ⟨3, ![8, 256, 2048]⟩
abbrev S1x2048x1 : Shape := ⟨3, ![1, 2048, 1]⟩
abbrev S8x2048x4x256 : Shape := ⟨4, ![8, 2048, 4, 256]⟩
abbrev S4x256x8x2048 : Shape := ⟨4, ![4, 256, 8, 2048]⟩
abbrev S1x1x1024 : Shape := ⟨3, ![1, 1, 1024]⟩
abbrev S8x2048x2048 : Shape := ⟨3, ![8, 2048, 2048]⟩
abbrev S16384x2048 : Shape := ⟨2, ![16384, 2048]⟩

abbrev nBuf : Space → Nat
  | .hbm => 284
  | .vmem => 0
  | .smem => 0
  | _ => 0

abbrev hbmTy0_0 (i : Nat) : BufTy := match i % 128 with
  | 0 => ⟨S16384x1024, .f32⟩
  | 1 => ⟨S1x1024, .f32⟩
  | 2 => ⟨S1x1024x8192, .f32⟩
  | 3 => ⟨S1x8192, .f32⟩
  | 4 => ⟨S1x3x3072, .f32⟩
  | 5 => ⟨S1x3072, .f32⟩
  | 6 => ⟨S1x4x256x256, .f32⟩
  | 7 => ⟨S1x1024, .f32⟩
  | 8 => ⟨S1x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S1024x8192, .f32⟩
  | 27 => ⟨S16384x8192, .f32⟩
  | 28 => ⟨S8192, .f32⟩
  | 29 => ⟨S1x8192, .f32⟩
  | 30 => ⟨S16384x8192, .f32⟩
  | 31 => ⟨S16384x8192, .f32⟩
  | 32 => ⟨S8x2048x8192, .f32⟩
  | 33 => ⟨S8x2048x3072, .f32⟩
  | 34 => ⟨S3x3072, .f32⟩
  | 35 => ⟨S3072, .f32⟩
  | 36 => ⟨S_, .i32⟩
  | 37 => ⟨S_, .f32⟩
  | 38 => ⟨S8x2050x3072, .f32⟩
  | 39 => ⟨S8x2048x3072, .f32⟩
  | 40 => ⟨S1x3072, .f32⟩
  | 41 => ⟨S3072, .f32⟩
  | 42 => ⟨S1x1x3072, .f32⟩
  | 43 => ⟨S8x2048x3072, .f32⟩
  | 44 => ⟨S8x2048x3072, .f32⟩
  | 45 => ⟨S8x2048x3072, .f32⟩
  | 46 => ⟨S1x3072, .f32⟩
  | 47 => ⟨S3072, .f32⟩
  | 48 => ⟨S1x1x3072, .f32⟩
  | 49 => ⟨S8x2048x3072, .f32⟩
  | 50 => ⟨S8x2048x3072, .f32⟩
  | 51 => ⟨S8x2048x3072, .f32⟩
  | 52 => ⟨S8x2048x3072, .f32⟩
  | 53 => ⟨S1x3072, .f32⟩
  | 54 => ⟨S3072, .f32⟩
  | 55 => ⟨S1x1x3072, .f32⟩
  | 56 => ⟨S8x2048x3072, .f32⟩
  | 57 => ⟨S8x2048x3072, .f32⟩
  | 58 => ⟨S8x2048x3072, .f32⟩
  | 59 => ⟨S1x1x3072, .f32⟩
  | 60 => ⟨S8x2048x3072, .f32⟩
  | 61 => ⟨S8x2048x3072, .f32⟩
  | 62 => ⟨S8x2048x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S8x2048x1024, .f32⟩
  | 69 => ⟨S_, .f32⟩
  | 70 => ⟨S8x2048x1024, .f32⟩
  | 71 => ⟨S8x2048x1024, .f32⟩
  | 72 => ⟨S_, .f32⟩
  | 73 => ⟨S8x2048x1024, .f32⟩
  | 74 => ⟨S8x2048x1024, .f32⟩
  | 75 => ⟨S8x2048x1024, .f32⟩
  | 76 => ⟨S8x2048x1024, .f32⟩
  | 77 => ⟨S8x2048x1024, .f32⟩
  | 78 => ⟨S4x256x256, .f32⟩
  | 79 => ⟨S1024, .f32⟩
  | 80 => ⟨S1024, .f32⟩
  | 81 => ⟨S2048, .i32⟩
  | 82 => ⟨S8x2048x256, .f32⟩
  | 83 => ⟨S_, .i32⟩
  | 84 => ⟨S2048, .i32⟩
  | 85 => ⟨S2048, .i32⟩
  | 86 => ⟨S_, .i32⟩
  | 87 => ⟨S_, .i32⟩
  | 88 => ⟨S_, .i32⟩
  | 89 => ⟨S2048, .i32⟩
  | 90 => ⟨S2048, .i32⟩
  | 91 => ⟨S_, .i32⟩
  | 92 => ⟨S2048, .i32⟩
  | 93 => ⟨S2048, .i32⟩
  | 94 => ⟨S_, .i32⟩
  | 95 => ⟨S2048, .i32⟩
  | 96 => ⟨S2048, .i32⟩
  | 97 => ⟨S_, .i32⟩
  | 98 => ⟨S_, .i32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S2048x1, .i32⟩
  | 106 => ⟨S1x2048, .i32⟩
  | 107 => ⟨S2048x2048, .i32⟩
  | 108 => ⟨S2048x2048, .i32⟩
  | 109 => ⟨S2048x2048, .i1⟩
  | 110 => ⟨S1x2048, .i32⟩
  | 111 => ⟨S2048x1, .i32⟩
  | 112 => ⟨S2048x2048, .i32⟩
  | 113 => ⟨S2048x2048, .i32⟩
  | 114 => ⟨S2048x2048, .i1⟩
  | 115 => ⟨S2048x2048, .i1⟩
  | 116 => ⟨S2048x2048, .f32⟩
  | 117 => ⟨S8x256x2048, .f32⟩
  | 118 => ⟨S8x2048x256, .f32⟩
  | 119 => ⟨S2048, .i32⟩
  | 120 => ⟨S2048, .f32⟩
  | 121 => ⟨S1x2048x1, .f32⟩
  | 122 => ⟨S8x2048x256, .f32⟩
  | 123 => ⟨S8x2048x256, .f32⟩
  | 124 => ⟨S8x2048x256, .f32⟩
  | 125 => ⟨S8x2048x256, .f32⟩
  | 126 => ⟨S_, .i32⟩
  | 127 => ⟨S2048, .i32⟩
  | _ => ⟨S16384x1024, .f32⟩

abbrev hbmTy0_1 (i : Nat) : BufTy := match i % 128 with
  | 0 => ⟨S2048, .i32⟩
  | 1 => ⟨S_, .i32⟩
  | 2 => ⟨S_, .i32⟩
  | 3 => ⟨S_, .i32⟩
  | 4 => ⟨S2048, .i32⟩
  | 5 => ⟨S2048, .i32⟩
  | 6 => ⟨S_, .i32⟩
  | 7 => ⟨S2048, .i32⟩
  | 8 => ⟨S2048, .i32⟩
  | 9 => ⟨S_, .i32⟩
  | 10 => ⟨S2048, .i32⟩
  | 11 => ⟨S2048, .i32⟩
  | 12 => ⟨S_, .i32⟩
  | 13 => ⟨S_, .i32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S2048x1, .i32⟩
  | 21 => ⟨S1x2048, .i32⟩
  | 22 => ⟨S2048x2048, .i32⟩
  | 23 => ⟨S2048x2048, .i32⟩
  | 24 => ⟨S2048x2048, .i1⟩
  | 25 => ⟨S1x2048, .i32⟩
  | 26 => ⟨S2048x1, .i32⟩
  | 27 => ⟨S2048x2048, .i32⟩
  | 28 => ⟨S2048x2048, .i32⟩
  | 29 => ⟨S2048x2048, .i1⟩
  | 30 => ⟨S2048x2048, .i1⟩
  | 31 => ⟨S2048x2048, .f32⟩
  | 32 => ⟨S8x256x2048, .f32⟩
  | 33 => ⟨S8x2048x256, .f32⟩
  | 34 => ⟨S2048, .i32⟩
  | 35 => ⟨S2048, .f32⟩
  | 36 => ⟨S1x2048x1, .f32⟩
  | 37 => ⟨S8x2048x256, .f32⟩
  | 38 => ⟨S8x2048x256, .f32⟩
  | 39 => ⟨S8x2048x256, .f32⟩
  | 40 => ⟨S8x2048x256, .f32⟩
  | 41 => ⟨S_, .i32⟩
  | 42 => ⟨S2048, .i32⟩
  | 43 => ⟨S2048, .i32⟩
  | 44 => ⟨S_, .i32⟩
  | 45 => ⟨S_, .i32⟩
  | 46 => ⟨S_, .i32⟩
  | 47 => ⟨S2048, .i32⟩
  | 48 => ⟨S2048, .i32⟩
  | 49 => ⟨S_, .i32⟩
  | 50 => ⟨S2048, .i32⟩
  | 51 => ⟨S2048, .i32⟩
  | 52 => ⟨S_, .i32⟩
  | 53 => ⟨S2048, .i32⟩
  | 54 => ⟨S2048, .i32⟩
  | 55 => ⟨S_, .i32⟩
  | 56 => ⟨S_, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S2048x1, .i32⟩
  | 64 => ⟨S1x2048, .i32⟩
  | 65 => ⟨S2048x2048, .i32⟩
  | 66 => ⟨S2048x2048, .i32⟩
  | 67 => ⟨S2048x2048, .i1⟩
  | 68 => ⟨S1x2048, .i32⟩
  | 69 => ⟨S2048x1, .i32⟩
  | 70 => ⟨S2048x2048, .i32⟩
  | 71 => ⟨S2048x2048, .i32⟩
  | 72 => ⟨S2048x2048, .i1⟩
  | 73 => ⟨S2048x2048, .i1⟩
  | 74 => ⟨S2048x2048, .f32⟩
  | 75 => ⟨S8x256x2048, .f32⟩
  | 76 => ⟨S8x2048x256, .f32⟩
  | 77 => ⟨S2048, .i32⟩
  | 78 => ⟨S2048, .f32⟩
  | 79 => ⟨S1x2048x1, .f32⟩
  | 80 => ⟨S8x2048x256, .f32⟩
  | 81 => ⟨S8x2048x256, .f32⟩
  | 82 => ⟨S8x2048x256, .f32⟩
  | 83 => ⟨S8x2048x256, .f32⟩
  | 84 => ⟨S_, .i32⟩
  | 85 => ⟨S2048, .i32⟩
  | 86 => ⟨S2048, .i32⟩
  | 87 => ⟨S_, .i32⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i32⟩
  | 98 => ⟨S_, .i32⟩
  | 99 => ⟨S_, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048x1, .i32⟩
  | 107 => ⟨S1x2048, .i32⟩
  | 108 => ⟨S2048x2048, .i32⟩
  | 109 => ⟨S2048x2048, .i32⟩
  | 110 => ⟨S2048x2048, .i1⟩
  | 111 => ⟨S1x2048, .i32⟩
  | 112 => ⟨S2048x1, .i32⟩
  | 113 => ⟨S2048x2048, .i32⟩
  | 114 => ⟨S2048x2048, .i32⟩
  | 115 => ⟨S2048x2048, .i1⟩
  | 116 => ⟨S2048x2048, .i1⟩
  | 117 => ⟨S2048x2048, .f32⟩
  | 118 => ⟨S8x256x2048, .f32⟩
  | 119 => ⟨S8x2048x256, .f32⟩
  | 120 => ⟨S2048, .i32⟩
  | 121 => ⟨S2048, .f32⟩
  | 122 => ⟨S1x2048x1, .f32⟩
  | 123 => ⟨S8x2048x256, .f32⟩
  | 124 => ⟨S8x2048x256, .f32⟩
  | 125 => ⟨S8x2048x256, .f32⟩
  | 126 => ⟨S8x2048x1024, .f32⟩
  | 127 => ⟨S8x2048x4x256, .f32⟩
  | _ => ⟨S16384x1024, .f32⟩

abbrev hbmTy0_2 (i : Nat) : BufTy := match i % 128 with
  | 0 => ⟨S4x256x8x2048, .f32⟩
  | 1 => ⟨S8x2048x4x256, .f32⟩
  | 2 => ⟨S8x2048x1024, .f32⟩
  | 3 => ⟨S1x1x1024, .f32⟩
  | 4 => ⟨S8x2048x1024, .f32⟩
  | 5 => ⟨S8x2048x1024, .f32⟩
  | 6 => ⟨S1x1x1024, .f32⟩
  | 7 => ⟨S8x2048x1024, .f32⟩
  | 8 => ⟨S8x2048x1024, .f32⟩
  | 9 => ⟨S8x2048x1024, .f32⟩
  | 10 => ⟨S8x2048x1024, .f32⟩
  | 11 => ⟨S8x2048x1024, .f32⟩
  | 12 => ⟨S_, .f32⟩
  | 13 => ⟨S8x2048x1024, .f32⟩
  | 14 => ⟨S8x2048x1024, .f32⟩
  | 15 => ⟨S_, .f32⟩
  | 16 => ⟨S8x2048x1024, .f32⟩
  | 17 => ⟨S8x2048x1024, .f32⟩
  | 18 => ⟨S8x2048x1024, .f32⟩
  | 19 => ⟨S8x2048x1024, .f32⟩
  | 20 => ⟨S16384x1024, .f32⟩
  | 21 => ⟨S16384x1024, .f32⟩
  | 22 => ⟨S16384x1024, .bf16⟩
  | 23 => ⟨S16384x1024, .f32⟩
  | 24 => ⟨S16384x1024, .bf16⟩
  | 25 => ⟨S8x2048x2048, .f32⟩
  | 26 => ⟨S16384x2048, .f32⟩
  | 27 => ⟨S16384x2048, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_2 : Ref sig .tc := ⟨.hbm, 83, rfl⟩
abbrev main_v61 : Ref sig .tc := ⟨.hbm, 84, rfl⟩
abbrev main_v62 : Ref sig .tc := ⟨.hbm, 85, rfl⟩
abbrev main_c_3 : Ref sig .tc := ⟨.hbm, 86, rfl⟩
abbrev main_c_4 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v63 : Ref sig .tc := ⟨.hbm, 93, rfl⟩
abbrev main_c_5 : Ref sig .tc := ⟨.hbm, 94, rfl⟩
abbrev main_v64 : Ref sig .tc := ⟨.hbm, 95, rfl⟩
abbrev main_v65 : Ref sig .tc := ⟨.hbm, 96, rfl⟩
abbrev main_c_6 : Ref sig .tc := ⟨.hbm, 97, rfl⟩
abbrev main_c_7 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_8 : Ref sig .tc := ⟨.hbm, 126, rfl⟩
abbrev main_v88 : Ref sig .tc := ⟨.hbm, 127, rfl⟩
abbrev main_v89 : Ref sig .tc := ⟨.hbm, 128, rfl⟩
abbrev main_c_9 : Ref sig .tc := ⟨.hbm, 129, rfl⟩
abbrev main_c_10 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_v90 : Ref sig .tc := ⟨.hbm, 136, rfl⟩
abbrev main_c_11 : Ref sig .tc := ⟨.hbm, 137, rfl⟩
abbrev main_v91 : Ref sig .tc := ⟨.hbm, 138, rfl⟩
abbrev main_v92 : Ref sig .tc := ⟨.hbm, 139, rfl⟩
abbrev main_c_12 : Ref sig .tc := ⟨.hbm, 140, rfl⟩
abbrev main_c_13 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_c_14 : Ref sig .tc := ⟨.hbm, 169, rfl⟩
abbrev main_v115 : Ref sig .tc := ⟨.hbm, 170, rfl⟩
abbrev main_v116 : Ref sig .tc := ⟨.hbm, 171, rfl⟩
abbrev main_c_15 : Ref sig .tc := ⟨.hbm, 172, rfl⟩
abbrev main_c_16 : Ref sig .tc := ⟨.hbm, 173, rfl⟩
abbrev main_call6_v0 : Ref sig .tc := ⟨.hbm, 174, rfl⟩
abbrev main_call6_v1 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_v117 : Ref sig .tc := ⟨.hbm, 179, rfl⟩
abbrev main_c_17 : Ref sig .tc := ⟨.hbm, 180, rfl⟩
abbrev main_v118 : Ref sig .tc := ⟨.hbm, 181, rfl⟩
abbrev main_v119 : Ref sig .tc := ⟨.hbm, 182, rfl⟩
abbrev main_c_18 : Ref sig .tc := ⟨.hbm, 183, rfl⟩
abbrev main_c_19 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_c_20 : Ref sig .tc := ⟨.hbm, 212, rfl⟩
abbrev main_v142 : Ref sig .tc := ⟨.hbm, 213, rfl⟩
abbrev main_v143 : Ref sig .tc := ⟨.hbm, 214, rfl⟩
abbrev main_c_21 : Ref sig .tc := ⟨.hbm, 215, rfl⟩
abbrev main_c_22 : Ref sig .tc := ⟨.hbm, 216, rfl⟩
abbrev main_call8_v0 : Ref sig .tc := ⟨.hbm, 217, rfl⟩
abbrev main_call8_v1 : Ref sig .tc := ⟨.hbm, 218, rfl⟩
abbrev main_call8_v2 : Ref sig .tc := ⟨.hbm, 219, rfl⟩
abbrev main_call8_v3 : Ref sig .tc := ⟨.hbm, 220, rfl⟩
abbrev main_call8_v4 : Ref sig .tc := ⟨.hbm, 221, rfl⟩
abbrev main_v144 : Ref sig .tc := ⟨.hbm, 222, rfl⟩
abbrev main_c_23 : Ref sig .tc := ⟨.hbm, 223, rfl⟩
abbrev main_v145 : Ref sig .tc := ⟨.hbm, 224, rfl⟩
abbrev main_v146 : Ref sig .tc := ⟨.hbm, 225, rfl⟩
abbrev main_c_24 : Ref sig .tc := ⟨.hbm, 226, rfl⟩
abbrev main_c_25 : Ref sig .tc := ⟨.hbm, 227, rfl⟩
abbrev main_call9_v0 : Ref sig .tc := ⟨.hbm, 228, rfl⟩
abbrev main_call9_v1 : Ref sig .tc := ⟨.hbm, 229, rfl⟩
abbrev main_call9_v2 : Ref sig .tc := ⟨.hbm, 230, rfl⟩
abbrev main_call9_v3 : Ref sig .tc := ⟨.hbm, 231, rfl⟩
abbrev main_call9_v4 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_call10_v0 : Ref sig .tc := ⟨.hbm, 266, rfl⟩
abbrev main_call10_v1 : Ref sig .tc := ⟨.hbm, 267, rfl⟩
abbrev main_call10_cst : Ref sig .tc := ⟨.hbm, 268, rfl⟩
abbrev main_call10_v2 : Ref sig .tc := ⟨.hbm, 269, rfl⟩
abbrev main_call10_v3 : Ref sig .tc := ⟨.hbm, 270, rfl⟩
abbrev main_call10_cst_0 : Ref sig .tc := ⟨.hbm, 271, rfl⟩
abbrev main_call10_v4 : Ref sig .tc := ⟨.hbm, 272, rfl⟩
abbrev main_call10_v5 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩

abbrev nD : Nat := 1
abbrev τ : Topo := Topo.v7x

variable {F : FTy → Type} [FloatOps F]
-- ==== Proof.Fourier.lean ====
/-
  The block convolution by shifted cosine and sine transforms, on real sequences.

  A sequence of 2048 samples is cut into 4 blocks of 512. The transform of a block is taken at the 512 frequencies
  `ω f = (2f+1)π/1024`, at the half-sample points (`tabC`, `tabS`). The filter's spectrum for a pair of blocks at block
  distance `δ` is the transform of the 1023 taps that such a pair meets (`specRe`, `specIm`). The product of the two
  spectra, transformed back and summed over the blocks, is the convolution sum (`block_conv`): the frequencies are
  orthogonal on the lags of absolute value less than 1024 (`sum_cos`).
-/
module

public import Mathlib.Analysis.SpecialFunctions.Trigonometric.Basic
public import Mathlib.Algebra.BigOperators.Fin
public import Mathlib.Algebra.BigOperators.Intervals
public import Mathlib.Tactic.Ring
public import Mathlib.Tactic.Linarith
public import Mathlib.Tactic.FieldSimp
public import Mathlib.Tactic.NormNum

@[expose] public section

noncomputable section

namespace Cert.Hyena

open Finset Real

/-- The `f`-th frequency of a block. -/
def freq (f : ℕ) : ℝ := (2 * f + 1) * π / 1024

/-- The cosine table at frequency `f` and the half-sample point of `n`. -/
def tabC (f n : ℕ) : ℝ := cos ((2 * f + 1) * (2 * n + 1) * π / 2048)

/-- The sine table at frequency `f` and the half-sample point of `n`. -/
def tabS (f n : ℕ) : ℝ := sin ((2 * f + 1) * (2 * n + 1) * π / 2048)

/-- Half a sample's phase at frequency `f`. -/
def phase (f : ℕ) : ℝ := (2 * f + 1) * π / 2048

/-- The sign a shift by one block brings at frequency `f`. -/
def sgn (f : ℕ) : ℝ := (-1) ^ f

theorem tabC_comm (f n : ℕ) : tabC f n = tabC n f := by unfold tabC; congr 1; ring
theorem tabS_comm (f n : ℕ) : tabS f n = tabS n f := by unfold tabS; congr 1; ring

theorem half_angle (f n : ℕ) : (2 * f + 1) * (2 * n + 1) * π / 2048 = freq f * n + phase f := by
  unfold freq phase; ring

/-- Telescoping: twice the sine of half the step times the sum of the cosines. -/
theorem sum_cos_mul (x : ℝ) (N : ℕ) :
    (∑ f ∈ range N, cos ((2 * f + 1) * x)) * (2 * sin x) = sin (2 * N * x) := by
  induction N with
  | zero => simp
  | succ N ih =>
    rw [sum_range_succ, add_mul, ih]
    have h1 : sin (2 * ((N + 1 : ℕ) : ℝ) * x) = sin ((2 * N + 1) * x + x) := by congr 1; push_cast; ring
    have h2 : sin (2 * (N : ℝ) * x) = sin ((2 * N + 1) * x - x) := by congr 1; ring
    rw [h1, h2, sin_add, sin_sub]; ring

/-- The 512 frequencies are orthogonal on the lags of absolute value less than 1024. -/
theorem sum_cos (t : ℤ) (h1 : -1024 < t) (h2 : t < 1024) :
    ∑ f ∈ range 512, cos (freq f * t) = if t = 0 then 512 else 0 := by
  split_ifs with h
  · subst h; simp
  · have hx : ∀ f : ℕ, cos (freq f * t) = cos ((2 * f + 1) * (t * π / 1024)) := fun f => by
      unfold freq; congr 1; ring
    simp only [hx]
    have hs := sum_cos_mul (t * π / 1024) 512
    have hz : sin (2 * ((512 : ℕ) : ℝ) * (t * π / 1024)) = 0 := by
      have : 2 * ((512 : ℕ) : ℝ) * (t * π / 1024) = t * π := by push_cast; ring
      rw [this]; exact sin_int_mul_pi t
    rw [hz] at hs
    have hne : sin (t * π / 1024) ≠ 0 := by
      intro h0
      rw [sin_eq_zero_iff] at h0
      obtain ⟨n, hn⟩ := h0
      have hp := pi_pos
      have : (n : ℝ) * 1024 = t := by
        have h3 : (n : ℝ) * π * 1024 = t * π := by rw [hn]; ring
        have : ((n : ℝ) * 1024 - t) * π = 0 := by linarith
        rcases mul_eq_zero.mp this with h4 | h4
        · linarith
        · exact absurd h4 hp.ne'
      have hi : n * 1024 = t := by exact_mod_cast this
      omega
    rcases mul_eq_zero.mp hs with h3 | h3
    · exact h3
    · exact absurd (by linarith : sin (t * π / 1024) = 0) hne

/-! ## A block's spectrum -/

theorem phase_re (f : ℕ) (k : ℕ → ℝ) :
    cos (phase f) / 512 * (∑ n ∈ range 512, tabC f n * k n) + sin (phase f) / 512 * (∑ n ∈ range 512, tabS f n * k n)
      = 1 / 512 * ∑ n ∈ range 512, k n * cos (freq f * n) := by
  rw [mul_sum, mul_sum, mul_sum, ← sum_add_distrib]
  refine sum_congr rfl fun n _ => ?_
  have : cos (freq f * n) = cos (freq f * n + phase f - phase f) := by congr 1; ring
  unfold tabC tabS
  rw [half_angle, this, cos_sub]; ring

theorem phase_im (f : ℕ) (k : ℕ → ℝ) :
    sin (phase f) / 512 * (∑ n ∈ range 512, tabC f n * k n) - cos (phase f) / 512 * (∑ n ∈ range 512, tabS f n * k n)
      = -(1 / 512 * ∑ n ∈ range 512, k n * sin (freq f * n)) := by
  rw [mul_sum, mul_sum, mul_sum, ← sum_sub_distrib, ← sum_neg_distrib]
  refine sum_congr rfl fun n _ => ?_
  have : sin (freq f * n) = sin (freq f * n + phase f - phase f) := by congr 1; ring
  unfold tabC tabS
  rw [half_angle, this, sin_sub]; ring

theorem freq_512 (f : ℕ) : freq f * 512 = f * π + π / 2 := by unfold freq; ring

theorem cos_shift (f : ℕ) (x : ℝ) : cos (freq f * (x - 512)) = sgn f * sin (freq f * x) := by
  have : freq f * (x - 512) = freq f * x - π / 2 - f * π := by rw [mul_sub, freq_512]; ring
  rw [this, cos_sub_nat_mul_pi, cos_sub_pi_div_two]; rfl

theorem sin_shift (f : ℕ) (x : ℝ) : sin (freq f * (x - 512)) = -(sgn f * cos (freq f * x)) := by
  have : freq f * (x - 512) = freq f * x - π / 2 - f * π := by rw [mul_sub, freq_512]; ring
  rw [this, sin_sub_nat_mul_pi, sin_sub_pi_div_two]; unfold sgn; ring

/-- The real part of the spectrum of the taps two blocks at distance `δ` meet. -/
def specRe (κ : ℤ → ℝ) (δ : ℤ) (f : ℕ) : ℝ := 1 / 512 * ∑ m ∈ Ioo (-512 : ℤ) 512, κ (512 * δ + m) * cos (freq f * m)

/-- The imaginary part of the spectrum of the taps two blocks at distance `δ` meet. -/
def specIm (κ : ℤ → ℝ) (δ : ℤ) (f : ℕ) : ℝ := -(1 / 512 * ∑ m ∈ Ioo (-512 : ℤ) 512, κ (512 * δ + m) * sin (freq f * m))

theorem sum_Ioo_shift (g : ℤ → ℝ) :
    ∑ m ∈ Ioo (-512 : ℤ) 512, g m = ∑ n ∈ range 512, g n + (∑ n ∈ range 512, g ((n : ℤ) - 512) - g (-512)) := by
  have h1 : (∑ n ∈ range 1024, g ((n : ℤ) - 512)) = ∑ n ∈ range 512, g ((n : ℤ) - 512) + ∑ n ∈ range 512, g n := by
    rw [show (1024 : ℕ) = 512 + 512 from rfl, sum_range_add]
    congr 1
  have h2 : (∑ n ∈ range 1024, g ((n : ℤ) - 512)) = g (-512) + ∑ m ∈ Ioo (-512 : ℤ) 512, g m := by
    have : ∑ n ∈ range 1024, g ((n : ℤ) - 512) = ∑ m ∈ Ico (-512 : ℤ) 512, g m := by
      refine sum_bij (fun n _ => (n : ℤ) - 512) ?_ ?_ ?_ ?_
      · intro n hn; rw [mem_range] at hn; rw [mem_Ico]; omega
      · intro a _ b _ h; omega
      · intro b hb; rw [mem_Ico] at hb
        exact ⟨(b + 512).toNat, by rw [mem_range]; omega, by omega⟩
      · intro n _; rfl
    rw [this, ← Ioo_insert_left (by norm_num : (-512 : ℤ) < 512), sum_insert (by simp)]
  linarith

theorem sum_Ioo_reflect (g : ℤ → ℝ) : ∑ m ∈ Ioo (-512 : ℤ) 512, g (-m) = ∑ m ∈ Ioo (-512 : ℤ) 512, g m := by
  refine sum_bij (fun m _ => -m) ?_ ?_ ?_ ?_
  · intro m hm; rw [mem_Ioo] at hm ⊢; omega
  · intro a _ b _ h; omega
  · intro b hb; rw [mem_Ioo] at hb; exact ⟨-b, by rw [mem_Ioo]; omega, by omega⟩
  · intro m _; rfl

/-- A later block's spectrum from its own samples and those of the block before it. -/
theorem shift_re (f : ℕ) (g : ℤ → ℝ) :
    1 / 512 * ∑ m ∈ Ioo (-512 : ℤ) 512, g m * cos (freq f * m)
      = 1 / 512 * (∑ n ∈ range 512, g n * cos (freq f * n))
        - sgn f * (-(1 / 512 * ∑ n ∈ range 512, g ((n : ℤ) - 512) * sin (freq f * n))) := by
  rw [sum_Ioo_shift (fun m => g m * cos (freq f * m))]
  have h0 : g (-512) * cos (freq f * ((-512 : ℤ) : ℝ)) = 0 := by
    have := cos_shift f 0
    simp only [mul_zero, sin_zero, zero_sub] at this
    push_cast
    rw [this, mul_zero]
  have h1 : ∑ n ∈ range 512, g ((n : ℤ) - 512) * cos (freq f * (((n : ℤ) - 512 : ℤ) : ℝ))
      = sgn f * ∑ n ∈ range 512, g ((n : ℤ) - 512) * sin (freq f * n) := by
    rw [mul_sum]
    refine sum_congr rfl fun n _ => ?_
    push_cast
    rw [cos_shift]; ring
  rw [h0, h1]
  push_cast
  ring

theorem shift_im (f : ℕ) (g : ℤ → ℝ) :
    -(1 / 512 * ∑ m ∈ Ioo (-512 : ℤ) 512, g m * sin (freq f * m))
      = -(1 / 512 * ∑ n ∈ range 512, g n * sin (freq f * n))
        + sgn f * (1 / 512 * (∑ n ∈ range 512, g ((n : ℤ) - 512) * cos (freq f * n)) - g (-512) * (1 / 512)) := by
  rw [sum_Ioo_shift (fun m => g m * sin (freq f * m))]
  have h0 : g (-512) * sin (freq f * ((-512 : ℤ) : ℝ)) = -(sgn f * g (-512)) := by
    have := sin_shift f 0
    simp only [mul_zero, cos_zero, zero_sub] at this
    push_cast
    rw [this]; ring
  have h1 : ∑ n ∈ range 512, g ((n : ℤ) - 512) * sin (freq f * (((n : ℤ) - 512 : ℤ) : ℝ))
      = -(sgn f * ∑ n ∈ range 512, g ((n : ℤ) - 512) * cos (freq f * n)) := by
    rw [mul_sum, ← sum_neg_distrib]
    refine sum_congr rfl fun n _ => ?_
    push_cast
    rw [sin_shift]; ring
  rw [h0, h1]
  push_cast
  ring

/-- The two-sided filter of a forward and a backward one: they share the lag zero. -/
def twoSided (kf kb : ℕ → ℝ) (l : ℤ) : ℝ :=
  if 0 < l then kf l.toNat else if l < 0 then kb (-l).toNat else kf 0 + kb 0

/-- The transform of the block of a one-sided filter from sample `512 j` on, cosine part. -/
def blkRe (k : ℕ → ℝ) (j f : ℕ) : ℝ := 1 / 512 * ∑ n ∈ range 512, k (512 * j + n) * cos (freq f * n)

/-- The transform of the block of a one-sided filter from sample `512 j` on, negated sine part. -/
def blkIm (k : ℕ → ℝ) (j f : ℕ) : ℝ := -(1 / 512 * ∑ n ∈ range 512, k (512 * j + n) * sin (freq f * n))

theorem twoSided_pos (kf kb : ℕ → ℝ) (n : ℕ) (h : 0 < n) : twoSided kf kb n = kf n := by
  unfold twoSided; rw [if_pos (by omega), Int.toNat_natCast]

theorem twoSided_neg (kf kb : ℕ → ℝ) (n : ℕ) (h : 0 < n) : twoSided kf kb (-(n : ℤ)) = kb n := by
  unfold twoSided; rw [if_neg (by omega), if_pos (by omega), neg_neg, Int.toNat_natCast]

theorem twoSided_zero (kf kb : ℕ → ℝ) : twoSided kf kb 0 = kf 0 + kb 0 := by simp [twoSided]

theorem twoSided_swap (kf kb : ℕ → ℝ) (l : ℤ) : twoSided kf kb (-l) = twoSided kb kf l := by
  rcases lt_trichotomy l 0 with h | h | h
  · obtain ⟨n, rfl⟩ : ∃ n : ℕ, l = -(n : ℤ) := ⟨(-l).toNat, by omega⟩
    rw [neg_neg, twoSided_pos _ _ _ (by omega), twoSided_neg _ _ _ (by omega)]
  · subst h; rw [neg_zero, twoSided_zero, twoSided_zero, add_comm]
  · obtain ⟨n, rfl⟩ : ∃ n : ℕ, l = (n : ℤ) := ⟨l.toNat, by omega⟩
    rw [twoSided_pos _ _ _ (by omega), twoSided_neg _ _ _ (by omega)]

theorem sum_Ioo_two (g : ℤ → ℝ) :
    ∑ m ∈ Ioo (-512 : ℤ) 512, g m = ∑ n ∈ range 512, g n + (∑ n ∈ range 512, g (-(n : ℤ)) - g 0) := by
  rw [sum_Ioo_shift]
  have h1 : ∑ n ∈ range 512, g ((n : ℤ) - 512) = ∑ n ∈ range 512, g (-((n + 1 : ℕ) : ℤ)) := by
    rw [← sum_range_reflect]
    refine sum_congr rfl fun n hn => ?_
    rw [mem_range] at hn
    congr 1; omega
  have h2 : ∑ n ∈ range 513, g (-(n : ℤ)) = ∑ n ∈ range 512, g (-(n : ℤ)) + g (-512) := sum_range_succ _ 512
  have h3 : ∑ n ∈ range 513, g (-(n : ℤ)) = ∑ n ∈ range 512, g (-((n + 1 : ℕ) : ℤ)) + g 0 := by
    rw [sum_range_succ' _ 512]; simp
  rw [h1]; linarith

/-- A sum over a block of the two-sided filter's products, split at the lag zero. -/
theorem mid_sum (kf kb : ℕ → ℝ) (w w' : ℤ → ℝ) (hw : ∀ n, w' n = w (-n)) :
    ∑ m ∈ Ioo (-512 : ℤ) 512, twoSided kf kb m * w m
      = ∑ n ∈ range 512, kf n * w n + ∑ n ∈ range 512, kb n * w' n := by
  rw [sum_Ioo_two (fun m => twoSided kf kb m * w m)]
  rw [show (512 : ℕ) = 511 + 1 from rfl]
  simp only [sum_range_succ' _ 511, hw]
  have h1 : ∑ n ∈ range 511, twoSided kf kb ((n + 1 : ℕ) : ℤ) * w ((n + 1 : ℕ) : ℤ)
      = ∑ n ∈ range 511, kf (n + 1) * w ((n + 1 : ℕ) : ℤ) :=
    sum_congr rfl fun n _ => by rw [twoSided_pos _ _ _ (by omega)]
  have h2 : ∑ n ∈ range 511, twoSided kf kb (-((n + 1 : ℕ) : ℤ)) * w (-((n + 1 : ℕ) : ℤ))
      = ∑ n ∈ range 511, kb (n + 1) * w (-((n + 1 : ℕ) : ℤ)) :=
    sum_congr rfl fun n _ => by rw [twoSided_neg _ _ _ (by omega)]
  rw [h1, h2]
  simp only [Nat.cast_zero, neg_zero, twoSided_zero]
  ring

theorem spec_mid_re (kf kb : ℕ → ℝ) (f : ℕ) : specRe (twoSided kf kb) 0 f = blkRe kf 0 f + blkRe kb 0 f := by
  have key := mid_sum kf kb (fun m => cos (freq f * m)) (fun m => cos (freq f * m))
    (fun n => by push_cast; rw [mul_neg, cos_neg])
  unfold specRe blkRe
  simp only [mul_zero, zero_add]
  rw [key]; push_cast; ring

theorem spec_mid_im (kf kb : ℕ → ℝ) (f : ℕ) : specIm (twoSided kf kb) 0 f = blkIm kf 0 f - blkIm kb 0 f := by
  have key := mid_sum kf kb (fun m => sin (freq f * m)) (fun m => -sin (freq f * m))
    (fun n => by push_cast; rw [mul_neg, sin_neg])
  unfold specIm blkIm
  simp only [mul_zero, zero_add]
  rw [key]; simp only [mul_neg, sum_neg_distrib]; push_cast; ring

theorem pos_taps (kf kb : ℕ → ℝ) (d n : ℕ) : twoSided kf kb (512 * ((d : ℤ) + 1) + n) = kf (512 * (d + 1) + n) := by
  rw [← twoSided_pos kf kb (512 * (d + 1) + n) (by omega)]; congr 1

theorem pos_taps_before (kf kb : ℕ → ℝ) (d n : ℕ) (h : 0 < n) :
    twoSided kf kb (512 * ((d : ℤ) + 1) + ((n : ℤ) - 512)) = kf (512 * d + n) := by
  rw [← twoSided_pos kf kb (512 * d + n) (by omega)]; congr 1; push_cast; ring

theorem spec_pos_re (kf kb : ℕ → ℝ) (d f : ℕ) :
    specRe (twoSided kf kb) ((d : ℤ) + 1) f = blkRe kf (d + 1) f - sgn f * blkIm kf d f := by
  unfold specRe blkRe blkIm
  rw [shift_re f fun m => twoSided kf kb (512 * ((d : ℤ) + 1) + m)]
  simp only [pos_taps]
  congr 4
  rw [show (512 : ℕ) = 511 + 1 from rfl, sum_range_succ' _ 511, sum_range_succ' _ 511]
  congr 1
  · exact sum_congr rfl fun n _ => by rw [pos_taps_before kf kb d (n + 1) (by omega)]
  · simp

theorem spec_pos_im (kf kb : ℕ → ℝ) (d f : ℕ) :
    specIm (twoSided kf kb) ((d : ℤ) + 1) f
      = blkIm kf (d + 1) f + sgn f * (blkRe kf d f - kf (512 * d) * (1 / 512)) := by
  unfold specIm blkRe blkIm
  rw [shift_im f fun m => twoSided kf kb (512 * ((d : ℤ) + 1) + m)]
  simp only [pos_taps]
  congr 2
  rw [show (512 : ℕ) = 511 + 1 from rfl, sum_range_succ' _ 511, sum_range_succ' _ 511]
  have : ∑ n ∈ range 511, twoSided kf kb (512 * ((d : ℤ) + 1) + (((n + 1 : ℕ) : ℤ) - 512)) * cos (freq f * ((n + 1 : ℕ) : ℝ))
      = ∑ n ∈ range 511, kf (512 * d + (n + 1)) * cos (freq f * ((n + 1 : ℕ) : ℝ)) :=
    sum_congr rfl fun n _ => by rw [pos_taps_before kf kb d (n + 1) (by omega)]
  rw [this]
  simp
  ring

theorem spec_swap_re (kf kb : ℕ → ℝ) (δ : ℤ) (f : ℕ) :
    specRe (twoSided kf kb) (-δ) f = specRe (twoSided kb kf) δ f := by
  unfold specRe
  rw [← sum_Ioo_reflect]
  congr 1
  refine sum_congr rfl fun m _ => ?_
  rw [← twoSided_swap kf kb, show 512 * -δ + -m = -(512 * δ + m) by ring]
  push_cast
  rw [mul_neg, cos_neg]

theorem spec_swap_im (kf kb : ℕ → ℝ) (δ : ℤ) (f : ℕ) :
    specIm (twoSided kf kb) (-δ) f = -specIm (twoSided kb kf) δ f := by
  have h : ∑ m ∈ Ioo (-512 : ℤ) 512, twoSided kf kb (512 * -δ + m) * sin (freq f * m)
      = -∑ m ∈ Ioo (-512 : ℤ) 512, twoSided kb kf (512 * δ + m) * sin (freq f * m) := by
    rw [← sum_Ioo_reflect, ← sum_neg_distrib (f := fun m : ℤ => twoSided kb kf (512 * δ + m) * sin (freq f * m))]
    refine sum_congr rfl fun m _ => ?_
    rw [← twoSided_swap kf kb, show 512 * -δ + -m = -(512 * δ + m) by ring]
    push_cast
    rw [mul_neg, sin_neg]; ring
  unfold specIm
  rw [h]; ring

/-- One pair of samples: the four table products are the taps' spectrum at the distance of the two samples. -/
theorem pair_sum (κ : ℤ → ℝ) (δ : ℤ) (i n : ℕ) (hi : i < 512) (hn : n < 512) :
    ∑ f ∈ range 512, (tabC i f * (specRe κ δ f * tabC f n + specIm κ δ f * tabS f n)
        + tabS i f * (specRe κ δ f * tabS f n - specIm κ δ f * tabC f n))
      = κ (512 * δ + ((i : ℤ) - n)) := by
  have hf : ∀ f, tabC i f * (specRe κ δ f * tabC f n + specIm κ δ f * tabS f n)
        + tabS i f * (specRe κ δ f * tabS f n - specIm κ δ f * tabC f n)
      = ∑ m ∈ Ioo (-512 : ℤ) 512, 1 / 512 * (κ (512 * δ + m) * cos (freq f * (((i : ℤ) - n - m : ℤ) : ℝ))) := by
    intro f
    have hc : cos (freq f * i - freq f * n) = tabC i f * tabC f n + tabS i f * tabS f n := by
      rw [tabC_comm i f, tabS_comm i f]; unfold tabC tabS; rw [half_angle, half_angle, ← cos_sub]; congr 1; ring
    have hs : sin (freq f * i - freq f * n) = tabS i f * tabC f n - tabC i f * tabS f n := by
      rw [tabC_comm i f, tabS_comm i f]; unfold tabC tabS; rw [half_angle, half_angle, ← sin_sub]; congr 1; ring
    have : tabC i f * (specRe κ δ f * tabC f n + specIm κ δ f * tabS f n)
        + tabS i f * (specRe κ δ f * tabS f n - specIm κ δ f * tabC f n)
        = specRe κ δ f * cos (freq f * i - freq f * n) - specIm κ δ f * sin (freq f * i - freq f * n) := by
      rw [hc, hs]; ring
    rw [this]
    unfold specRe specIm
    rw [neg_mul, sub_neg_eq_add, mul_assoc, mul_assoc, ← mul_add, sum_mul, sum_mul, ← sum_add_distrib, mul_sum]
    refine sum_congr rfl fun m _ => ?_
    have : freq f * (((i : ℤ) - n - m : ℤ) : ℝ) = (freq f * i - freq f * n) - freq f * m := by push_cast; ring
    rw [this, cos_sub _ (freq f * m)]; ring
  simp only [hf]
  rw [sum_comm]
  have hm : ∀ m ∈ Ioo (-512 : ℤ) 512,
      ∑ f ∈ range 512, 1 / 512 * (κ (512 * δ + m) * cos (freq f * (((i : ℤ) - n - m : ℤ) : ℝ)))
        = if m = (i : ℤ) - n then κ (512 * δ + m) else 0 := by
    intro m hm
    rw [mem_Ioo] at hm
    rw [← mul_sum, ← mul_sum, sum_cos _ (by omega) (by omega)]
    by_cases h : m = (i : ℤ) - n
    · rw [if_pos h, if_pos (by omega)]; ring
    · rw [if_neg h, if_neg (by omega)]; ring
  rw [sum_congr rfl hm, sum_ite_eq' , if_pos (by rw [mem_Ioo]; omega)]

/-- The product of a block's spectra, transformed back and summed over the input blocks, is the convolution sum. -/
theorem block_conv (κ : ℤ → ℝ) (u : ℕ → ℝ) (a i : ℕ) (hi : i < 512) :
    ∑ f ∈ range 512, tabC i f * ∑ b ∈ range 4,
        (specRe κ ((a : ℤ) - b) f * (∑ n ∈ range 512, tabC f n * u (512 * b + n))
          + specIm κ ((a : ℤ) - b) f * (∑ n ∈ range 512, tabS f n * u (512 * b + n)))
      + ∑ f ∈ range 512, tabS i f * ∑ b ∈ range 4,
        (specRe κ ((a : ℤ) - b) f * (∑ n ∈ range 512, tabS f n * u (512 * b + n))
          - specIm κ ((a : ℤ) - b) f * (∑ n ∈ range 512, tabC f n * u (512 * b + n)))
      = ∑ j ∈ range 2048, κ (((512 * a + i : ℕ) : ℤ) - j) * u j := by
  have hj : ∑ j ∈ range 2048, κ (((512 * a + i : ℕ) : ℤ) - j) * u j
      = ∑ b ∈ range 4, ∑ n ∈ range 512, κ (512 * ((a : ℤ) - b) + ((i : ℤ) - n)) * u (512 * b + n) := by
    have : ∀ N : ℕ, ∑ j ∈ range (512 * N), κ (((512 * a + i : ℕ) : ℤ) - j) * u j
        = ∑ b ∈ range N, ∑ n ∈ range 512, κ (512 * ((a : ℤ) - b) + ((i : ℤ) - n)) * u (512 * b + n) := by
      intro N
      induction N with
      | zero => simp
      | succ N ih =>
        rw [sum_range_succ, ← ih, mul_add, mul_one, sum_range_add]
        congr 1
        refine sum_congr rfl fun n _ => ?_
        congr 2; push_cast; ring
    exact this 4
  rw [hj]
  have hp : ∀ b ∈ range 4, ∀ n ∈ range 512, κ (512 * ((a : ℤ) - b) + ((i : ℤ) - n)) * u (512 * b + n)
      = ∑ f ∈ range 512, (tabC i f * (specRe κ ((a : ℤ) - b) f * tabC f n + specIm κ ((a : ℤ) - b) f * tabS f n)
        + tabS i f * (specRe κ ((a : ℤ) - b) f * tabS f n - specIm κ ((a : ℤ) - b) f * tabC f n)) * u (512 * b + n) := by
    intro b _ n hn
    rw [mem_range] at hn
    rw [← pair_sum κ ((a : ℤ) - b) i n hi hn, sum_mul]
  rw [sum_congr rfl fun b hb => (sum_congr rfl (hp b hb)).trans sum_comm, sum_comm, ← sum_add_distrib]
  refine sum_congr rfl fun f _ => ?_
  rw [mul_sum, mul_sum, ← sum_add_distrib]
  refine sum_congr rfl fun b _ => ?_
  simp only [mul_sum, ← sum_add_distrib, ← sum_sub_distrib]
  refine sum_congr rfl fun n _ => ?_
  ring

end Cert.Hyena

end
-- ==== Proof.Spec.lean ====
/- The filter network and the long convolution over the real numbers: what both programs compute, column by column, and
   the few lemmas that carry finite extended reals to reals. -/
module

public import proofs.«01_k».proof.Proof.Fourier
public import Idealize.ShloMosaic.PureOps.Ideal
public import Idealize.ShloMosaic.Lib.Pointwise

@[expose] public section

noncomputable section

namespace Cert.Hyena

open Idealize.ShloMosaic

/-! ## Finite extended reals -/

/-- The extended real is a real number. -/
def IsReal (x : EReal) : Prop := ∃ r : ℝ, x = r

/-- Every entry of the array is a real number. -/
def AllReal {s : Shape} (x : FVec Ideal s .f32) : Prop := ∀ i, IsReal (x i)

theorem IsReal.coe_toReal {x : EReal} (h : IsReal x) : ((x.toReal : ℝ) : EReal) = x := by
  obtain ⟨r, rfl⟩ := h
  rw [EReal.toReal_coe]

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, by push_cast; rfl⟩
theorem IsReal.sub {x y : EReal} (hx : IsReal x) (hy : IsReal y) : IsReal (x - y) := by
  obtain ⟨a, rfl⟩ := hx; obtain ⟨b, rfl⟩ := hy; exact ⟨a - b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.neg {x : EReal} (hx : IsReal x) : IsReal (-x) := by
  obtain ⟨a, rfl⟩ := hx; exact ⟨-a, by push_cast; rfl⟩
theorem IsReal.abs {x : EReal} (hx : IsReal x) : IsReal (max x (-x)) := by
  rcases le_total x (-x) with h | h
  · rw [max_eq_right h]; exact hx.neg
  · rw [max_eq_left h]; exact hx

/-- A number below the positive infinity in absolute value is real. -/
theorem isReal_of_abs_lt {x : EReal} (h : max x (-x) < ⊤) : IsReal x := by
  induction x with
  | bot => simp at h
  | top => simp at h
  | coe r => exact ⟨r, rfl⟩

theorem IsReal.div {x : EReal} {y : ℝ} (hx : IsReal x) (hy : y ≠ 0) : IsReal (Ideal.div x y) := by
  rw [Ideal.div_coe hy]; exact hx.mul (IsReal.coe _)

section Arrays

variable {s t : Shape} {x y : FVec Ideal s .f32}

theorem AllReal.addf (hx : AllReal x) (hy : AllReal y) : AllReal (addf x y) := fun i => (hx i).add (hy i)
theorem AllReal.subf (hx : AllReal x) (hy : AllReal y) : AllReal (subf x y) := fun i => (hx i).sub (hy i)
theorem AllReal.mulf (hx : AllReal x) (hy : AllReal y) : AllReal (mulf x y) := fun i => (hx i).mul (hy i)
theorem AllReal.negf (hx : AllReal x) : AllReal (Host.negf x) := fun i => (hx i).neg
theorem AllReal.absf (hx : AllReal x) : AllReal (Host.absf x) := fun i => (hx i).abs
theorem AllReal.sin (hx : AllReal x) : AllReal (Host.sin x) := fun i => by
  obtain ⟨r, hr⟩ := hx i
  exact ⟨Real.sin r, by show Ideal.sin (x i) = _; rw [hr, Ideal.sin_coe]⟩
theorem AllReal.cos (hx : AllReal x) : AllReal (Host.cos x) := fun i => by
  obtain ⟨r, hr⟩ := hx i
  exact ⟨Real.cos r, by show Ideal.cos (x i) = _; rw [hr, Ideal.cos_coe]⟩
theorem AllReal.divf {r : ℝ} (hr : r ≠ 0) (hx : AllReal x) (hy : ∀ i, y i = (r : EReal)) : AllReal (Host.divf x y) := fun i => by
  show IsReal (Ideal.div (x i) (y i)); rw [hy i]; exact (hx i).div hr
theorem AllReal.sitofp {w : ℕ} (x : IVec s w) : AllReal (sitofp (F := Ideal) .f32 x) := fun i => ⟨_, rfl⟩
theorem AllReal.broadcast (dims : Fin s.rank → Fin t.rank) (h) (hx : AllReal x) : AllReal (broadcastInDim t dims h x) :=
  fun _ => hx _
theorem AllReal.reshape (h) (hx : AllReal x) : AllReal (shapeCast t x h) := fun _ => hx _
theorem AllReal.constant {b : BitVec 32} (h : IsReal (Ideal.ofBits .f32 b)) : AllReal (constant (F := Ideal) s .f32 b) :=
  fun _ => h

end Arrays

/-! The constants of the host computations. -/

theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_2047 : Ideal.ofBits .f32 0x44FFE000#32 = ((2047 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_1023 : Ideal.ofBits .f32 0x447FC000#32 = ((1023 : ℝ) : EReal) := by
  simp [Ideal.ofBits, Ideal.ieee, -EReal.coe_mul]; norm_num
theorem lit_15 : Ideal.ofBits .f32 0x41700000#32 = ((15 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_512th : Ideal.ofBits .f32 0x3B000000#32 = ((1 / 512 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_inf : Ideal.ofBits .f32 0x7F800000#32 = (⊤ : EReal) := by simp [Ideal.ofBits, Ideal.ieee]
theorem isReal_two_pi : IsReal (Ideal.ofBits .f32 0x40C90FDB#32) := by
  simp [Ideal.ofBits, Ideal.ieee, -EReal.coe_mul]; exact IsReal.coe _
theorem isReal_first_band : IsReal (Ideal.ofBits .f32 0x38D1B717#32) := by
  simp [Ideal.ofBits, Ideal.ieee, -EReal.coe_mul]; exact IsReal.coe _
theorem isReal_first_rate : IsReal (Ideal.ofBits .f32 0xC0447CBD#32) := by
  simp [Ideal.ofBits, Ideal.ieee, -EReal.coe_mul]; exact IsReal.coe _
theorem isReal_last_rate : IsReal (Ideal.ofBits .f32 0xC1759BEC#32) := by
  simp [Ideal.ofBits, Ideal.ieee, -EReal.coe_mul]; exact IsReal.coe _

/-- A product of real entries summed, as a real. -/
theorem coe_dot {ι : Type} (s : Finset ι) (x w : ι → ℝ) :
    ∑ k ∈ s, (x k : EReal) * (w k : EReal) = ((∑ k ∈ s, x k * w k : ℝ) : EReal) := by
  classical
  induction s using Finset.induction_on with
  | empty => simp
  | insert a s ha ih => rw [Finset.sum_insert ha, Finset.sum_insert ha, ih]; push_cast; rfl

/-! ## The filter network -/

/-- The network that generates the two filters: its features, its weights, and the decay of its taps. -/
structure Net where
  feat : Fin 2048 → Fin 33 → ℝ
  time : Fin 2048 → ℝ
  rate : Fin 1024 → ℝ
  fr : Fin 64 → ℝ
  w1 : Fin 33 → Fin 64 → ℝ
  b1 : Fin 64 → ℝ
  w2 : Fin 64 → Fin 64 → ℝ
  b2 : Fin 64 → ℝ
  w3 : Fin 64 → Fin 64 → ℝ
  b3 : Fin 64 → ℝ
  w4 : Fin 64 → Fin 2048 → ℝ

namespace Net

/-- One sine layer of the network at one row. -/
def layer {K : ℕ} (fr : Fin 64 → ℝ) (w : Fin K → Fin 64 → ℝ) (b : Fin 64 → ℝ) (x : Fin K → ℝ) (n : Fin 64) : ℝ :=
  Real.sin (fr n * (∑ k, x k * w k n + b n))

variable (N : Net)

/-- The last hidden row at a position of the sequence. -/
def hid (l : Fin 2048) : Fin 64 → ℝ :=
  layer N.fr N.w3 N.b3 (layer N.fr N.w2 N.b2 (layer N.fr N.w1 N.b1 (N.feat l)))

/-- The column of the last weight matrix that generates the filter of side `s` (0 forward, 1 backward) at `c`. -/
def sideCol (s : Fin 2) (c : Fin 1024) : Fin 2048 := ⟨1024 * s.val + c.val, by omega⟩

/-- The tap of side `s` at position `l` and column `c`. -/
def tap (s : Fin 2) (c : Fin 1024) (l : Fin 2048) : ℝ :=
  (∑ k, N.hid l k * N.w4 k (sideCol s c)) * Real.exp (-N.time l * N.rate c)

/-- The taps of one side and column as a sequence of natural positions. -/
def taps (s : Fin 2) (c : Fin 1024) (n : ℕ) : ℝ := if h : n < 2048 then N.tap s c ⟨n, h⟩ else 0

/-- The two-sided filter of a column, by lag. -/
def filter (c : Fin 1024) : ℤ → ℝ := twoSided (N.taps 0 c) (N.taps 1 c)

end Net

/-- The result at row `i` of a column: the two-sided convolution, the skip term and the gate. -/
def result (N : Net) (c : Fin 1024) (u : Fin 2048 → ℝ) (d g : EReal) (i : Fin 2048) : EReal :=
  (((∑ j : Fin 2048, N.filter c ((i.val : ℤ) - j.val) * u j : ℝ) : EReal) + (u i : EReal) * d) * g

end Cert.Hyena

end
-- ==== Proof.Pieces.lean ====
/- Buffers written in rectangular pieces, read back at an index. -/
module

public import proofs.«01_k».proof.Proof.Spec
public import Idealize.ShloMosaic.Lib.Pipeline.ValueKit

@[expose] public section

noncomputable section

namespace Cert.Hyena

open Idealize.ShloMosaic

variable {Val : EltTy → Type} {S : Shape} {e : EltTy} [∀ e, Nonempty (Val e)]

/-- At an index of the last piece, the buffer holds that piece's entry. -/
theorem canon_hit (off size : Fin S.rank → ℕ) (inb) (w : (⟨S.rank, size⟩ : Shape).Idx → Val e) (L : List (View.Piece Val S e))
    (y : S.Idx) (x : (⟨S.rank, size⟩ : Shape).Idx) (h : ∀ a, (y a : ℕ) = off a + x a) :
    View.canon (⟨Rect.unit off size inb, w⟩ :: L) y = w x := by
  have hy : y = (Rect.unit off size inb).emb x := funext fun a => Fin.ext (by
    rw [h a, Rect.emb_apply]; show _ = off a + 1 * (x a : ℕ); omega)
  subst hy
  exact View.canon_cons_emb (Rect.unit off size inb) w L x

/-- Off the last piece along some axis, the buffer is as the earlier pieces left it. -/
theorem canon_miss (off size : Fin S.rank → ℕ) (inb) (w : (⟨S.rank, size⟩ : Shape).Idx → Val e) (L : List (View.Piece Val S e))
    (y : S.Idx) (a : Fin S.rank) (h : (y a : ℕ) < off a ∨ off a + size a ≤ (y a : ℕ)) :
    View.canon (⟨Rect.unit off size inb, w⟩ :: L) y = View.canon L y := by
  refine View.canon_cons_of_not_mem (⟨Rect.unit off size inb, w⟩ : View.Piece Val S e) L fun hm => ?_
  have := (Rect.mem_set_unit (inb := inb) (i := y)).mp hm a
  omega

end Cert.Hyena

end
-- ==== Proof.Blocks.lean ====
module

public import proofs.«01_k».proof.Proof.Pieces
public import proofs.«01_k».proof.Proof.Gen.KernelIdeal.Frame
public import Idealize.ShloMosaic.Lib.Pipeline.ReadBack

@[expose] public section

set_option maxRecDepth 16384

noncomputable section

namespace Cert.Hyena.Ker

open Cert.KernelIdeal Cert.KernelIdeal.Gen Idealize.ShloMosaic Idealize.ShloMosaic.TcCoe Idealize.SL.Sem

/-- The two parts of a row, read at an index given by its coordinates. -/
theorem pair_canon (a : ℕ) (inbH) (inbL)
    (Q P : (⟨3, ![1, 512, 256]⟩ : Shape).Idx → Ideal .bf16) (L : List (View.Piece (Elt Ideal) S4x1024x256 .bf16))
    (f : Fin 1024) (c : Fin 256) (y : S4x1024x256.Idx) (hy0 : (y 0 : ℕ) = a) (hy1 : (y 1 : ℕ) = f.val) (hy2 : (y 2 : ℕ) = c.val) :
    View.canon (⟨Rect.unit ![a, 512, 0] ![1, 512, 256] inbH, Q⟩ :: ⟨Rect.unit ![a, 0, 0] ![1, 512, 256] inbL, P⟩ :: L) y
      = if h : f.val < 512 then P (ix3 (0 : Fin 1) ⟨f.val, h⟩ c) else Q (ix3 (0 : Fin 1) ⟨f.val - 512, by omega⟩ c) := by
  by_cases h : f.val < 512
  · rw [dif_pos h]
    have hm := canon_miss (Val := Elt Ideal) (S := S4x1024x256) (e := .bf16) ![a, 512, 0] ![1, 512, 256] inbH Q
      (⟨Rect.unit ![a, 0, 0] ![1, 512, 256] inbL, P⟩ :: L) y 1 (Or.inl (hy1.trans_lt h))
    refine hm.trans (canon_hit (Val := Elt Ideal) (S := S4x1024x256) (e := .bf16) ![a, 0, 0] ![1, 512, 256] inbL P L y
      (ix3 (0 : Fin 1) (⟨f.val, h⟩ : Fin 512) c) fun b => ?_)
    · match b with
      | ⟨0, _⟩ => exact hy0
      | ⟨1, _⟩ => exact hy1.trans (Nat.zero_add _).symm
      | ⟨2, _⟩ => exact hy2.trans (Nat.zero_add _).symm
  · rw [dif_neg h]
    refine canon_hit (Val := Elt Ideal) (S := S4x1024x256) (e := .bf16) ![a, 512, 0] ![1, 512, 256] inbH Q _ y
      (ix3 (0 : Fin 1) (⟨f.val - 512, by omega⟩ : Fin 512) c) fun b => ?_
    match b with
    | ⟨0, _⟩ => exact hy0
    | ⟨1, _⟩ => exact hy1.trans (show f.val = 512 + (f.val - 512) by omega)
    | ⟨2, _⟩ => exact hy2.trans (Nat.zero_add _).symm

/-- A two-part row of the scratch read back whole. -/
theorem pair_readCov {κ : Kind} {sp : Space} (v : View sig κ sp S4x1024x256 .bf16) (a : ℕ) (inbH) (inbL) (inbW)
    (Q P : (⟨3, ![1, 512, 256]⟩ : Shape).Idx → Ideal .bf16) (L : List (View.Piece (Elt Ideal) S4x1024x256 .bf16))
    (f : Fin 1024) (c : Fin 256) :
    (v.readCov (⟨Rect.unit ![a, 512, 0] ![1, 512, 256] inbH, Q⟩ :: ⟨Rect.unit ![a, 0, 0] ![1, 512, 256] inbL, P⟩ :: L)
        (Rect.unit (s := S4x1024x256) ![a, 0, 0] ![1, 1024, 256] inbW).toLoadRect : Vec Ideal S1x1024x256 .bf16) (ix3 (0 : Fin 1) f c)
      = if h : f.val < 512 then P (ix3 (0 : Fin 1) ⟨f.val, h⟩ c) else Q (ix3 (0 : Fin 1) ⟨f.val - 512, by omega⟩ c) := by
  refine (congrFun (View.readCov_eq_canon' v _ _) _).trans (pair_canon a inbH inbL Q P L f c _ ?_ ?_ ?_)
  · show a + 1 * 0 = a; omega
  · show 0 + 1 * f.val = f.val; omega
  · show 0 + 1 * c.val = c.val; omega

/-- The output block's four row tiles, read at an index given by its coordinates. -/
theorem four_tiles (Y0 Y1 Y2 Y3 : (⟨2, ![512, 256]⟩ : Shape).Idx → Ideal .bf16) (i0) (i1) (i2) (i3) (a : Fin 4) (i : Fin 512) (l : Fin 256)
    (y : S2048x256.Idx) (hy0 : (y 0 : ℕ) = 512 * a.val + i.val) (hy1 : (y 1 : ℕ) = l.val) (z : Ideal .bf16)
    (h0 : a = 0 → Y0 (ix2 i l) = z) (h1 : a = 1 → Y1 (ix2 i l) = z) (h2 : a = 2 → Y2 (ix2 i l) = z) (h3 : a = 3 → Y3 (ix2 i l) = z) :
    View.canon [⟨Rect.unit ![1536, 0] ![512, 256] i3, Y3⟩, ⟨Rect.unit ![1024, 0] ![512, 256] i2, Y2⟩,
        ⟨Rect.unit ![512, 0] ![512, 256] i1, Y1⟩, (⟨Rect.unit ![0, 0] ![512, 256] i0, Y0⟩ : View.Piece (Elt Ideal) S2048x256 .bf16)] y
      = z := by
  have hit : ∀ (o : ℕ) (inb) (w : (⟨2, ![512, 256]⟩ : Shape).Idx → Ideal .bf16) (L : List (View.Piece (Elt Ideal) S2048x256 .bf16)), o = 512 * a.val →
      View.canon (⟨Rect.unit ![o, 0] ![512, 256] inb, w⟩ :: L) y = w (ix2 i l) := fun o inb w L ho =>
    canon_hit (Val := Elt Ideal) (S := S2048x256) (e := .bf16) ![o, 0] ![512, 256] inb w L y (ix2 i l) fun b => by
      match b with
      | ⟨0, _⟩ => exact hy0.trans (ho ▸ rfl)
      | ⟨1, _⟩ => exact hy1.trans (Nat.zero_add _).symm
  have miss : ∀ (o : ℕ) (inb) (w : (⟨2, ![512, 256]⟩ : Shape).Idx → Ideal .bf16) (L : List (View.Piece (Elt Ideal) S2048x256 .bf16)),
      512 * a.val + 512 ≤ o →
      View.canon (⟨Rect.unit ![o, 0] ![512, 256] inb, w⟩ :: L) y = View.canon L y := fun o inb w L ho =>
    canon_miss (Val := Elt Ideal) (S := S2048x256) (e := .bf16) ![o, 0] ![512, 256] inb w L y 0 (Or.inl (show (y 0 : ℕ) < o by omega))
  rcases (by omega : a = 0 ∨ a = 1 ∨ a = 2 ∨ a = 3) with rfl | rfl | rfl | rfl
  · exact (miss 1536 _ _ _ (by decide)).trans
      ((miss 1024 _ _ _ (by decide)).trans ((miss 512 _ _ _ (by decide)).trans ((hit 0 _ _ _ rfl).trans (h0 rfl))))
  · exact (miss 1536 _ _ _ (by decide)).trans ((miss 1024 _ _ _ (by decide)).trans ((hit 512 _ _ _ rfl).trans (h1 rfl)))
  · exact (miss 1536 _ _ _ (by decide)).trans ((hit 1024 _ _ _ rfl).trans (h2 rfl))
  · exact (hit 1536 _ _ _ rfl).trans (h3 rfl)

/-- A row of the output block: the inverse transform of its spectrum, the skip term and the gate. -/
theorem tile_apply (cs : Vec Ideal S512x1024 .bf16) (pq : Vec Ideal S1x1024x256 .bf16) (u : Vec Ideal S512x256 .f32)
    (d : Vec Ideal S1x256 .f32) (g : Vec Ideal S512x256 .bf16) (i : Fin 512) (l : Fin 256) :
    k0_pay2 cs pq u d g (ix2 i l)
      = (∑ k : Fin 1024, cs (ix2 i k) * pq (ix3 (0 : Fin 1) k l) + u (ix2 i l) * d (ix2 (0 : Fin 1) l)) * g (ix2 i l) := by
  pointwise [k0_pay2]

theorem tile_first (cs pq u d g) : k0_pay105 (F := Ideal) cs pq u d g = k0_pay2 cs pq u d g := rfl
theorem tile_second (cs : Vec Ideal S512x1024 .bf16) (pq u d g) :
    k0_pay127 (F := Ideal) (k0_pay126 cs) pq u d g = k0_pay2 cs pq u d g := rfl
theorem tile_third (cs pq u d g) : k0_pay150 (F := Ideal) cs pq u d g = k0_pay2 cs pq u d g := rfl

/-- The lane of the transform table that holds the sines. -/
def upper (f : Fin 512) : Fin 1024 := ⟨512 + f, by omega⟩
/-- The lane of the transform table that holds the cosines. -/
def lower (f : Fin 512) : Fin 1024 := ⟨f, by omega⟩

/-- A tile whose spectrum was written in its two parts. -/
theorem tile_pair {κ : Kind} {sp : Space} (v : View sig κ sp S4x1024x256 .bf16) (a : ℕ) (inbH) (inbL) (inbW)
    (Q P : (⟨3, ![1, 512, 256]⟩ : Shape).Idx → Ideal .bf16) (L : List (View.Piece (Elt Ideal) S4x1024x256 .bf16))
    (cs : Vec Ideal S512x1024 .bf16) (u : Vec Ideal S512x256 .f32)
    (d : Vec Ideal S1x256 .f32) (g : Vec Ideal S512x256 .bf16) (i : Fin 512) (l : Fin 256) :
    k0_pay2 cs (v.readCov (⟨Rect.unit ![a, 512, 0] ![1, 512, 256] inbH, Q⟩ :: ⟨Rect.unit ![a, 0, 0] ![1, 512, 256] inbL, P⟩ :: L)
        (Rect.unit (s := S4x1024x256) ![a, 0, 0] ![1, 1024, 256] inbW).toLoadRect) u d g (ix2 i l)
      = (∑ f : Fin 512, cs (ix2 i (lower f)) * P (ix3 (0 : Fin 1) f l) + ∑ f : Fin 512, cs (ix2 i (upper f)) * Q (ix3 (0 : Fin 1) f l)
          + u (ix2 i l) * d (ix2 (0 : Fin 1) l)) * g (ix2 i l) := by
  rw [tile_apply, Fin.sum_univ_add (a := 512) (b := 512)]
  have h1 : ∀ f : Fin 512, cs (ix2 i (Fin.castAdd 512 f)) * (v.readCov (⟨Rect.unit ![a, 512, 0] ![1, 512, 256] inbH, Q⟩ :: ⟨Rect.unit ![a, 0, 0] ![1, 512, 256] inbL, P⟩ :: L)
        (Rect.unit (s := S4x1024x256) ![a, 0, 0] ![1, 1024, 256] inbW).toLoadRect : Vec Ideal S1x1024x256 .bf16) (ix3 (0 : Fin 1) (Fin.castAdd 512 f) l)
      = cs (ix2 i (lower f)) * P (ix3 (0 : Fin 1) f l) := fun f => by
    rw [pair_readCov, dif_pos (show (Fin.castAdd 512 f).val < 512 from f.isLt)]; rfl
  have h2 : ∀ f : Fin 512, cs (ix2 i (Fin.natAdd 512 f)) * (v.readCov (⟨Rect.unit ![a, 512, 0] ![1, 512, 256] inbH, Q⟩ :: ⟨Rect.unit ![a, 0, 0] ![1, 512, 256] inbL, P⟩ :: L)
        (Rect.unit (s := S4x1024x256) ![a, 0, 0] ![1, 1024, 256] inbW).toLoadRect : Vec Ideal S1x1024x256 .bf16) (ix3 (0 : Fin 1) (Fin.natAdd 512 f) l)
      = cs (ix2 i (upper f)) * Q (ix3 (0 : Fin 1) f l) := fun f => by
    rw [pair_readCov, dif_neg (show ¬ (Fin.natAdd 512 f).val < 512 from by simp)]
    have hf : (⟨(Fin.natAdd 512 f).val - 512, by simp⟩ : Fin 512) = f := Fin.ext (by simp)
    rw [hf]; rfl
  rw [Finset.sum_congr rfl fun f _ => h1 f, Finset.sum_congr rfl fun f _ => h2 f]

/-- One half of the transform of a block of rows. -/
def half (cs : Vec Ideal S512x512 .bf16) (u : Vec Ideal S512x256 .f32) (f : Fin 512) (l : Fin 256) : EReal :=
  ∑ n : Fin 512, cs (ix2 f n) * u (ix2 n l)

theorem half_0c (cs : Vec Ideal S512x512 .bf16) (u : Vec Ideal S512x256 .f32) (f : Fin 512) (l : Fin 256) :
    (k0_pay69 u cs) (ix3 (0 : Fin 1) f l) = half cs u f l := by
  unfold half; pointwise [k0_pay68, k0_pay69]

theorem half_0s (cs : Vec Ideal S512x512 .bf16) (u : Vec Ideal S512x256 .f32) (f : Fin 512) (l : Fin 256) :
    (k0_pay70 u cs) (ix3 (0 : Fin 1) f l) = half cs u f l := by
  unfold half; pointwise [k0_pay68, k0_pay70]

theorem half_1c (cs : Vec Ideal S512x512 .bf16) (u : Vec Ideal S512x256 .f32) (f : Fin 512) (l : Fin 256) :
    (k0_pay72 u cs) (ix3 (0 : Fin 1) f l) = half cs u f l := by
  unfold half; pointwise [k0_pay71, k0_pay72]

theorem half_1s (cs : Vec Ideal S512x512 .bf16) (u : Vec Ideal S512x256 .f32) (f : Fin 512) (l : Fin 256) :
    (k0_pay73 (k0_pay71 u) cs) (ix3 (0 : Fin 1) f l) = half cs u f l := by
  unfold half; pointwise [k0_pay71, k0_pay73]

theorem half_2c (cs : Vec Ideal S512x512 .bf16) (u : Vec Ideal S512x256 .f32) (f : Fin 512) (l : Fin 256) :
    (k0_pay75 u cs) (ix3 (0 : Fin 1) f l) = half cs u f l := by
  unfold half; pointwise [k0_pay74, k0_pay75]

theorem half_2s (cs : Vec Ideal S512x512 .bf16) (u : Vec Ideal S512x256 .f32) (f : Fin 512) (l : Fin 256) :
    (k0_pay76 u cs) (ix3 (0 : Fin 1) f l) = half cs u f l := by
  unfold half; pointwise [k0_pay74, k0_pay76]

theorem half_3c (cs : Vec Ideal S512x512 .bf16) (u : Vec Ideal S512x256 .f32) (f : Fin 512) (l : Fin 256) :
    (k0_pay79 (k0_pay78 u cs)) (ix3 (0 : Fin 1) f l) = half cs u f l := by
  unfold half; pointwise [k0_pay77, k0_pay78, k0_pay79]

theorem half_3s (cs : Vec Ideal S512x512 .bf16) (u : Vec Ideal S512x256 .f32) (f : Fin 512) (l : Fin 256) :
    (k0_pay80 (k0_pay77 u) cs) (ix3 (0 : Fin 1) f l) = half cs u f l := by
  unfold half; pointwise [k0_pay77, k0_pay80]

theorem mixRe_0 (kr0 ki0 kr1 ki1 kr2 ki2 kr3 ki3 a0 b0 a1 b1 a2 b2 a3 b3 : Vec Ideal S1x512x256 .bf16) (f : Fin 512) (l : Fin 256) :
    (k0_pay103 (k0_pay95 (k0_pay85 kr3 ki3 a0 b0) (k0_pay87 kr2) (k0_pay88 ki2) (k0_pay89 a1) b1 kr1 ki1 a2 b2) (k0_pay101 kr0 a3) (k0_pay102 ki0 b3)) (ix3 (0 : Fin 1) f l)
      = (kr3 (ix3 (0 : Fin 1) f l) * a0 (ix3 (0 : Fin 1) f l) + ki3 (ix3 (0 : Fin 1) f l) * b0 (ix3 (0 : Fin 1) f l)) + (kr2 (ix3 (0 : Fin 1) f l) * a1 (ix3 (0 : Fin 1) f l) + ki2 (ix3 (0 : Fin 1) f l) * b1 (ix3 (0 : Fin 1) f l)) + (kr1 (ix3 (0 : Fin 1) f l) * a2 (ix3 (0 : Fin 1) f l) + ki1 (ix3 (0 : Fin 1) f l) * b2 (ix3 (0 : Fin 1) f l)) + (kr0 (ix3 (0 : Fin 1) f l) * a3 (ix3 (0 : Fin 1) f l) + ki0 (ix3 (0 : Fin 1) f l) * b3 (ix3 (0 : Fin 1) f l)) := by
  pointwise [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]

theorem mixIm_0 (kr0 ki0 kr1 ki1 kr2 ki2 kr3 ki3 a0 b0 a1 b1 a2 b2 a3 b3 : Vec Ideal S1x512x256 .bf16) (f : Fin 512) (l : Fin 256) :
    (k0_pay104 (k0_pay96 (k0_pay86 kr3 ki3 a0 b0) (k0_pay87 kr2) (k0_pay88 ki2) (k0_pay89 a1) b1 kr1 ki1 a2 b2) (k0_pay97 kr0) (k0_pay98 ki0) (k0_pay99 a3) (k0_pay100 b3)) (ix3 (0 : Fin 1) f l)
      = (kr3 (ix3 (0 : Fin 1) f l) * b0 (ix3 (0 : Fin 1) f l) - ki3 (ix3 (0 : Fin 1) f l) * a0 (ix3 (0 : Fin 1) f l)) + (kr2 (ix3 (0 : Fin 1) f l) * b1 (ix3 (0 : Fin 1) f l) - ki2 (ix3 (0 : Fin 1) f l) * a1 (ix3 (0 : Fin 1) f l)) + (kr1 (ix3 (0 : Fin 1) f l) * b2 (ix3 (0 : Fin 1) f l) - ki1 (ix3 (0 : Fin 1) f l) * a2 (ix3 (0 : Fin 1) f l)) + (kr0 (ix3 (0 : Fin 1) f l) * b3 (ix3 (0 : Fin 1) f l) - ki0 (ix3 (0 : Fin 1) f l) * a3 (ix3 (0 : Fin 1) f l)) := by
  pointwise [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]

theorem mixRe_1 (kr1 ki1 kr2 ki2 kr3 ki3 kr4 ki4 a0 b0 a1 b1 a2 b2 a3 b3 : Vec Ideal S1x512x256 .bf16) (f : Fin 512) (l : Fin 256) :
    (k0_pay124 (k0_pay114 (k0_pay106 kr4) (k0_pay107 ki4) a0 b0 kr3 ki3 a1 b1) (k0_pay116 kr2) (k0_pay117 ki2) (k0_pay118 a2) b2 kr1 ki1 a3 b3) (ix3 (0 : Fin 1) f l)
      = (kr4 (ix3 (0 : Fin 1) f l) * a0 (ix3 (0 : Fin 1) f l) + ki4 (ix3 (0 : Fin 1) f l) * b0 (ix3 (0 : Fin 1) f l)) + (kr3 (ix3 (0 : Fin 1) f l) * a1 (ix3 (0 : Fin 1) f l) + ki3 (ix3 (0 : Fin 1) f l) * b1 (ix3 (0 : Fin 1) f l)) + (kr2 (ix3 (0 : Fin 1) f l) * a2 (ix3 (0 : Fin 1) f l) + ki2 (ix3 (0 : Fin 1) f l) * b2 (ix3 (0 : Fin 1) f l)) + (kr1 (ix3 (0 : Fin 1) f l) * a3 (ix3 (0 : Fin 1) f l) + ki1 (ix3 (0 : Fin 1) f l) * b3 (ix3 (0 : Fin 1) f l)) := by
  pointwise [k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]

theorem mixIm_1 (kr1 ki1 kr2 ki2 kr3 ki3 kr4 ki4 a0 b0 a1 b1 a2 b2 a3 b3 : Vec Ideal S1x512x256 .bf16) (f : Fin 512) (l : Fin 256) :
    (k0_pay125 (k0_pay115 (k0_pay106 kr4) (k0_pay107 ki4) a0 b0 kr3 ki3 a1 b1) (k0_pay116 kr2) (k0_pay117 ki2) (k0_pay118 a2) b2 kr1 ki1 a3 b3) (ix3 (0 : Fin 1) f l)
      = (kr4 (ix3 (0 : Fin 1) f l) * b0 (ix3 (0 : Fin 1) f l) - ki4 (ix3 (0 : Fin 1) f l) * a0 (ix3 (0 : Fin 1) f l)) + (kr3 (ix3 (0 : Fin 1) f l) * b1 (ix3 (0 : Fin 1) f l) - ki3 (ix3 (0 : Fin 1) f l) * a1 (ix3 (0 : Fin 1) f l)) + (kr2 (ix3 (0 : Fin 1) f l) * b2 (ix3 (0 : Fin 1) f l) - ki2 (ix3 (0 : Fin 1) f l) * a2 (ix3 (0 : Fin 1) f l)) + (kr1 (ix3 (0 : Fin 1) f l) * b3 (ix3 (0 : Fin 1) f l) - ki1 (ix3 (0 : Fin 1) f l) * a3 (ix3 (0 : Fin 1) f l)) := by
  pointwise [k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]

theorem mixRe_2 (kr2 ki2 kr3 ki3 kr4 ki4 kr5 ki5 a0 b0 a1 b1 a2 b2 a3 b3 : Vec Ideal S1x512x256 .bf16) (f : Fin 512) (l : Fin 256) :
    (k0_pay148 (k0_pay142 (k0_pay132 kr5 ki5 a0 b0) (k0_pay134 kr4) (k0_pay135 ki4) a1 b1 kr3 ki3 a2 b2) (k0_pay144 kr2) (k0_pay145 ki2) a3 b3) (ix3 (0 : Fin 1) f l)
      = (kr5 (ix3 (0 : Fin 1) f l) * a0 (ix3 (0 : Fin 1) f l) + ki5 (ix3 (0 : Fin 1) f l) * b0 (ix3 (0 : Fin 1) f l)) + (kr4 (ix3 (0 : Fin 1) f l) * a1 (ix3 (0 : Fin 1) f l) + ki4 (ix3 (0 : Fin 1) f l) * b1 (ix3 (0 : Fin 1) f l)) + (kr3 (ix3 (0 : Fin 1) f l) * a2 (ix3 (0 : Fin 1) f l) + ki3 (ix3 (0 : Fin 1) f l) * b2 (ix3 (0 : Fin 1) f l)) + (kr2 (ix3 (0 : Fin 1) f l) * a3 (ix3 (0 : Fin 1) f l) + ki2 (ix3 (0 : Fin 1) f l) * b3 (ix3 (0 : Fin 1) f l)) := by
  pointwise [k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149]

theorem mixIm_2 (kr2 ki2 kr3 ki3 kr4 ki4 kr5 ki5 a0 b0 a1 b1 a2 b2 a3 b3 : Vec Ideal S1x512x256 .bf16) (f : Fin 512) (l : Fin 256) :
    (k0_pay149 (k0_pay143 (k0_pay133 kr5 ki5 a0 b0) (k0_pay134 kr4) (k0_pay135 ki4) a1 b1 kr3 ki3 a2 b2) (k0_pay144 kr2) (k0_pay145 ki2) a3 b3) (ix3 (0 : Fin 1) f l)
      = (kr5 (ix3 (0 : Fin 1) f l) * b0 (ix3 (0 : Fin 1) f l) - ki5 (ix3 (0 : Fin 1) f l) * a0 (ix3 (0 : Fin 1) f l)) + (kr4 (ix3 (0 : Fin 1) f l) * b1 (ix3 (0 : Fin 1) f l) - ki4 (ix3 (0 : Fin 1) f l) * a1 (ix3 (0 : Fin 1) f l)) + (kr3 (ix3 (0 : Fin 1) f l) * b2 (ix3 (0 : Fin 1) f l) - ki3 (ix3 (0 : Fin 1) f l) * a2 (ix3 (0 : Fin 1) f l)) + (kr2 (ix3 (0 : Fin 1) f l) * b3 (ix3 (0 : Fin 1) f l) - ki2 (ix3 (0 : Fin 1) f l) * a3 (ix3 (0 : Fin 1) f l)) := by
  pointwise [k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149]

theorem mixRe_3 (kr3 ki3 kr4 ki4 kr5 ki5 kr6 ki6 a0 b0 a1 b1 a2 b2 a3 b3 : Vec Ideal S1x512x256 .bf16) (f : Fin 512) (l : Fin 256) :
    (k0_pay170 (k0_pay159 kr6 ki6 a0 b0 kr5 ki5 a1 b1) (k0_pay161 kr4) ki4 a2 b2 kr3 ki3 a3 b3) (ix3 (0 : Fin 1) f l)
      = (kr6 (ix3 (0 : Fin 1) f l) * a0 (ix3 (0 : Fin 1) f l) + ki6 (ix3 (0 : Fin 1) f l) * b0 (ix3 (0 : Fin 1) f l)) + (kr5 (ix3 (0 : Fin 1) f l) * a1 (ix3 (0 : Fin 1) f l) + ki5 (ix3 (0 : Fin 1) f l) * b1 (ix3 (0 : Fin 1) f l)) + (kr4 (ix3 (0 : Fin 1) f l) * a2 (ix3 (0 : Fin 1) f l) + ki4 (ix3 (0 : Fin 1) f l) * b2 (ix3 (0 : Fin 1) f l)) + (kr3 (ix3 (0 : Fin 1) f l) * a3 (ix3 (0 : Fin 1) f l) + ki3 (ix3 (0 : Fin 1) f l) * b3 (ix3 (0 : Fin 1) f l)) := by
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay1]

theorem mixIm_3 (kr3 ki3 kr4 ki4 kr5 ki5 kr6 ki6 a0 b0 a1 b1 a2 b2 a3 b3 : Vec Ideal S1x512x256 .bf16) (f : Fin 512) (l : Fin 256) :
    (k0_pay1 (k0_pay169 (k0_pay160 kr6 ki6 a0 b0 kr5 ki5 a1 b1) (k0_pay161 kr4) ki4 a2 b2 kr3 ki3 a3 b3)) (ix3 (0 : Fin 1) f l)
      = (kr6 (ix3 (0 : Fin 1) f l) * b0 (ix3 (0 : Fin 1) f l) - ki6 (ix3 (0 : Fin 1) f l) * a0 (ix3 (0 : Fin 1) f l)) + (kr5 (ix3 (0 : Fin 1) f l) * b1 (ix3 (0 : Fin 1) f l) - ki5 (ix3 (0 : Fin 1) f l) * a1 (ix3 (0 : Fin 1) f l)) + (kr4 (ix3 (0 : Fin 1) f l) * b2 (ix3 (0 : Fin 1) f l) - ki4 (ix3 (0 : Fin 1) f l) * a2 (ix3 (0 : Fin 1) f l)) + (kr3 (ix3 (0 : Fin 1) f l) * b3 (ix3 (0 : Fin 1) f l) - ki3 (ix3 (0 : Fin 1) f l) * a3 (ix3 (0 : Fin 1) f l)) := by
  pointwise [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay1]

/-- A load of 512 rows of a block of 2048, at an index. -/
theorem ld_rows {e : EltTy} (x : Vec Ideal S2048x256 e) (o : ℕ) (inb) (r : Fin 512) (l : Fin 256) (h : o + 512 ≤ 2048) :
    (View.ld x (Rect.unit (s := S2048x256) ![o, 0] ![512, 256] inb) : Vec Ideal S512x256 e) (ix2 r l) = x (ix2 (⟨o + r.val, by omega⟩ : Fin 2048) l) :=
  View.ld_unit_apply_of x _ _ inb _ _ fun b => by
    match b with
    | ⟨0, _⟩ => rfl
    | ⟨1, _⟩ => exact (Nat.zero_add _).symm

/-- A load of one half of the transform table, at an index. -/
theorem ld_half (x : Vec Ideal S512x1024 .bf16) (o : ℕ) (inb) (r n : Fin 512) (h : o + 512 ≤ 1024) :
    (View.ld x (Rect.unit (s := S512x1024) ![0, o] ![512, 512] inb) : Vec Ideal S512x512 .bf16) (ix2 r n) = x (ix2 r (⟨o + n.val, by omega⟩ : Fin 1024)) :=
  View.ld_unit_apply_of x _ _ inb _ _ fun b => by
    match b with
    | ⟨0, _⟩ => exact (Nat.zero_add _).symm
    | ⟨1, _⟩ => rfl

/-- A load of one lag's spectrum, at an index. -/
theorem ld_lag (x : Vec Ideal S7x512x256 .bf16) (k : ℕ) (inb) (f : Fin 512) (l : Fin 256) (h : k < 7) :
    (View.ld x (Rect.unit (s := S7x512x256) ![k, 0, 0] ![1, 512, 256] inb) : Vec Ideal S1x512x256 .bf16) (ix3 (0 : Fin 1) f l) = x (ix3 (⟨k, h⟩ : Fin 7) f l) :=
  View.ld_unit_apply_of x _ _ inb _ _ fun b => by
    match b with
    | ⟨0, _⟩ => rfl
    | ⟨1, _⟩ => exact (Nat.zero_add _).symm
    | ⟨2, _⟩ => exact (Nat.zero_add _).symm

/-- The row `512 * b + n` of a sequence of 2048. -/
def rowOf (b : Fin 4) (n : Fin 512) : Fin 2048 := ⟨512 * b.val + n.val, by omega⟩

/-- The cosine transform of block `b` of the input lane. -/
def cosOf (cs : Vec Ideal S512x1024 .bf16) (u : Vec Ideal S2048x256 .f32) (b : Fin 4) (f : Fin 512) (l : Fin 256) : EReal :=
  ∑ n : Fin 512, cs (ix2 f (lower n)) * u (ix2 (rowOf b n) l)

/-- The sine transform of block `b` of the input lane. -/
def sinOf (cs : Vec Ideal S512x1024 .bf16) (u : Vec Ideal S2048x256 .f32) (b : Fin 4) (f : Fin 512) (l : Fin 256) : EReal :=
  ∑ n : Fin 512, cs (ix2 f (upper n)) * u (ix2 (rowOf b n) l)

/-- The slot that holds the spectrum of the lag between output block `a` and input block `b`. -/
def slot (a b : Fin 4) : Fin 7 := ⟨3 + a.val - b.val, by omega⟩

/-- One entry of an output block, from the spectra of the filter. -/
def blockRow (cs : Vec Ideal S512x1024 .bf16) (u : Vec Ideal S2048x256 .f32) (d : Vec Ideal S1x256 .f32) (g : Vec Ideal S2048x256 .bf16)
    (kr ki : Vec Ideal S7x512x256 .bf16) (a : Fin 4) (r : Fin 512) (l : Fin 256) : EReal :=
  (∑ f : Fin 512, cs (ix2 r (lower f)) * ∑ b : Fin 4, (kr (ix3 (slot a b) f l) * cosOf cs u b f l + ki (ix3 (slot a b) f l) * sinOf cs u b f l)
    + ∑ f : Fin 512, cs (ix2 r (upper f)) * ∑ b : Fin 4, (kr (ix3 (slot a b) f l) * sinOf cs u b f l - ki (ix3 (slot a b) f l) * cosOf cs u b f l)
    + u (ix2 (rowOf a r) l) * d (ix2 (0 : Fin 1) l)) * g (ix2 (rowOf a r) l)

theorem half_cos (x : Vec Ideal S512x1024 .bf16) (u : Vec Ideal S2048x256 .f32) (inb) (o : ℕ) (inb') (b : Fin 4) (hb : o = 512 * b.val) (f : Fin 512) (l : Fin 256) :
    half (View.ld x (Rect.unit (s := S512x1024) ![0, 0] ![512, 512] inb)) (View.ld u (Rect.unit (s := S2048x256) ![o, 0] ![512, 256] inb')) f l
      = cosOf x u b f l := by
  unfold half cosOf
  subst hb
  refine Finset.sum_congr rfl fun n _ => ?_
  rw [ld_half _ _ _ _ _ (by omega), ld_rows _ _ _ _ _ (by omega)]
  refine congrArg (fun k => x (ix2 f k) * _) (Fin.ext (Nat.zero_add _))

theorem half_sin (x : Vec Ideal S512x1024 .bf16) (u : Vec Ideal S2048x256 .f32) (inb) (o : ℕ) (inb') (b : Fin 4) (hb : o = 512 * b.val) (f : Fin 512) (l : Fin 256) :
    half (View.ld x (Rect.unit (s := S512x1024) ![0, 512] ![512, 512] inb)) (View.ld u (Rect.unit (s := S2048x256) ![o, 0] ![512, 256] inb')) f l
      = sinOf x u b f l := by
  unfold half sinOf
  subst hb
  refine Finset.sum_congr rfl fun n _ => ?_
  rw [ld_half _ _ _ _ _ (by omega), ld_rows _ _ _ _ _ (by omega)]
  rfl

/-- The seven lags' spectra, in the order they are written, read at an index given by its coordinates. -/
theorem lag_rows (Y0 Y1 Y2 Y3 Y4 Y5 Y6 : (⟨3, ![1, 512, 256]⟩ : Shape).Idx → Ideal .bf16) (i0) (i1) (i2) (i3) (i4) (i5) (i6)
    (k : Fin 7) (f : Fin 512) (l : Fin 256) (y : S7x512x256.Idx) (hy0 : (y 0 : ℕ) = k.val) (hy1 : (y 1 : ℕ) = f.val) (hy2 : (y 2 : ℕ) = l.val)
    (z : Ideal .bf16) (h3 : k = 3 → Y3 (ix3 (0 : Fin 1) f l) = z) (h4 : k = 4 → Y4 (ix3 (0 : Fin 1) f l) = z)
    (h2 : k = 2 → Y2 (ix3 (0 : Fin 1) f l) = z) (h5 : k = 5 → Y5 (ix3 (0 : Fin 1) f l) = z) (h1 : k = 1 → Y1 (ix3 (0 : Fin 1) f l) = z)
    (h6 : k = 6 → Y6 (ix3 (0 : Fin 1) f l) = z) (h0 : k = 0 → Y0 (ix3 (0 : Fin 1) f l) = z) :
    View.canon [⟨Rect.unit ![0, 0, 0] ![1, 512, 256] i0, Y0⟩, ⟨Rect.unit ![6, 0, 0] ![1, 512, 256] i6, Y6⟩,
        ⟨Rect.unit ![1, 0, 0] ![1, 512, 256] i1, Y1⟩, ⟨Rect.unit ![5, 0, 0] ![1, 512, 256] i5, Y5⟩,
        ⟨Rect.unit ![2, 0, 0] ![1, 512, 256] i2, Y2⟩, ⟨Rect.unit ![4, 0, 0] ![1, 512, 256] i4, Y4⟩,
        (⟨Rect.unit ![3, 0, 0] ![1, 512, 256] i3, Y3⟩ : View.Piece (Elt Ideal) S7x512x256 .bf16)] y = z := by
  have step : ∀ (o : ℕ) (inb) (w : (⟨3, ![1, 512, 256]⟩ : Shape).Idx → Ideal .bf16) (L : List (View.Piece (Elt Ideal) S7x512x256 .bf16)),
      (o = k.val → w (ix3 (0 : Fin 1) f l) = z) → (o ≠ k.val → View.canon L y = z) →
      View.canon (⟨Rect.unit ![o, 0, 0] ![1, 512, 256] inb, w⟩ :: L) y = z := fun o inb w L hh hm => by
    by_cases ho : o = k.val
    · refine (canon_hit (Val := Elt Ideal) (S := S7x512x256) (e := .bf16) ![o, 0, 0] ![1, 512, 256] inb w L y (ix3 (0 : Fin 1) f l) fun b => ?_).trans (hh ho)
      match b with
      | ⟨0, _⟩ => exact hy0.trans ho.symm
      | ⟨1, _⟩ => exact hy1.trans (Nat.zero_add _).symm
      | ⟨2, _⟩ => exact hy2.trans (Nat.zero_add _).symm
    · exact (canon_miss (Val := Elt Ideal) (S := S7x512x256) (e := .bf16) ![o, 0, 0] ![1, 512, 256] inb w L y 0
        (show (y 0 : ℕ) < o ∨ o + 1 ≤ (y 0 : ℕ) by omega)).trans (hm ho)
  refine step 0 _ _ _ (fun h => h0 (Fin.ext h.symm)) fun n0 => step 6 _ _ _ (fun h => h6 (Fin.ext h.symm)) fun n6 =>
    step 1 _ _ _ (fun h => h1 (Fin.ext h.symm)) fun n1 => step 5 _ _ _ (fun h => h5 (Fin.ext h.symm)) fun n5 =>
    step 2 _ _ _ (fun h => h2 (Fin.ext h.symm)) fun n2 => step 4 _ _ _ (fun h => h4 (Fin.ext h.symm)) fun n4 =>
    step 3 _ _ _ (fun h => h3 (Fin.ext h.symm)) fun n3 => absurd k.isLt (by omega)

/-- The left half of a 512-wide column group. -/
def left (l : Fin 256) : Fin 512 := ⟨l, by omega⟩
/-- The right half of a 512-wide column group. -/
def right (l : Fin 256) : Fin 512 := ⟨256 + l, by omega⟩

theorem col_left {κ : Kind} {sp : Space} {e : EltTy} (v : View sig κ sp S512x2048 e) (o o' : ℕ) (inb1) (inb0) (inbW)
    (Y1 Y0 : (⟨2, ![512, 256]⟩ : Shape).Idx → Elt Ideal e) (L : List (View.Piece (Elt Ideal) S512x2048 e)) (n : Fin 512) (l : Fin 256) (ho : o' = o + 256) :
    (v.readCov (⟨Rect.unit ![0, o'] ![512, 256] inb1, Y1⟩ :: ⟨Rect.unit ![0, o] ![512, 256] inb0, Y0⟩ :: L)
        (Rect.unit (s := S512x2048) ![0, o] ![512, 512] inbW).toLoadRect : Vec Ideal S512x512 e) (ix2 n (left l)) = Y0 (ix2 n l) := by
  refine (congrFun (View.readCov_eq_canon' v _ _) _).trans ?_
  refine (canon_miss (Val := Elt Ideal) (S := S512x2048) (e := e) ![0, o'] ![512, 256] inb1 Y1 _ _ 1 (Or.inl ?_)).trans
    (canon_hit (Val := Elt Ideal) (S := S512x2048) (e := e) ![0, o] ![512, 256] inb0 Y0 L _ (ix2 n l) fun b => ?_)
  · show o + 1 * (l : ℕ) < o'; omega
  · match b with
    | ⟨0, _⟩ => show 0 + 1 * (n : ℕ) = 0 + n; omega
    | ⟨1, _⟩ => show o + 1 * (l : ℕ) = o + l; omega

theorem col_right {κ : Kind} {sp : Space} {e : EltTy} (v : View sig κ sp S512x2048 e) (o o' : ℕ) (inb1) (inbW)
    (Y1 : (⟨2, ![512, 256]⟩ : Shape).Idx → Elt Ideal e) (L : List (View.Piece (Elt Ideal) S512x2048 e)) (n : Fin 512) (l : Fin 256) (ho : o' = o + 256) :
    (v.readCov (⟨Rect.unit ![0, o'] ![512, 256] inb1, Y1⟩ :: L)
        (Rect.unit (s := S512x2048) ![0, o] ![512, 512] inbW).toLoadRect : Vec Ideal S512x512 e) (ix2 n (right l)) = Y1 (ix2 n l) := by
  refine (congrFun (View.readCov_eq_canon' v _ _) _).trans
    (canon_hit (Val := Elt Ideal) (S := S512x2048) (e := e) ![0, o'] ![512, 256] inb1 Y1 L _ (ix2 n l) fun b => ?_)
  match b with
  | ⟨0, _⟩ => show 0 + 1 * (n : ℕ) = 0 + n; omega
  | ⟨1, _⟩ => show o + 1 * (256 + (l : ℕ)) = o' + l; omega

theorem seg_left {κ : Kind} {sp : Space} {e : EltTy} (v : View sig κ sp S512x2048 e) (o : ℕ) (inb1) (inbW)
    (X : (⟨2, ![512, 512]⟩ : Shape).Idx → Elt Ideal e) (L : List (View.Piece (Elt Ideal) S512x2048 e)) (n : Fin 512) (l : Fin 256) :
    (v.readCov (⟨Rect.unit ![0, o] ![512, 512] inb1, X⟩ :: L)
        (Rect.unit (s := S512x2048) ![0, o] ![512, 256] inbW).toLoadRect : Vec Ideal S512x256 e) (ix2 n l) = X (ix2 n (left l)) := by
  refine (congrFun (View.readCov_eq_canon' v _ _) _).trans
    (canon_hit (Val := Elt Ideal) (S := S512x2048) (e := e) ![0, o] ![512, 512] inb1 X L _ (ix2 n (left l)) fun b => ?_)
  match b with
  | ⟨0, _⟩ => show 0 + 1 * (n : ℕ) = 0 + n; omega
  | ⟨1, _⟩ => show o + 1 * (l : ℕ) = o + l; omega

theorem seg_right {κ : Kind} {sp : Space} {e : EltTy} (v : View sig κ sp S512x2048 e) (o o' : ℕ) (inb1) (inbW)
    (X : (⟨2, ![512, 512]⟩ : Shape).Idx → Elt Ideal e) (L : List (View.Piece (Elt Ideal) S512x2048 e)) (n : Fin 512) (l : Fin 256) (ho : o' = o + 256) :
    (v.readCov (⟨Rect.unit ![0, o] ![512, 512] inb1, X⟩ :: L)
        (Rect.unit (s := S512x2048) ![0, o'] ![512, 256] inbW).toLoadRect : Vec Ideal S512x256 e) (ix2 n l) = X (ix2 n (right l)) := by
  refine (congrFun (View.readCov_eq_canon' v _ _) _).trans
    (canon_hit (Val := Elt Ideal) (S := S512x2048) (e := e) ![0, o] ![512, 512] inb1 X L _ (ix2 n (right l)) fun b => ?_)
  match b with
  | ⟨0, _⟩ => show 0 + 1 * (n : ℕ) = 0 + n; omega
  | ⟨1, _⟩ => show o' + 1 * (l : ℕ) = o + (256 + l); omega

/-- A load of the whole of a phase table. -/
theorem ld_whole (x : Vec Ideal S512x128 .f32) (inb) :
    (View.ld x (Rect.unit (s := S512x128) ![0, 0] ![512, 128] inb) : Vec Ideal S512x128 .f32) = x := by
  funext j
  exact View.ld_unit_apply_of x _ _ inb _ _ fun b => by
    match b with
    | ⟨0, _⟩ => exact (Nat.zero_add _).symm
    | ⟨1, _⟩ => exact (Nat.zero_add _).symm

theorem back_eq (h : Vec Ideal S2048x64 .f32) (z : Vec Ideal S2048x1 .f32) (d : Vec Ideal S1x256 .f32) (w : Vec Ideal S64x256 .f32) :
    mulf (addf (addf (k0_pay17 h w) (matmul dot_S2048x64_S64x256_S2048x256_1_0_0_1_n_n none (k0_pay15 h) (k0_pay14 w) (constant S2048x256 .f32 0x00000000#32)))
      (matmul dot_S2048x64_S64x256_S2048x256_1_0_0_1_n_n none (k0_pay13 h) (k0_pay16 w) (constant S2048x256 .f32 0x00000000#32))) (k0_pay10 z d)
      = k0_pay11 (F := Ideal) h z d w := rfl

theorem re_coe (k : ℕ → ℝ) (j : ℕ) (i : Fin 512 → ℕ) (hi : ∀ x, i x = 512 * j + x) (f : ℕ) :
    ((Real.cos (phase f) / 512 : ℝ) : EReal) * ∑ x : Fin 512, ((tabC f x : ℝ) : EReal) * ((k (i x) : ℝ) : EReal)
      + ((Real.sin (phase f) / 512 : ℝ) : EReal) * ∑ x : Fin 512, ((tabS f x : ℝ) : EReal) * ((k (i x) : ℝ) : EReal)
      = ((blkRe k j f : ℝ) : EReal) := by
  rw [coe_dot, coe_dot, ← EReal.coe_mul, ← EReal.coe_mul, ← EReal.coe_add]
  simp only [hi]
  rw [Fin.sum_univ_eq_sum_range (fun x => tabC f x * k (512 * j + x)), Fin.sum_univ_eq_sum_range (fun x => tabS f x * k (512 * j + x))]
  exact congrArg _ (phase_re f fun n => k (512 * j + n))

theorem im_coe (k : ℕ → ℝ) (j : ℕ) (i : Fin 512 → ℕ) (hi : ∀ x, i x = 512 * j + x) (f : ℕ) :
    ((Real.sin (phase f) / 512 : ℝ) : EReal) * ∑ x : Fin 512, ((tabC f x : ℝ) : EReal) * ((k (i x) : ℝ) : EReal)
      - ((Real.cos (phase f) / 512 : ℝ) : EReal) * ∑ x : Fin 512, ((tabS f x : ℝ) : EReal) * ((k (i x) : ℝ) : EReal)
      = ((blkIm k j f : ℝ) : EReal) := by
  rw [coe_dot, coe_dot, ← EReal.coe_mul, ← EReal.coe_mul, ← EReal.coe_sub]
  simp only [hi]
  rw [Fin.sum_univ_eq_sum_range (fun x => tabC f x * k (512 * j + x)), Fin.sum_univ_eq_sum_range (fun x => tabS f x * k (512 * j + x))]
  exact congrArg _ (phase_im f fun n => k (512 * j + n))

/-- The middle slot, real part. -/
theorem mid_re {a b : EReal} {δ : ℤ} (kf kb : ℕ → ℝ) (f : ℕ) (hδ : δ = 0) (ha : a = ((blkRe kf 0 f : ℝ) : EReal)) (hb : b = ((blkRe kb 0 f : ℝ) : EReal)) :
    a + b = ((specRe (twoSided kf kb) δ f : ℝ) : EReal) := by
  rw [hδ, ha, hb, ← EReal.coe_add, spec_mid_re]

/-- The middle slot, imaginary part. -/
theorem mid_im {a b : EReal} {δ : ℤ} (kf kb : ℕ → ℝ) (f : ℕ) (hδ : δ = 0) (ha : a = ((blkIm kf 0 f : ℝ) : EReal)) (hb : b = ((blkIm kb 0 f : ℝ) : EReal)) :
    a - b = ((specIm (twoSided kf kb) δ f : ℝ) : EReal) := by
  rw [hδ, ha, hb, ← EReal.coe_sub, spec_mid_im]

/-- A slot `d + 1` above the middle, real part. -/
theorem pos_re {a b : EReal} {δ : ℤ} (kf kb : ℕ → ℝ) (d f : ℕ) (hδ : δ = (d : ℤ) + 1) (ha : a = ((blkRe kf (d + 1) f : ℝ) : EReal)) (hb : b = ((blkIm kf d f : ℝ) : EReal)) :
    a - ((sgn f : ℝ) : EReal) * b = ((specRe (twoSided kf kb) δ f : ℝ) : EReal) := by
  rw [hδ, ha, hb, ← EReal.coe_mul, ← EReal.coe_sub, spec_pos_re]

/-- A slot `d + 1` above the middle, imaginary part. -/
theorem pos_im {a b : EReal} {δ : ℤ} (kf kb : ℕ → ℝ) (d o f : ℕ) (hδ : δ = (d : ℤ) + 1) (ho : o = 512 * d) (ha : a = ((blkIm kf (d + 1) f : ℝ) : EReal)) (hb : b = ((blkRe kf d f : ℝ) : EReal)) :
    a + ((sgn f : ℝ) : EReal) * (b - ((kf o : ℝ) : EReal) * Ideal.ofBits .f32 0x3B000000#32) = ((specIm (twoSided kf kb) δ f : ℝ) : EReal) := by
  rw [hδ, ha, hb, ho, lit_512th, ← EReal.coe_mul, ← EReal.coe_sub, ← EReal.coe_mul, ← EReal.coe_add, spec_pos_im]

/-- A slot `d + 1` below the middle, real part. -/
theorem neg_re {a : EReal} {δ : ℤ} (kf kb : ℕ → ℝ) (d f : ℕ) (hδ : δ = -((d : ℤ) + 1)) (ha : a = ((specRe (twoSided kb kf) ((d : ℤ) + 1) f : ℝ) : EReal)) :
    a = ((specRe (twoSided kf kb) δ f : ℝ) : EReal) := by
  rw [hδ, ha, spec_swap_re]

/-- A slot `d + 1` below the middle, imaginary part. -/
theorem neg_im {a : EReal} {δ : ℤ} (kf kb : ℕ → ℝ) (d f : ℕ) (hδ : δ = -((d : ℤ) + 1)) (ha : a = ((specIm (twoSided kb kf) ((d : ℤ) + 1) f : ℝ) : EReal)) :
    0 - a = ((specIm (twoSided kf kb) δ f : ℝ) : EReal) := by
  rw [hδ, ha, spec_swap_im, zero_sub, ← EReal.coe_neg]

end Cert.Hyena.Ker

end
-- ==== Proof.Slots.lean ====
module

public import proofs.«01_k».proof.Proof.Blocks
public import proofs.«01_k».proof.Proof.Gen.KernelIdeal.Frame
public import Idealize.ShloMosaic.Lib.Pipeline.ReadBack

@[expose] public section

set_option maxRecDepth 16384

noncomputable section

namespace Cert.Hyena.Ker

open Cert.KernelIdeal Cert.KernelIdeal.Gen Idealize.ShloMosaic Idealize.ShloMosaic.TcCoe Idealize.SL.Sem

/-- A load of the whole hidden layer is what was stored. -/
theorem readCov_all {κ : Kind} {sp : Space} (v : View sig κ sp S2048x64 .f32) (L : List (View.Piece (Elt Ideal) S2048x64 .f32)) (inb) :
    (v.readCov L (Rect.unit (s := S2048x64) ![0, 0] ![2048, 64] inb).toLoadRect : Vec Ideal S2048x64 .f32) = View.canon L := by
  refine (View.readCov_eq_canon' v _ _).trans (funext fun j => congrArg (View.canon L) (funext fun a => Fin.ext ?_))
  match a with
  | ⟨0, _⟩ => show 0 + 1 * (j 0 : ℕ) = (j 0 : ℕ); omega
  | ⟨1, _⟩ => show 0 + 1 * (j 1 : ℕ) = (j 1 : ℕ); omega

theorem half_step_eq : (Named.named κ "half_step" 0x3B490FDB#32 : Ideal .f32) = ((Real.pi * 1024⁻¹ : ℝ) : EReal) :=
  IdealRules.named_const.ideal_named_scalar _ _ _ _ rfl

theorem sitofp_ofNat (n : ℕ) (h : n < 2 ^ 31) : (FloatOps.sitofp FTy.f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  push_cast; rfl

theorem angle_apply (f : Fin 512) (j : Fin 128) : k0_pay6 (F := Ideal) (ix2 f j) = ((phase f : ℝ) : EReal) := by
  pointwise [k0_pay6]
  rw [sitofp_ofNat _ (by omega), lit_half, half_step_eq, ← EReal.coe_add, ← EReal.coe_mul]
  unfold phase; congr 1; ring

theorem cos_apply (f : Fin 512) (j : Fin 128) : k0_pay7 (F := Ideal) (ix2 f j) = ((Real.cos (phase f) / 512 : ℝ) : EReal) := by
  pointwise [k0_pay7]
  rw [angle_apply, Ideal.cos_coe, lit_512th, ← EReal.coe_mul]
  congr 1; ring

theorem sin_apply (f : Fin 512) (j : Fin 128) : k0_pay8 (F := Ideal) (ix2 f j) = ((Real.sin (phase f) / 512 : ℝ) : EReal) := by
  pointwise [k0_pay8]
  rw [angle_apply, Ideal.sin_coe, lit_512th, ← EReal.coe_mul]
  congr 1; ring

theorem sign_word (f : Fin 512) : (IntOp.subi (1#32) (IntOp.muli (2#32) (IntOp.andi (BitVec.ofNat 32 ↑f) 1#32)) : BitVec 32).toInt = if f.val % 2 = 0 then 1 else -1 := by
  revert f; decide +kernel

theorem sgn_apply (f : Fin 512) (j : Fin 128) : k0_pay9 (F := Ideal) (ix2 f j) = ((sgn f : ℝ) : EReal) := by
  pointwise [k0_pay9]
  show (((IntOp.subi (1#32) (IntOp.muli (2#32) (IntOp.andi (BitVec.ofNat 32 ↑f) 1#32)) : BitVec 32).toInt : ℝ) : EReal) = _
  rw [sign_word]
  unfold sgn
  split
  · next h => rw [Even.neg_one_pow (Nat.even_iff.mpr h)]; norm_num
  · next h => rw [Odd.neg_one_pow (Nat.odd_iff.mpr (by omega))]; norm_num

set_option maxHeartbeats 2000000 in
/-- The real parts of the seven filter blocks, at the first grid point. -/
theorem slots_A_re (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) (k : Fin 7) (f : Fin 512) (l : Fin 256) (y : S7x512x256.Idx) (hy0 : (y 0 : ℕ) = k.val) (hy1 : (y 1 : ℕ) = f.val) (hy2 : (y 2 : ℕ) = l.val)
    (kf kb : Fin 256 → ℕ → ℝ)
    (hC : ∀ f n : Fin 512, x3 (ix2 f (lower n)) = ((tabC f n : ℝ) : EReal)) (hS : ∀ f n : Fin 512, x3 (ix2 f (upper n)) = ((tabS f n : ℝ) : EReal))
    (H : Vec Ideal S2048x64 .f32) (hH : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 = H)
    (hF : ∀ (n : Fin 2048) l, k0_pay11 H (View.ld x4 (Rect.unit (s := S2048x128) ![0, 0] ![2048, 1] inb_S2048x128_S2048x1_0_0)) x14 x12 (ix2 n l) = ((kf l n : ℝ) : EReal))
    (hB : ∀ (n : Fin 2048) l, k0_pay11 H (View.ld x4 (Rect.unit (s := S2048x128) ![0, 0] ![2048, 1] inb_S2048x128_S2048x1_0_0)) x14 x13 (ix2 n l) = ((kb l n : ℝ) : EReal)) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 y = ((specRe (twoSided (kf l) (kb l)) ((k : ℤ) - 3) f : ℝ) : EReal) := by
  have hC' : ∀ (f n : Fin 512) h, x3 (ix2 f (⟨n.val, h⟩ : Fin 1024)) = ((tabC f n : ℝ) : EReal) := fun f n _ => hC f n
  have hS' : ∀ (f n : Fin 512) h, x3 (ix2 f (⟨512 + n.val, h⟩ : Fin 1024)) = ((tabS f n : ℝ) : EReal) := fun f n _ => hS f n
  revert hH
  frame_open
  simp (disch := decide) only [↓ View.readCov_skip, ↓ View.readCov_cons_toLoadRect, ↓ View.readCov_fill]
  frame_out
  simp only [readCov_all]
  intro hH
  simp only [hH, back_eq]
  refine lag_rows _ _ _ _ _ _ _ _ _ _ _ _ _ _ k f l y hy0 hy1 hy2 _ ?_ ?_ ?_ ?_ ?_ ?_ ?_ <;> intro hk <;> subst hk
  all_goals
    pointwise [k0_pay48, k0_pay50, k0_pay51, k0_pay53, k0_pay54, k0_pay55, k0_pay57, k0_pay59, k0_pay60, k0_pay62, k0_pay63, k0_pay64, k0_pay66]
    simp only [seg_left, seg_right _ 0 256 _ _ _ _ _ _ rfl, seg_right _ 512 768 _ _ _ _ _ _ rfl, seg_right _ 1024 1280 _ _ _ _ _ _ rfl, seg_right _ 1536 1792 _ _ _ _ _ _ rfl]
    pointwise []
    simp only [col_left _ 0 256 _ _ _ _ _ _ _ _ rfl, col_right _ 0 256 _ _ _ _ _ _ rfl, col_left _ 512 768 _ _ _ _ _ _ _ _ rfl, col_right _ 512 768 _ _ _ _ _ _ rfl, col_left _ 1024 1280 _ _ _ _ _ _ _ _ rfl, col_right _ 1024 1280 _ _ _ _ _ _ rfl, col_left _ 1536 1792 _ _ _ _ _ _ _ _ rfl, col_right _ 1536 1792 _ _ _ _ _ _ rfl]
    pointwise []
    simp only [View.readCov_cons_toLoadRect, cos_apply, sin_apply, sgn_apply, dite_eq_ite, ite_self, hC', hS', hF, hB]
  all_goals clear * -
  · exact mid_re (kf l) (kb l) f rfl (re_coe _ 0 _ (fun x => by omega) _) (re_coe _ 0 _ (fun x => by omega) _)
  · exact pos_re (kf l) (kb l) 0 f rfl (re_coe _ 1 _ (fun x => by omega) _) (im_coe _ 0 _ (fun x => by omega) _)
  · refine neg_re (kf l) (kb l) 0 f rfl ?_
    exact pos_re (kb l) (kf l) 0 f rfl (re_coe _ 1 _ (fun x => by omega) _) (im_coe _ 0 _ (fun x => by omega) _)
  · exact pos_re (kf l) (kb l) 1 f rfl (re_coe _ 2 _ (fun x => by omega) _) (im_coe _ 1 _ (fun x => by omega) _)
  · refine neg_re (kf l) (kb l) 1 f rfl ?_
    exact pos_re (kb l) (kf l) 1 f rfl (re_coe _ 2 _ (fun x => by omega) _) (im_coe _ 1 _ (fun x => by omega) _)
  · exact pos_re (kf l) (kb l) 2 f rfl (re_coe _ 3 _ (fun x => by omega) _) (im_coe _ 2 _ (fun x => by omega) _)
  · refine neg_re (kf l) (kb l) 2 f rfl ?_
    exact pos_re (kb l) (kf l) 2 f rfl (re_coe _ 3 _ (fun x => by omega) _) (im_coe _ 2 _ (fun x => by omega) _)

set_option maxHeartbeats 2000000 in
/-- The imaginary parts of the seven filter blocks, at the first grid point. -/
theorem slots_A_im (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) (k : Fin 7) (f : Fin 512) (l : Fin 256) (y : S7x512x256.Idx) (hy0 : (y 0 : ℕ) = k.val) (hy1 : (y 1 : ℕ) = f.val) (hy2 : (y 2 : ℕ) = l.val)
    (kf kb : Fin 256 → ℕ → ℝ)
    (hC : ∀ f n : Fin 512, x3 (ix2 f (lower n)) = ((tabC f n : ℝ) : EReal)) (hS : ∀ f n : Fin 512, x3 (ix2 f (upper n)) = ((tabS f n : ℝ) : EReal))
    (H : Vec Ideal S2048x64 .f32) (hH : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 = H)
    (hF : ∀ (n : Fin 2048) l, k0_pay11 H (View.ld x4 (Rect.unit (s := S2048x128) ![0, 0] ![2048, 1] inb_S2048x128_S2048x1_0_0)) x14 x12 (ix2 n l) = ((kf l n : ℝ) : EReal))
    (hB : ∀ (n : Fin 2048) l, k0_pay11 H (View.ld x4 (Rect.unit (s := S2048x128) ![0, 0] ![2048, 1] inb_S2048x128_S2048x1_0_0)) x14 x13 (ix2 n l) = ((kb l n : ℝ) : EReal)) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 y = ((specIm (twoSided (kf l) (kb l)) ((k : ℤ) - 3) f : ℝ) : EReal) := by
  have hC' : ∀ (f n : Fin 512) h, x3 (ix2 f (⟨n.val, h⟩ : Fin 1024)) = ((tabC f n : ℝ) : EReal) := fun f n _ => hC f n
  have hS' : ∀ (f n : Fin 512) h, x3 (ix2 f (⟨512 + n.val, h⟩ : Fin 1024)) = ((tabS f n : ℝ) : EReal) := fun f n _ => hS f n
  revert hH
  frame_open
  simp (disch := decide) only [↓ View.readCov_skip, ↓ View.readCov_cons_toLoadRect, ↓ View.readCov_fill]
  frame_out
  simp only [readCov_all]
  intro hH
  simp only [hH, back_eq]
  refine lag_rows _ _ _ _ _ _ _ _ _ _ _ _ _ _ k f l y hy0 hy1 hy2 _ ?_ ?_ ?_ ?_ ?_ ?_ ?_ <;> intro hk <;> subst hk
  all_goals
    pointwise [k0_pay49, k0_pay50, k0_pay52, k0_pay53, k0_pay54, k0_pay55, k0_pay56, k0_pay58, k0_pay59, k0_pay60, k0_pay61, k0_pay62, k0_pay63, k0_pay65, k0_pay67]
    simp only [seg_left, seg_right _ 0 256 _ _ _ _ _ _ rfl, seg_right _ 512 768 _ _ _ _ _ _ rfl, seg_right _ 1024 1280 _ _ _ _ _ _ rfl, seg_right _ 1536 1792 _ _ _ _ _ _ rfl]
    pointwise []
    simp only [col_left _ 0 256 _ _ _ _ _ _ _ _ rfl, col_right _ 0 256 _ _ _ _ _ _ rfl, col_left _ 512 768 _ _ _ _ _ _ _ _ rfl, col_right _ 512 768 _ _ _ _ _ _ rfl, col_left _ 1024 1280 _ _ _ _ _ _ _ _ rfl, col_right _ 1024 1280 _ _ _ _ _ _ rfl, col_left _ 1536 1792 _ _ _ _ _ _ _ _ rfl, col_right _ 1536 1792 _ _ _ _ _ _ rfl]
    pointwise []
    simp only [View.readCov_cons_toLoadRect, cos_apply, sin_apply, sgn_apply, dite_eq_ite, ite_self, hC', hS', hF, hB]
  all_goals clear * -
  · exact mid_im (kf l) (kb l) f rfl (im_coe _ 0 _ (fun x => by omega) _) (im_coe _ 0 _ (fun x => by omega) _)
  · exact pos_im (kf l) (kb l) 0 0 f rfl rfl (im_coe _ 1 _ (fun x => by omega) _) (re_coe _ 0 _ (fun x => by omega) _)
  · refine neg_im (kf l) (kb l) 0 f rfl ?_
    exact pos_im (kb l) (kf l) 0 0 f rfl rfl (im_coe _ 1 _ (fun x => by omega) _) (re_coe _ 0 _ (fun x => by omega) _)
  · exact pos_im (kf l) (kb l) 1 512 f rfl rfl (im_coe _ 2 _ (fun x => by omega) _) (re_coe _ 1 _ (fun x => by omega) _)
  · refine neg_im (kf l) (kb l) 1 f rfl ?_
    exact pos_im (kb l) (kf l) 1 512 f rfl rfl (im_coe _ 2 _ (fun x => by omega) _) (re_coe _ 1 _ (fun x => by omega) _)
  · exact pos_im (kf l) (kb l) 2 1024 f rfl rfl (im_coe _ 3 _ (fun x => by omega) _) (re_coe _ 2 _ (fun x => by omega) _)
  · refine neg_im (kf l) (kb l) 2 f rfl ?_
    exact pos_im (kb l) (kf l) 2 1024 f rfl rfl (im_coe _ 3 _ (fun x => by omega) _) (re_coe _ 2 _ (fun x => by omega) _)

set_option maxHeartbeats 2000000 in
/-- The real parts of the seven filter blocks, at the first grid point of another channel tile. -/
theorem slots_C_re (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : ¬cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) (xs4 : Vec Ideal S2048x64 .f32) (xs5 : Vec Ideal S512x128 .f32) (xs6 : Vec Ideal S512x128 .f32) (xs7 : Vec Ideal S512x128 .f32) (k : Fin 7) (f : Fin 512) (l : Fin 256) (y : S7x512x256.Idx) (hy0 : (y 0 : ℕ) = k.val) (hy1 : (y 1 : ℕ) = f.val) (hy2 : (y 2 : ℕ) = l.val)
    (kf kb : Fin 256 → ℕ → ℝ)
    (hC : ∀ f n : Fin 512, x3 (ix2 f (lower n)) = ((tabC f n : ℝ) : EReal)) (hS : ∀ f n : Fin 512, x3 (ix2 f (upper n)) = ((tabS f n : ℝ) : EReal))
    (h5 : ∀ (f : Fin 512) j, xs5 (ix2 f j) = ((Real.cos (phase f) / 512 : ℝ) : EReal)) (h6 : ∀ (f : Fin 512) j, xs6 (ix2 f j) = ((Real.sin (phase f) / 512 : ℝ) : EReal))
    (h7 : ∀ (f : Fin 512) j, xs7 (ix2 f j) = ((sgn f : ℝ) : EReal))
    (hF : ∀ (n : Fin 2048) l, k0_pay11 xs4 (View.ld x4 (Rect.unit (s := S2048x128) ![0, 0] ![2048, 1] inb_S2048x128_S2048x1_0_0)) x14 x12 (ix2 n l) = ((kf l n : ℝ) : EReal))
    (hB : ∀ (n : Fin 2048) l, k0_pay11 xs4 (View.ld x4 (Rect.unit (s := S2048x128) ![0, 0] ![2048, 1] inb_S2048x128_S2048x1_0_0)) x14 x13 (ix2 n l) = ((kb l n : ℝ) : EReal)) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 xs4 xs5 xs6 xs7 y = ((specRe (twoSided (kf l) (kb l)) ((k : ℤ) - 3) f : ℝ) : EReal) := by
  have hC' : ∀ (f n : Fin 512) h, x3 (ix2 f (⟨n.val, h⟩ : Fin 1024)) = ((tabC f n : ℝ) : EReal) := fun f n _ => hC f n
  have hS' : ∀ (f n : Fin 512) h, x3 (ix2 f (⟨512 + n.val, h⟩ : Fin 1024)) = ((tabS f n : ℝ) : EReal) := fun f n _ => hS f n
  frame_open
  simp (disch := decide) only [↓ View.readCov_skip, ↓ View.readCov_cons_toLoadRect, ↓ View.readCov_fill]
  frame_out
  simp only [back_eq]
  refine lag_rows _ _ _ _ _ _ _ _ _ _ _ _ _ _ k f l y hy0 hy1 hy2 _ ?_ ?_ ?_ ?_ ?_ ?_ ?_ <;> intro hk <;> subst hk
  all_goals
    pointwise [k0_pay48, k0_pay50, k0_pay51, k0_pay53, k0_pay54, k0_pay55, k0_pay57, k0_pay59, k0_pay60, k0_pay62, k0_pay63, k0_pay64, k0_pay66]
    simp only [seg_left, seg_right _ 0 256 _ _ _ _ _ _ rfl, seg_right _ 512 768 _ _ _ _ _ _ rfl, seg_right _ 1024 1280 _ _ _ _ _ _ rfl, seg_right _ 1536 1792 _ _ _ _ _ _ rfl]
    pointwise []
    simp only [col_left _ 0 256 _ _ _ _ _ _ _ _ rfl, col_right _ 0 256 _ _ _ _ _ _ rfl, col_left _ 512 768 _ _ _ _ _ _ _ _ rfl, col_right _ 512 768 _ _ _ _ _ _ rfl, col_left _ 1024 1280 _ _ _ _ _ _ _ _ rfl, col_right _ 1024 1280 _ _ _ _ _ _ rfl, col_left _ 1536 1792 _ _ _ _ _ _ _ _ rfl, col_right _ 1536 1792 _ _ _ _ _ _ rfl]
    pointwise []
    simp only [Memref.IsWhole.read_unread, h5, h6, h7, dite_eq_ite, ite_self, hC', hS', hF, hB]
  all_goals clear * -
  · exact mid_re (kf l) (kb l) f rfl (re_coe _ 0 _ (fun x => by omega) _) (re_coe _ 0 _ (fun x => by omega) _)
  · exact pos_re (kf l) (kb l) 0 f rfl (re_coe _ 1 _ (fun x => by omega) _) (im_coe _ 0 _ (fun x => by omega) _)
  · refine neg_re (kf l) (kb l) 0 f rfl ?_
    exact pos_re (kb l) (kf l) 0 f rfl (re_coe _ 1 _ (fun x => by omega) _) (im_coe _ 0 _ (fun x => by omega) _)
  · exact pos_re (kf l) (kb l) 1 f rfl (re_coe _ 2 _ (fun x => by omega) _) (im_coe _ 1 _ (fun x => by omega) _)
  · refine neg_re (kf l) (kb l) 1 f rfl ?_
    exact pos_re (kb l) (kf l) 1 f rfl (re_coe _ 2 _ (fun x => by omega) _) (im_coe _ 1 _ (fun x => by omega) _)
  · exact pos_re (kf l) (kb l) 2 f rfl (re_coe _ 3 _ (fun x => by omega) _) (im_coe _ 2 _ (fun x => by omega) _)
  · refine neg_re (kf l) (kb l) 2 f rfl ?_
    exact pos_re (kb l) (kf l) 2 f rfl (re_coe _ 3 _ (fun x => by omega) _) (im_coe _ 2 _ (fun x => by omega) _)

set_option maxHeartbeats 2000000 in
/-- The imaginary parts of the seven filter blocks, at the first grid point of another channel tile. -/
theorem slots_C_im (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : ¬cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) (xs4 : Vec Ideal S2048x64 .f32) (xs5 : Vec Ideal S512x128 .f32) (xs6 : Vec Ideal S512x128 .f32) (xs7 : Vec Ideal S512x128 .f32) (k : Fin 7) (f : Fin 512) (l : Fin 256) (y : S7x512x256.Idx) (hy0 : (y 0 : ℕ) = k.val) (hy1 : (y 1 : ℕ) = f.val) (hy2 : (y 2 : ℕ) = l.val)
    (kf kb : Fin 256 → ℕ → ℝ)
    (hC : ∀ f n : Fin 512, x3 (ix2 f (lower n)) = ((tabC f n : ℝ) : EReal)) (hS : ∀ f n : Fin 512, x3 (ix2 f (upper n)) = ((tabS f n : ℝ) : EReal))
    (h5 : ∀ (f : Fin 512) j, xs5 (ix2 f j) = ((Real.cos (phase f) / 512 : ℝ) : EReal)) (h6 : ∀ (f : Fin 512) j, xs6 (ix2 f j) = ((Real.sin (phase f) / 512 : ℝ) : EReal))
    (h7 : ∀ (f : Fin 512) j, xs7 (ix2 f j) = ((sgn f : ℝ) : EReal))
    (hF : ∀ (n : Fin 2048) l, k0_pay11 xs4 (View.ld x4 (Rect.unit (s := S2048x128) ![0, 0] ![2048, 1] inb_S2048x128_S2048x1_0_0)) x14 x12 (ix2 n l) = ((kf l n : ℝ) : EReal))
    (hB : ∀ (n : Fin 2048) l, k0_pay11 xs4 (View.ld x4 (Rect.unit (s := S2048x128) ![0, 0] ![2048, 1] inb_S2048x128_S2048x1_0_0)) x14 x13 (ix2 n l) = ((kb l n : ℝ) : EReal)) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 xs4 xs5 xs6 xs7 y = ((specIm (twoSided (kf l) (kb l)) ((k : ℤ) - 3) f : ℝ) : EReal) := by
  have hC' : ∀ (f n : Fin 512) h, x3 (ix2 f (⟨n.val, h⟩ : Fin 1024)) = ((tabC f n : ℝ) : EReal) := fun f n _ => hC f n
  have hS' : ∀ (f n : Fin 512) h, x3 (ix2 f (⟨512 + n.val, h⟩ : Fin 1024)) = ((tabS f n : ℝ) : EReal) := fun f n _ => hS f n
  frame_open
  simp (disch := decide) only [↓ View.readCov_skip, ↓ View.readCov_cons_toLoadRect, ↓ View.readCov_fill]
  frame_out
  simp only [back_eq]
  refine lag_rows _ _ _ _ _ _ _ _ _ _ _ _ _ _ k f l y hy0 hy1 hy2 _ ?_ ?_ ?_ ?_ ?_ ?_ ?_ <;> intro hk <;> subst hk
  all_goals
    pointwise [k0_pay49, k0_pay50, k0_pay52, k0_pay53, k0_pay54, k0_pay55, k0_pay56, k0_pay58, k0_pay59, k0_pay60, k0_pay61, k0_pay62, k0_pay63, k0_pay65, k0_pay67]
    simp only [seg_left, seg_right _ 0 256 _ _ _ _ _ _ rfl, seg_right _ 512 768 _ _ _ _ _ _ rfl, seg_right _ 1024 1280 _ _ _ _ _ _ rfl, seg_right _ 1536 1792 _ _ _ _ _ _ rfl]
    pointwise []
    simp only [col_left _ 0 256 _ _ _ _ _ _ _ _ rfl, col_right _ 0 256 _ _ _ _ _ _ rfl, col_left _ 512 768 _ _ _ _ _ _ _ _ rfl, col_right _ 512 768 _ _ _ _ _ _ rfl, col_left _ 1024 1280 _ _ _ _ _ _ _ _ rfl, col_right _ 1024 1280 _ _ _ _ _ _ rfl, col_left _ 1536 1792 _ _ _ _ _ _ _ _ rfl, col_right _ 1536 1792 _ _ _ _ _ _ rfl]
    pointwise []
    simp only [Memref.IsWhole.read_unread, h5, h6, h7, dite_eq_ite, ite_self, hC', hS', hF, hB]
  all_goals clear * -
  · exact mid_im (kf l) (kb l) f rfl (im_coe _ 0 _ (fun x => by omega) _) (im_coe _ 0 _ (fun x => by omega) _)
  · exact pos_im (kf l) (kb l) 0 0 f rfl rfl (im_coe _ 1 _ (fun x => by omega) _) (re_coe _ 0 _ (fun x => by omega) _)
  · refine neg_im (kf l) (kb l) 0 f rfl ?_
    exact pos_im (kb l) (kf l) 0 0 f rfl rfl (im_coe _ 1 _ (fun x => by omega) _) (re_coe _ 0 _ (fun x => by omega) _)
  · exact pos_im (kf l) (kb l) 1 512 f rfl rfl (im_coe _ 2 _ (fun x => by omega) _) (re_coe _ 1 _ (fun x => by omega) _)
  · refine neg_im (kf l) (kb l) 1 f rfl ?_
    exact pos_im (kb l) (kf l) 1 512 f rfl rfl (im_coe _ 2 _ (fun x => by omega) _) (re_coe _ 1 _ (fun x => by omega) _)
  · exact pos_im (kf l) (kb l) 2 1024 f rfl rfl (im_coe _ 3 _ (fun x => by omega) _) (re_coe _ 2 _ (fun x => by omega) _)
  · refine neg_im (kf l) (kb l) 2 f rfl ?_
    exact pos_im (kb l) (kf l) 2 1024 f rfl rfl (im_coe _ 3 _ (fun x => by omega) _) (re_coe _ 2 _ (fun x => by omega) _)
end Cert.Hyena.Ker

end
-- ==== Proof.Table.lean ====
module

public import proofs.«01_k».proof.Proof.Slots
public import proofs.«01_k».proof.Proof.Spec
public import Idealize.ShloMosaic.Lib.Affine

@[expose] public section

set_option maxRecDepth 16384

noncomputable section

namespace Cert.Hyena.Ker

open Cert.KernelIdeal Cert.KernelIdeal.Gen Idealize.ShloMosaic Idealize.ShloMosaic.TcCoe Idealize.SL.Sem

/-! ## The transform table, as the host makes it -/

/-- The odd numbers. -/
def odd : IVec S512 32 :=
  addi (muli (broadcastInDim S512 ![] bcast_S_S512 (constantI S_ 32 2#32)) (iotaInDim S512 32 0)) (broadcastInDim S512 ![] bcast_S_S512 (constantI S_ 32 1#32))

/-- Their products in pairs. -/
def oddPairs : IVec S512x512 32 :=
  muli (broadcastInDim S512x512 ![0, 1] bcast_S512x1_S512x512_0_1 (broadcastInDim S512x1 ![0] bcast_S512_S512x1_0 odd))
    (broadcastInDim S512x512 ![0, 1] bcast_S1x512_S512x512_0_1 (broadcastInDim S1x512 ![1] bcast_S512_S1x512_1 odd))

/-- The period. -/
def modulus : IVec S_ 32 :=
  select (cmpi CmpIPredicate.eq (id (constantI S_ 32 4096#32)) (constantI S_ 32 0#32)) (constantI S_ 32 1#32) (id (constantI S_ 32 4096#32))

/-- The products' remainders, with the dividend's sign. -/
def rest : IVec S512x512 32 := Host.remsi oddPairs (broadcastInDim S512x512 ![] bcast_S_S512x512 modulus)

/-- The products modulo the period. -/
def residue : IVec S512x512 32 :=
  select
    (andi
      (cmpi CmpIPredicate.ne (cmpi CmpIPredicate.slt rest (broadcastInDim S512x512 ![] bcast_S_S512x512 (constantI S_ 32 0#32)))
        (broadcastInDim S512x512 ![] bcast_S_S512x512 (cmpi CmpIPredicate.slt modulus (constantI S_ 32 0#32))))
      (cmpi CmpIPredicate.ne rest (broadcastInDim S512x512 ![] bcast_S_S512x512 (constantI S_ 32 0#32))))
    (addi rest (broadcastInDim S512x512 ![] bcast_S_S512x512 modulus)) rest

/-- The angle of one step. -/
def step : FVec Ideal S_ .f32 :=
  Host.divf (Host.atan2 (constant S_ FTy.f32 0#32) (constant S_ FTy.f32 3212836864#32)) (constant S_ FTy.f32 1157627904#32)

/-- The angles. -/
def angles : FVec Ideal S512x512 .f32 := mulf (sitofp FTy.f32 residue) (broadcastInDim S512x512 ![] bcast_S_S512x512 step)

/-- A remainder of a small word, its sign put right, is the word of the natural remainder. -/
theorem word_mod (k : ℕ) (hk : k < 2 ^ 31) :
    Scalar.select (IntOp.andi (IntOp.cmpi .ne (IntOp.cmpi .slt (IntOp.remsi .host (BitVec.ofNat 32 k) 4096#32) 0#32) (IntOp.cmpi .slt 4096#32 0#32))
        (IntOp.cmpi .ne (IntOp.remsi .host (BitVec.ofNat 32 k) 4096#32) 0#32))
      (IntOp.addi (IntOp.remsi .host (BitVec.ofNat 32 k) 4096#32) 4096#32) (IntOp.remsi .host (BitVec.ofNat 32 k) 4096#32)
      = BitVec.ofNat 32 (k % 4096) := by
  have hr : IntOp.remsi .host (BitVec.ofNat 32 k) 4096#32 = BitVec.ofNat 32 (k % 4096) := by
    apply BitVec.eq_of_toNat_eq
    rw [IntOp.toNat_remsi .host (by rw [BitVec.toNat_ofNat]; omega) 4096 (by decide) (by decide), BitVec.toNat_ofNat, BitVec.toNat_ofNat]
    omega
  have hs : IntOp.cmpi .slt (BitVec.ofNat 32 (k % 4096)) 0#32 = 0#1 := by
    show BitVec.ofBool ((BitVec.ofNat 32 (k % 4096)).slt 0#32) = _
    rw [BitVec.slt_eq_decide, decide_eq_false]
    · rfl
    · rw [BitVec.toInt_eq_toNat_of_lt (by rw [BitVec.toNat_ofNat]; omega)]
      exact not_lt.2 (Int.natCast_nonneg _)
  rw [hr, hs, show IntOp.cmpi .ne 0#1 (IntOp.cmpi .slt 4096#32 0#32) = 0#1 by decide]
  show Scalar.select (0#1 &&& _) _ _ = _
  rw [BitVec.zero_and]
  rfl

theorem odd_apply (n : Fin 512) : odd (ix1 n) = BitVec.ofNat 32 (2 * n.val + 1) := by
  pointwise [odd]
  apply BitVec.eq_of_toNat_eq
  simp [IntOp.addi, IntOp.muli]

theorem oddPairs_apply (f n : Fin 512) : oddPairs (ix2 f n) = BitVec.ofNat 32 ((2 * f.val + 1) * (2 * n.val + 1)) := by
  have e : oddPairs (ix2 f n) = IntOp.muli (odd (ix1 f)) (odd (ix1 n)) := by
    pointwise [oddPairs]
  rw [e, odd_apply, odd_apply]
  apply BitVec.eq_of_toNat_eq
  simp [IntOp.muli]

theorem modulus_apply (i : S_.Idx) : modulus i = 4096#32 := rfl

theorem residue_apply (f n : Fin 512) : residue (ix2 f n) = BitVec.ofNat 32 ((2 * f.val + 1) * (2 * n.val + 1) % 4096) := by
  have hk : (2 * f.val + 1) * (2 * n.val + 1) < 2 ^ 31 :=
    lt_of_le_of_lt (Nat.mul_le_mul (show 2 * f.val + 1 ≤ 1024 by omega) (show 2 * n.val + 1 ≤ 1024 by omega)) (by norm_num)
  have hr : rest (ix2 f n) = IntOp.remsi .host (BitVec.ofNat 32 ((2 * f.val + 1) * (2 * n.val + 1))) 4096#32 := by
    rw [← oddPairs_apply]
    rfl
  rw [← word_mod _ hk, ← hr]
  rfl

theorem lit_minus_one : (Ideal.ofBits .f32 3212836864#32 : EReal) = ((-1 : ℝ) : EReal) := by
  simp [Ideal.ofBits, Ideal.ieee, -EReal.coe_mul, -EReal.coe_neg]; norm_num

theorem step_apply (i : S_.Idx) : step i = ((Real.pi / 2048 : ℝ) : EReal) := by
  show Ideal.div (Ideal.atan2 (Ideal.ofBits .f32 0#32) (Ideal.ofBits .f32 3212836864#32)) (Ideal.ofBits .f32 1157627904#32) = _
  rw [lit_zero, lit_minus_one, lit_2048]
  have h : Ideal.atan2 ((0 : ℝ) : EReal) ((-1 : ℝ) : EReal) = ((Real.pi : ℝ) : EReal) := by
    show (((if (0 : ℝ) < -1 then _ else if (-1 : ℝ) < 0 then (if (0 : ℝ) ≤ 0 then Real.arctan (0 / -1) + Real.pi else _) else _ : ℝ)) : EReal) = _
    rw [if_neg (by norm_num), if_pos (by norm_num), if_pos le_rfl, zero_div, Real.arctan_zero, zero_add]
  rw [h, Ideal.div_coe (by norm_num), ← EReal.coe_mul]
  congr 1
  ring

theorem angles_apply (f n : Fin 512) :
    angles (ix2 f n) = (((((2 * f.val + 1) * (2 * n.val + 1) % 4096 : ℕ) : ℝ) * (Real.pi / 2048) : ℝ) : EReal) := by
  have e : angles (ix2 f n) = FloatOps.sitofp FTy.f32 (residue (ix2 f n)) * step ix0 := by
    pointwise [angles]
  rw [e, residue_apply, step_apply, sitofp_ofNat _ (by omega), ← EReal.coe_mul]

/-- An angle of the table and the remainder's differ by whole turns. -/
theorem whole_turns (k : ℕ) : ((k : ℝ) * Real.pi / 2048) = ((k % 4096 : ℕ) : ℝ) * (Real.pi / 2048) + (k / 4096 : ℕ) * (2 * Real.pi) := by
  have h : (k : ℝ) = 4096 * ((k / 4096 : ℕ) : ℝ) + ((k % 4096 : ℕ) : ℝ) := by exact_mod_cast (Nat.div_add_mod k 4096).symm
  rw [h]
  ring

theorem cos_residue (f n : ℕ) : Real.cos (((2 * f + 1) * (2 * n + 1) % 4096 : ℕ) * (Real.pi / 2048)) = tabC f n := by
  rw [tabC, show (2 * (f : ℝ) + 1) * (2 * n + 1) * Real.pi / 2048 = (((2 * f + 1) * (2 * n + 1) : ℕ) : ℝ) * Real.pi / 2048 by push_cast; ring,
    whole_turns, Real.cos_add_nat_mul_two_pi]

theorem sin_residue (f n : ℕ) : Real.sin (((2 * f + 1) * (2 * n + 1) % 4096 : ℕ) * (Real.pi / 2048)) = tabS f n := by
  rw [tabS, show (2 * (f : ℝ) + 1) * (2 * n + 1) * Real.pi / 2048 = (((2 * f + 1) * (2 * n + 1) : ℕ) : ℝ) * Real.pi / 2048 by push_cast; ring,
    whole_turns, Real.sin_add_nat_mul_two_pi]

/-- The table: cosines in the first half of the lanes, sines in the second. -/
def table : FVec Ideal S512x1024 .bf16 :=
  truncf .bf16 (concatenate S512x1024 1 [⟨S512x512, Host.cos angles⟩, ⟨S512x512, Host.sin angles⟩]
    concatenates_S512x512_S512x512_S512x1024_d1) bitsLt_bf16_f32

theorem table_lower (f n : Fin 512) : table (ix2 f (lower n)) = ((tabC f n : ℝ) : EReal) := by
  have e : table (ix2 f (lower n)) = Ideal.cos (angles (ix2 f n)) := by
    pointwise [table, lower]
  rw [e, angles_apply, Ideal.cos_coe, cos_residue]

theorem table_upper (f n : Fin 512) : table (ix2 f (upper n)) = ((tabS f n : ℝ) : EReal) := by
  have e : table (ix2 f (upper n)) = Ideal.sin (angles (ix2 f n)) := by
    pointwise [table, upper]
  rw [e, angles_apply, Ideal.sin_coe, sin_residue]

end Cert.Hyena.Ker

end
-- ==== Proof.Hidden.lean ====
module

public import proofs.«01_k».proof.Proof.Blocks
public import proofs.«01_k».proof.Proof.Gen.KernelIdeal.Frame
public import Idealize.ShloMosaic.Lib.Pipeline.ReadBack

@[expose] public section

set_option maxRecDepth 16384

noncomputable section

namespace Cert.Hyena.Ker

open Cert.KernelIdeal Cert.KernelIdeal.Gen Idealize.ShloMosaic Idealize.ShloMosaic.TcCoe Idealize.SL.Sem

/-- One sine layer as the kernel computes it, its product taken with the remainders of the operands. -/
def sineRow {K : ℕ} (fr : Fin 64 → EReal) (w : Fin K → Fin 64 → EReal) (b : Fin 64 → EReal) (x : Fin K → EReal) (n : Fin 64) : EReal :=
  Ideal.sin (fr n * (∑ k, x k * w k n + ∑ k, (x k - x k) * w k n + ∑ k, x k * (w k n - w k n) + b n))

theorem sineRow_congr {K : ℕ} {fr : Fin 64 → EReal} {w w' : Fin K → Fin 64 → EReal} {b b' : Fin 64 → EReal} {x x' : Fin K → EReal} {n n' : Fin 64}
    (hw : ∀ k n, w k n = w' k n) (hb : ∀ n, b n = b' n) (hx : ∀ k, x k = x' k) (hn : n = n') : sineRow fr w b x n = sineRow fr w' b' x' n' := by
  rw [funext fun k => funext (hw k), funext hb, funext hx, hn]

/-- The hidden layer as the kernel leaves it. -/
def hidden (z : Vec Ideal S2048x128 .f32) (w1 : Vec Ideal S128x64 .f32) (b1 : Vec Ideal S1x64 .f32) (w2 : Vec Ideal S64x64 .f32)
    (b2 : Vec Ideal S1x64 .f32) (w3 : Vec Ideal S64x64 .f32) (b3 fr : Vec Ideal S1x64 .f32) : Vec Ideal S2048x64 .f32 := fun y =>
  sineRow (fun n => fr (ix2 0 n)) (fun k n => w3 (ix2 k n)) (fun n => b3 (ix2 0 n))
    (sineRow (fun n => fr (ix2 0 n)) (fun k n => w2 (ix2 k n)) (fun n => b2 (ix2 0 n))
      (sineRow (fun n => fr (ix2 0 n)) (fun k n => w1 (ix2 k n)) (fun n => b1 (ix2 0 n)) (fun k => z (ix2 (y 0) k)))) (y 1)

theorem rows_apply (zr : Vec Ideal S256x128 .f32) (x5 : Vec Ideal S128x64 .f32) (x6 : Vec Ideal S1x64 .f32) (x7 : Vec Ideal S64x64 .f32) (x8 : Vec Ideal S1x64 .f32) (x9 : Vec Ideal S64x64 .f32) (x10 fr : Vec Ideal S1x64 .f32) (r : Fin 256) (j : Fin 64) :
    k0_pay5 (F := Ideal) fr (k0_pay3 fr zr x5 x6 x7) (k0_pay4 x8) x9 x10 (ix2 r j)
      = sineRow (fun n => fr (ix2 0 n)) (fun k n => x9 (ix2 k n)) (fun n => x10 (ix2 0 n))
    (sineRow (fun n => fr (ix2 0 n)) (fun k n => x7 (ix2 k n)) (fun n => x8 (ix2 0 n))
      (sineRow (fun n => fr (ix2 0 n)) (fun k n => x5 (ix2 k n)) (fun n => x6 (ix2 0 n)) (fun k => zr (ix2 r k)))) j := by
  unfold sineRow
  pointwise [k0_pay5, k0_pay3, k0_pay4]

theorem trip_offsets : ∀ k : Fin k0_t1_loop.trips, k0_off1 k 0 = k0_off2 k 0 ∧ k0_off1 k 1 = 0 ∧ k0_off2 k 0 = 256 * k.val ∧ k0_off2 k 1 = 0 := by
  decide +kernel

theorem trip_pieces  (𝒱 : Variants) (c : Dev nD) (bd : Option 𝒱.V) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (arg0 : BitVec 32) (k0_h1 : k0_cond1 i = 1#1) (k0_h2 : k0_cond2 i = 1#1) (v713 : Vec Ideal S1x64 .f32)  (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 k0_h1 k0_h2 v713 (harg6.unread x4) (harg7.unread x5) (harg8.unread x6) (harg9.unread x7) (harg10.unread x8) (harg11.unread x9) (harg12.unread x10) k, ∀ x, p.2 x = hidden x4 x5 x6 x7 x8 x9 x10 v713 (p.1.emb x) := by
  unfold tripL_k0_t1 trip_k0_t1
  intro p hp x
  simp only [List.mem_singleton] at hp
  subst hp
  obtain ⟨h1, h2, h3, h4⟩ := trip_offsets k
  show k0_pay5 (F := Ideal) _ _ _ _ _ x = _
  simp only [View.readAt_eq_ld, Memref.IsWhole.read_unread]
  refine (congrArg _ (show x = ix2 (x 0) (x 1) from funext fun a => by match a with | ⟨0, _⟩ => rfl | ⟨1, _⟩ => rfl)).trans ((rows_apply _ _ _ _ _ _ _ _ _ _).trans ?_)
  simp only [View.readAt_eq_ld, Memref.IsWhole.read_unread]
  unfold hidden
  have e : ∀ {n m : ℕ} (X : Vec Ideal ⟨2, ![n, m]⟩ .f32) (inb) (p : Fin n) (q : Fin m),
      (View.ld X (Rect.unit (s := ⟨2, ![n, m]⟩) ![0, 0] ![n, m] inb) : Vec Ideal ⟨2, ![n, m]⟩ .f32) (ix2 p q) = X (ix2 p q) := fun X inb p q =>
    View.ld_unit_apply_of X _ _ inb _ _ fun b => by
      match b with
      | ⟨0, _⟩ => exact (Nat.zero_add _).symm
      | ⟨1, _⟩ => exact (Nat.zero_add _).symm
  have hx : ∀ q : Fin 128, (View.ld x4 (Rect.unit (s := S2048x128) (k0_off1 k) ![256, 128] (k0_off1_inb i k k0_h1 k0_h2)) : Vec Ideal S256x128 .f32) (ix2 (x 0) q)
      = x4 (ix2 ((Rect.unit (s := S2048x64) (k0_off2 k) ![256, 64] (k0_off2_inb i k k0_h1 k0_h2)).emb x 0) q) := fun q =>
    View.ld_unit_apply_of x4 _ _ _ _ _ fun b => by
      match b with
      | ⟨0, _⟩ => show k0_off2 k 0 + 1 * (x 0 : ℕ) = k0_off1 k 0 + (x 0 : ℕ); omega
      | ⟨1, _⟩ => show (q : ℕ) = k0_off1 k 1 + (q : ℕ); omega
  exact sineRow_congr (fun k n => e x9 _ k n) (fun n => e x10 _ 0 n)
    (fun n => sineRow_congr (fun k n => e x7 _ k n) (fun n => e x8 _ 0 n)
      (fun n => sineRow_congr (fun k n => e x5 _ k n) (fun n => e x6 _ 0 n) hx rfl) rfl)
    (Fin.ext (by show (x 1 : ℕ) = k0_off2 k 1 + 1 * (x 1 : ℕ); omega))

theorem loop_pieces  (𝒱 : Variants) (c : Dev nD) (bd : Option 𝒱.V) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (arg0 : BitVec 32) (k0_h1 : k0_cond1 i = 1#1) (k0_h2 : k0_cond2 i = 1#1) (v713 : Vec Ideal S1x64 .f32)  (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) : ∀ k : ℕ, k ≤ k0_t1_loop.trips →
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 k0_h1 k0_h2 v713 (harg6.unread x4) (harg7.unread x5) (harg8.unread x6) (harg9.unread x7) (harg10.unread x8) (harg11.unread x9) (harg12.unread x10) k, ∀ x, p.2 x = hidden x4 x5 x6 x7 x8 x9 x10 v713 (p.1.emb x)
  | 0, _ => fun p hp => absurd hp (by rw [pb_k0_t1.eq_1]; exact List.not_mem_nil)
  | k + 1, h => fun p hp => by
    rw [pb_k0_t1_succ (k := ⟨k, h⟩), List.mem_append] at hp
    rcases hp with hp | hp
    · exact trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 k0_h1 k0_h2 v713 x4 x5 x6 x7 x8 x9 x10 ⟨k, h⟩ p hp
    · exact loop_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 k0_h1 k0_h2 v713 x4 x5 x6 x7 x8 x9 x10 k (Nat.le_of_succ_le h) p hp

/-- The hidden layer the first point leaves. -/
theorem hidden_first (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 = hidden x4 x5 x6 x7 x8 x9 x10 x11 := by
  have hc := scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14
  revert hc
  frame_open
  frame_out
  exact fun hc => funext fun y => View.canon_apply_of_pieces _ _ (loop_pieces _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl) y (hc y)

theorem table_first_5 (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) : sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 = k0_pay7 (F := Ideal) := by
  frame_open
  frame_out

theorem table_first_6 (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) : sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 = k0_pay8 (F := Ideal) := by
  frame_open
  frame_out

theorem table_first_7 (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) : sout0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 = k0_pay9 (F := Ideal) := by
  frame_open
  frame_out

end Cert.Hyena.Ker

end
-- ==== Proof.Reference.lean ====
/- The reference's result, read: its composed term is cut into named stages, and each stage is read at an index. -/
module

public import proofs.«01_k».proof.Proof.Spec
public import proofs.«01_k».proof.Proof.Gen.ReferenceIdeal.Run

@[expose] public section

set_option maxRecDepth 16384

noncomputable section

namespace Cert.Hyena.Ref

open Cert.ReferenceIdeal Cert.ReferenceIdeal.Gen Idealize.ShloMosaic Idealize.ShloMosaic.TcCoe Idealize.SL.Sem Idealize.ShloMosaic.StableHlo

/-! ## The stages -/

/-- The positions of the sequence, scaled to `[0, 1]`. -/
def time : FVec Ideal S2048x1 .f32 :=
  (broadcastInDim S2048x1 ![0] bcast_S2048_S2048x1_0 (concatenate S2048 0 [⟨S2047, (addf (mulf (broadcastInDim S2047 ![0] bcast_S1_S2047_0 (shapeCast _ (id (constant S_ .f32 0x00000000#32)) shapeCasts_S_S1)) (subf (broadcastInDim S2047 ![] bcast_S_S2047 (constant S_ .f32 0x3F800000#32)) (Host.divf (sitofp .f32 (iotaInDim S2047 32 0)) (broadcastInDim S2047 ![] bcast_S_S2047 (constant S_ .f32 0x44FFE000#32))))) (mulf (broadcastInDim S2047 ![0] bcast_S1_S2047_0 (shapeCast _ (id (constant S_ .f32 0x3F800000#32)) shapeCasts_S_S1)) (Host.divf (sitofp .f32 (iotaInDim S2047 32 0)) (broadcastInDim S2047 ![] bcast_S_S2047 (constant S_ .f32 0x44FFE000#32)))))⟩, ⟨S1, (broadcastInDim S1 ![] bcast_S_S1 (id (constant S_ .f32 0x3F800000#32)))⟩] concatenates_S2047_S1_S2048_d0))

/-- The feature frequencies. -/
def bands : FVec Ideal S16 .f32 :=
  (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)

/-- The feature angles. -/
def angle : FVec Ideal S2048x16 .f32 :=
  (mulf (broadcastInDim S2048x16 ![0, 1] bcast_S2048x1_S2048x16_0_1 (broadcastInDim S2048x1 ![0] bcast_S2048_S2048x1_0 (Host.divf (mulf (broadcastInDim S2048 ![] bcast_S_S2048 (constant S_ .f32 0x40C90FDB#32)) (sitofp .f32 (iotaInDim S2048 32 0))) (broadcastInDim S2048 ![] bcast_S_S2048 (constant S_ .f32 0x45000000#32))))) (broadcastInDim S2048x16 ![0, 1] bcast_S1x16_S2048x16_0_1 (broadcastInDim S1x16 ![1] bcast_S16_S1x16_1 bands)))

/-- The positional features. -/
def features : FVec Ideal S2048x33 .f32 :=
  ((concatenate S2048x33 1 [⟨S2048x1, (time : (⟨S2048x1, .f32⟩ : BufTy).Contents (Elt Ideal))⟩, ⟨S2048x16, ((Host.cos angle) : (⟨S2048x16, .f32⟩ : BufTy).Contents (Elt Ideal))⟩, ⟨S2048x16, ((Host.negf (Host.sin angle)) : (⟨S2048x16, .f32⟩ : BufTy).Contents (Elt Ideal))⟩] concatenates_S2048x1_S2048x16_S2048x16_S2048x33_d1 : (⟨S2048x33, .f32⟩ : BufTy).Contents (Elt Ideal)))

/-- The decay rates of the columns. -/
def rates : FVec Ideal S1024 .f32 :=
  (Host.absf (concatenate S1024 0 [⟨S1023, (addf (mulf (broadcastInDim S1023 ![0] bcast_S1_S1023_0 (shapeCast _ (id (constant S_ .f32 0xC0447CBD#32)) shapeCasts_S_S1)) (subf (broadcastInDim S1023 ![] bcast_S_S1023 (constant S_ .f32 0x3F800000#32)) (Host.divf (sitofp .f32 (iotaInDim S1023 32 0)) (broadcastInDim S1023 ![] bcast_S_S1023 (constant S_ .f32 0x447FC000#32))))) (mulf (broadcastInDim S1023 ![0] bcast_S1_S1023_0 (shapeCast _ (id (constant S_ .f32 0xC1759BEC#32)) shapeCasts_S_S1)) (Host.divf (sitofp .f32 (iotaInDim S1023 32 0)) (broadcastInDim S1023 ![] bcast_S_S1023 (constant S_ .f32 0x447FC000#32)))))⟩, ⟨S1, (broadcastInDim S1 ![] bcast_S_S1 (id (constant S_ .f32 0xC1759BEC#32)))⟩] concatenates_S1023_S1_S1024_d0))

/-- The network's first layer. -/
def first (w : FVec Ideal S1x33x64 .f32) (b fr : FVec Ideal S1x64 .f32) : FVec Ideal S2048x64 .f32 :=
  (Host.sin (mulf (broadcastInDim S2048x64 ![0, 1] bcast_S1x64_S2048x64_0_1 (broadcastInDim S1x64 ![1] bcast_S64_S1x64_1 (shapeCast _ fr shapeCasts_S1x64_S64))) (addf (Host.dotGeneral dot_S2048x33_S33x64_S2048x64_1_0_0_1_n_n none features (shapeCast _ w shapeCasts_S1x33x64_S33x64)) (broadcastInDim S2048x64 ![0, 1] bcast_S1x64_S2048x64_0_1 (broadcastInDim S1x64 ![1] bcast_S64_S1x64_1 (shapeCast _ b shapeCasts_S1x64_S64))))))

/-- A later layer of the network. -/
def next (x : FVec Ideal S2048x64 .f32) (w : FVec Ideal S1x64x64 .f32) (b fr : FVec Ideal S1x64 .f32) : FVec Ideal S2048x64 .f32 :=
  (Host.sin (mulf (broadcastInDim S2048x64 ![0, 1] bcast_S1x64_S2048x64_0_1 (broadcastInDim S1x64 ![1] bcast_S64_S1x64_1 (shapeCast _ fr shapeCasts_S1x64_S64))) (addf (Host.dotGeneral dot_S2048x64_S64x64_S2048x64_1_0_0_1_n_n none x (shapeCast _ w shapeCasts_S1x64x64_S64x64)) (broadcastInDim S2048x64 ![0, 1] bcast_S1x64_S2048x64_0_1 (broadcastInDim S1x64 ![1] bcast_S64_S1x64_1 (shapeCast _ b shapeCasts_S1x64_S64))))))

/-- The taps of both sides. -/
def filters (h : FVec Ideal S2048x64 .f32) (w : FVec Ideal S1x64x2048 .f32) : FVec Ideal S2048x2x1024 .f32 :=
  (mulf (shapeCast _ (Host.dotGeneral dot_S2048x64_S64x2048_S2048x2048_1_0_0_1_n_n none h (shapeCast _ w shapeCasts_S1x64x2048_S64x2048)) shapeCasts_S2048x2048_S2048x2x1024) (broadcastInDim S2048x2x1024 ![0, 1, 2] bcast_S2048x1x1024_S2048x2x1024_0_1_2 (broadcastInDim S2048x1x1024 ![0, 2] bcast_S2048x1024_S2048x1x1024_0_2 (Host.exp (mulf (broadcastInDim S2048x1024 ![0, 1] bcast_S2048x1_S2048x1024_0_1 (Host.negf time)) (broadcastInDim S2048x1024 ![0, 1] bcast_S1x1024_S2048x1024_0_1 (broadcastInDim S1x1024 ![1] bcast_S1024_S1x1024_1 rates)))))))

/-- The forward side's taps. -/
def forward (k : FVec Ideal S2048x2x1024 .f32) : FVec Ideal S2048x1024 .f32 :=
  (shapeCast _ (extractStridedSlice S2048x1x1024 ![0, 0, 0] k slices_S2048x2x1024_S2048x1x1024_0_0_0) shapeCasts_S2048x1x1024_S2048x1024)

/-- The backward side's taps. -/
def backward (k : FVec Ideal S2048x2x1024 .f32) : FVec Ideal S2048x1024 .f32 :=
  (shapeCast _ (extractStridedSlice S2048x1x1024 ![0, 1, 0] k slices_S2048x2x1024_S2048x1x1024_0_1_0) shapeCasts_S2048x1x1024_S2048x1024)

/-- The two-sided filter, laid out by lag. -/
def lineOf (kf kb : FVec Ideal S2048x1024 .f32) : FVec Ideal S4095x1024 .f32 :=
  ((concatenate S4095x1024 0 [⟨S2047x1024, ((Host.reverse [0] (extractStridedSlice S2047x1024 ![1, 0] kb slices_S2048x1024_S2047x1024_1_0)) : (⟨S2047x1024, .f32⟩ : BufTy).Contents (Elt Ideal))⟩, ⟨S1x1024, ((addf (extractStridedSlice S1x1024 ![0, 0] kf slices_S2048x1024_S1x1024_0_0) (extractStridedSlice S1x1024 ![0, 0] kb slices_S2048x1024_S1x1024_0_0)) : (⟨S1x1024, .f32⟩ : BufTy).Contents (Elt Ideal))⟩, ⟨S2047x1024, ((extractStridedSlice S2047x1024 ![1, 0] kf slices_S2048x1024_S2047x1024_1_0) : (⟨S2047x1024, .f32⟩ : BufTy).Contents (Elt Ideal))⟩] concatenates_S2047x1024_S1x1024_S2047x1024_S4095x1024_d0 : (⟨S4095x1024, .f32⟩ : BufTy).Contents (Elt Ideal)))

/-- The row of the layout that each pair of positions reads. -/
def lags : IVec S2048x2048x1 32 :=
  (broadcastInDim S2048x2048x1 ![0, 1] bcast_S2048x2048_S2048x2048x1_0_1 (addi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 (constantI S_ 32 2047#32))))

/-- The convolution with a laid-out filter, its skip term and its gate. -/
def mix (u : FVec Ideal S16384x1024 .f32) (gate : FVec Ideal S16384x1024 .bf16) (d : FVec Ideal S1x1024 .f32) (line : FVec Ideal S4095x1024 .f32) : FVec Ideal S16384x1024 .bf16 :=
  truncf .bf16 (shapeCast _ (mulf (addf (transpose S8x2048x1024 [1, 2, 0] (Host.dotGeneral dot_S8x2048x1024_S2048x2048x1024_S1024x8x2048_1_1_0_0_2_2 none (shapeCast _ u shapeCasts_S16384x1024_S8x2048x1024) (Host.gather gather_S4095x1024_S2048x2048x1_S2048x2048x1024_2_0_n_n_0_2_11024 line lags)) transposes_S1024x8x2048_S8x2048x1024_1_2_0) (mulf (shapeCast _ u shapeCasts_S16384x1024_S8x2048x1024) (broadcastInDim S8x2048x1024 ![0, 1, 2] bcast_S1x1x1024_S8x2048x1024_0_1_2 (broadcastInDim S1x1x1024 ![2] bcast_S1024_S1x1x1024_2 (shapeCast _ d shapeCasts_S1x1024_S1024))))) (shapeCast _ (extf .f32 gate bitsLt_bf16_f32) shapeCasts_S16384x1024_S8x2048x1024)) shapeCasts_S8x2048x1024_S16384x1024) bitsLt_bf16_f32

/-- The two-sided filter of the arguments. -/
def line (a3 : FVec Ideal S1x33x64 .f32) (a4 : FVec Ideal S1x64 .f32) (a5 : FVec Ideal S1x64x64 .f32)
    (a6 : FVec Ideal S1x64 .f32) (a7 : FVec Ideal S1x64x64 .f32) (a8 : FVec Ideal S1x64 .f32)
    (a9 : FVec Ideal S1x64x2048 .f32) (a10 : FVec Ideal S1x64 .f32) : FVec Ideal S4095x1024 .f32 :=
  let k := filters (next (next (first a3 a4 a10) a5 a6 a10) a7 a8 a10) a9
  lineOf (forward k) (backward k)

/-- The reference's result is the last stage of the stages before it. -/
theorem result_stages (m : (ℓ : Loc nD τ sig) → Buf (Elt Ideal) ℓ) (c : Dev nD) :
    Cert.ReferenceIdeal.Value.res_out0 m c
      = mix (m ((c.tc : Thread nD τ).loc main_arg0)) (m ((c.tc : Thread nD τ).loc main_arg1)) (m ((c.tc : Thread nD τ).loc main_arg2))
          (line (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))) := by
  unfold Cert.ReferenceIdeal.Value.res_out0 Cert.ReferenceIdeal.Value.res_main_v96
  rfl

/-! ## The stages, read -/

theorem first_apply (w : FVec Ideal S1x33x64 .f32) (b fr : FVec Ideal S1x64 .f32) (l : Fin 2048) (n : Fin 64) :
    first w b fr (ix2 l n)
      = Ideal.sin (fr (ix2 0 n) * (∑ k, features (ix2 l k) * w (ix3 0 k n) + b (ix2 0 n))) := by
  pointwise [first]

theorem next_apply (x : FVec Ideal S2048x64 .f32) (w : FVec Ideal S1x64x64 .f32) (b fr : FVec Ideal S1x64 .f32)
    (l : Fin 2048) (n : Fin 64) :
    next x w b fr (ix2 l n)
      = Ideal.sin (fr (ix2 0 n) * (∑ k, x (ix2 l k) * w (ix3 0 k n) + b (ix2 0 n))) := by
  pointwise [next]

theorem filters_apply (h : FVec Ideal S2048x64 .f32) (w : FVec Ideal S1x64x2048 .f32) (l : Fin 2048) (s : Fin 2)
    (c : Fin 1024) :
    filters h w (ix3 l s c)
      = (∑ k, h (ix2 l k) * w (ix3 0 k (Net.sideCol s c))) * Ideal.exp (-time (ix2 l 0) * rates (ix1 c)) := by
  have hc : Net.sideCol s c = ⟨s.val * 1024 + c.val, by omega⟩ := Fin.ext (by simp [Net.sideCol]; omega)
  rw [hc]
  pointwise [filters]

theorem forward_apply (k : FVec Ideal S2048x2x1024 .f32) (l : Fin 2048) (c : Fin 1024) :
    forward k (ix2 l c) = k (ix3 l 0 c) := by
  pointwise [forward]

theorem backward_apply (k : FVec Ideal S2048x2x1024 .f32) (l : Fin 2048) (c : Fin 1024) :
    backward k (ix2 l c) = k (ix3 l 1 c) := by
  pointwise [backward]

/-- The layout of the two-sided filter, at the row of a lag. -/
theorem lineOf_apply (kf kb : FVec Ideal S2048x1024 .f32) (i j : Fin 2048) (c : Fin 1024) (q : Fin 4095)
    (hq : q.val = i.val + 2047 - j.val) :
    lineOf kf kb (ix2 q c)
      = if h : j < i then kf (ix2 ⟨i.val - j.val, by omega⟩ c)
        else if h' : i < j then kb (ix2 ⟨j.val - i.val, by omega⟩ c)
        else kf (ix2 0 c) + kb (ix2 0 c) := by
  pointwise [lineOf]
  rcases lt_trichotomy i.val j.val with h | h | h
  · rw [dif_pos (by omega), dif_neg (by omega), dif_pos (by omega)]
    congr 2
    simp only [List.mem_singleton, ↓reduceIte, Fin.mk.injEq, Fin.val_rev]
    omega
  · rw [dif_neg (by omega), dif_pos (by omega), dif_neg (by omega), dif_neg (by omega)]
    have e : (⟨q.val - 2047, by omega⟩ : Fin 2048) = 0 := Fin.ext (by simp; omega)
    rw [e]
  · rw [dif_neg (by omega), dif_neg (by omega), dif_pos (by omega)]
    congr 2
    simp only [Fin.mk.injEq]
    omega

/-- The gather of rows, at an index: the row that the start index names, clamped. -/
theorem gather_apply (line : FVec Ideal S4095x1024 .f32) (idx : IVec S2048x2048x1 32) (i j : Fin 2048) (c : Fin 1024) :
    Host.gather gather_S4095x1024_S2048x2048x1_S2048x2048x1024_2_0_n_n_0_2_11024 line idx (ix3 i j c)
      = line (ix2 ⟨min (idx (ix3 i j 0)).toInt.toNat 4094, by omega⟩ c) := by
  unfold Host.gather
  congr 1
  funext a
  refine Fin.ext ?_
  show GatherDims.start _ _ idx a + GatherDims.batchCoord _ _ a + GatherDims.offCoord _ _ a = _
  rw [GatherDims.batchCoord_eq_zero _ _ _ (fun h => absurd h List.not_mem_nil)]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4095x1024_S2048x2048x1_S2048x2048x1024_2_0_n_n_0_2_11024.startIndexMap
      from List.mem_singleton.mpr rfl)]
    have hsi : gather_S4095x1024_S2048x2048x1_S2048x2048x1024_2_0_n_n_0_2_11024.siIdx (ix3 i j c)
        ⟨List.idxOf (0 : Fin 2) gather_S4095x1024_S2048x2048x1_S2048x2048x1024_2_0_n_n_0_2_11024.startIndexMap,
          List.idxOf_lt_length_iff.2 (List.mem_singleton.mpr rfl)⟩ = ix3 i j 0 := by
      funext b
      refine Fin.ext ?_
      match b with
      | ⟨0, _⟩ => rfl
      | ⟨1, _⟩ => rfl
      | ⟨2, _⟩ => rfl
    rw [hsi]
    rfl
  · unfold GatherDims.start
    rw [dif_neg (show (1 : Fin 2) ∉ gather_S4095x1024_S2048x2048x1_S2048x2048x1024_2_0_n_n_0_2_11024.startIndexMap
      from by decide)]
    simp only [Nat.zero_add, Nat.add_zero]
    rfl

/-- The row that a pair of positions reads: its lag, counted from the most negative one. -/
theorem lags_toNat (i j : Fin 2048) : min (lags (ix3 i j 0)).toInt.toNat 4094 = i.val + 2047 - j.val := by
  have e : lags (ix3 i j 0) = BitVec.ofNat 32 (i.val + 2047 - j.val) := by
    pointwise [lags]
    simp only [IntOp.addi, IntOp.subi]
    apply BitVec.eq_of_toNat_eq
    simp only [BitVec.toNat_add, BitVec.toNat_sub, BitVec.toNat_ofNat]
    omega
  rw [e, BitVec.toInt_eq_toNat_of_lt (by simp only [BitVec.toNat_ofNat]; omega)]
  simp only [BitVec.toNat_ofNat, Int.toNat_natCast]
  omega

theorem mix_apply (u : FVec Ideal S16384x1024 .f32) (gate : FVec Ideal S16384x1024 .bf16) (d : FVec Ideal S1x1024 .f32)
    (line : FVec Ideal S4095x1024 .f32) (r : Fin 16384) (c : Fin 1024) :
    mix u gate d line (ix2 r c)
      = (∑ j : Fin 2048, u (ix2 ⟨r.val / 2048 * 2048 + j.val, by omega⟩ c)
            * line (ix2 ⟨r.val % 2048 + 2047 - j.val, by omega⟩ c)
          + u (ix2 r c) * d (ix2 0 c)) * gate (ix2 r c) := by
  pointwise [mix]
  congr 2
  refine Finset.sum_congr rfl fun j _ => ?_
  rw [gather_apply]
  congr 3
  exact Fin.ext (lags_toNat _ _)

/-! ## The host's own arrays are real -/

theorem time_real : AllReal time :=
  AllReal.broadcast _ _ (fun i => concatenate_forall _ _ _ _ (by
    simp only [List.mem_cons, List.not_mem_nil, or_false]
    rintro p (rfl | rfl)
    · exact ((AllReal.constant ⟨_, lit_zero⟩).reshape _ |>.broadcast _ _ |>.mulf
        (((AllReal.constant ⟨_, lit_one⟩).broadcast _ _).subf
          ((AllReal.sitofp _).divf (r := 2047) (by norm_num) fun _ => lit_2047))).addf
        ((AllReal.constant ⟨_, lit_one⟩).reshape _ |>.broadcast _ _ |>.mulf
          ((AllReal.sitofp _).divf (r := 2047) (by norm_num) fun _ => lit_2047))
    · exact fun _ => ⟨_, lit_one⟩) i)

theorem bands_real : AllReal bands :=
  fun i => concatenate_forall _ _ _ _ (by
    simp only [List.mem_cons, List.not_mem_nil, or_false]
    rintro p (rfl | rfl)
    · exact ((AllReal.constant isReal_first_band).reshape _ |>.broadcast _ _ |>.mulf
        (((AllReal.constant ⟨_, lit_one⟩).broadcast _ _).subf
          ((AllReal.sitofp _).divf (r := 15) (by norm_num) fun _ => lit_15))).addf
        ((AllReal.sitofp _).reshape _ |>.broadcast _ _ |>.mulf
          ((AllReal.sitofp _).divf (r := 15) (by norm_num) fun _ => lit_15))
    · exact fun _ => ⟨_, rfl⟩) i

theorem rates_real : AllReal rates :=
  AllReal.absf (fun i => concatenate_forall _ _ _ _ (by
    simp only [List.mem_cons, List.not_mem_nil, or_false]
    rintro p (rfl | rfl)
    · exact ((AllReal.constant isReal_first_rate).reshape _ |>.broadcast _ _ |>.mulf
        (((AllReal.constant ⟨_, lit_one⟩).broadcast _ _).subf
          ((AllReal.sitofp _).divf (r := 1023) (by norm_num) fun _ => lit_1023))).addf
        ((AllReal.constant isReal_last_rate).reshape _ |>.broadcast _ _ |>.mulf
          ((AllReal.sitofp _).divf (r := 1023) (by norm_num) fun _ => lit_1023))
    · exact fun _ => isReal_last_rate) i)

theorem angle_real : AllReal angle :=
  ((((AllReal.constant isReal_two_pi).broadcast _ _).mulf (AllReal.sitofp _)).divf (r := 2048) (by norm_num)
    (fun _ => lit_2048) |>.broadcast _ _ |>.broadcast _ _).mulf (bands_real.broadcast _ _ |>.broadcast _ _)

theorem features_real : AllReal features :=
  fun i => concatenate_forall _ _ _ _ (by
    simp only [List.mem_cons, List.not_mem_nil, or_false]
    rintro p (rfl | rfl | rfl)
    · exact time_real
    · exact angle_real.cos
    · exact angle_real.sin.negf) i

/-! ## The result -/

/-- The filter network of the arguments. -/
def netOf (a3 : FVec Ideal S1x33x64 .f32) (a4 : FVec Ideal S1x64 .f32) (a5 : FVec Ideal S1x64x64 .f32)
    (a6 : FVec Ideal S1x64 .f32) (a7 : FVec Ideal S1x64x64 .f32) (a8 : FVec Ideal S1x64 .f32)
    (a9 : FVec Ideal S1x64x2048 .f32) (a10 : FVec Ideal S1x64 .f32) : Net where
  feat l k := (features (ix2 l k)).toReal
  time l := (time (ix2 l 0)).toReal
  rate c := (rates (ix1 c)).toReal
  fr n := (a10 (ix2 0 n)).toReal
  w1 k n := (a3 (ix3 0 k n)).toReal
  b1 n := (a4 (ix2 0 n)).toReal
  w2 k n := (a5 (ix3 0 k n)).toReal
  b2 n := (a6 (ix2 0 n)).toReal
  w3 k n := (a7 (ix3 0 k n)).toReal
  b3 n := (a8 (ix2 0 n)).toReal
  w4 k n := (a9 (ix3 0 k n)).toReal

/-- A sine layer of real rows is the real layer. -/
theorem layer_real {K : ℕ} (fr : Fin 64 → EReal) (w : Fin K → Fin 64 → EReal) (b : Fin 64 → EReal) (x : Fin K → ℝ) (n : Fin 64)
    (hf : IsReal (fr n)) (hw : ∀ k, IsReal (w k n)) (hb : IsReal (b n)) :
    Ideal.sin (fr n * (∑ k, (x k : EReal) * w k n + b n))
      = ((Net.layer (fun n => (fr n).toReal) (fun k n => (w k n).toReal) (fun n => (b n).toReal) x n : ℝ) : EReal) := by
  rw [← hf.coe_toReal, ← hb.coe_toReal, Finset.sum_congr rfl fun k _ => by rw [← (hw k).coe_toReal], coe_dot]
  rw [← EReal.coe_add, ← EReal.coe_mul, Ideal.sin_coe]
  rfl

section

variable (a3 : FVec Ideal S1x33x64 .f32) (a4 : FVec Ideal S1x64 .f32) (a5 : FVec Ideal S1x64x64 .f32)
  (a6 : FVec Ideal S1x64 .f32) (a7 : FVec Ideal S1x64x64 .f32) (a8 : FVec Ideal S1x64 .f32)
  (a9 : FVec Ideal S1x64x2048 .f32) (a10 : FVec Ideal S1x64 .f32)
  (h3 : AllReal a3) (h4 : AllReal a4) (h5 : AllReal a5) (h6 : AllReal a6) (h7 : AllReal a7) (h8 : AllReal a8)
  (h9 : AllReal a9) (h10 : AllReal a10)

include h3 h4 h5 h6 h7 h8 h10 in
theorem hidden_apply (l : Fin 2048) (n : Fin 64) :
    next (next (first a3 a4 a10) a5 a6 a10) a7 a8 a10 (ix2 l n)
      = (((netOf a3 a4 a5 a6 a7 a8 a9 a10).hid l n : ℝ) : EReal) := by
  let N := netOf a3 a4 a5 a6 a7 a8 a9 a10
  have e1 : ∀ n, first a3 a4 a10 (ix2 l n) = ((Net.layer N.fr N.w1 N.b1 (N.feat l) n : ℝ) : EReal) := fun n => by
    rw [first_apply, Finset.sum_congr rfl fun k _ => by rw [← (features_real (ix2 l k)).coe_toReal]]
    exact layer_real (fun n => a10 (ix2 0 n)) (fun k n => a3 (ix3 0 k n)) (fun n => a4 (ix2 0 n)) _ n (h10 _) (fun _ => h3 _) (h4 _)
  have e2 : ∀ n, next (first a3 a4 a10) a5 a6 a10 (ix2 l n)
      = ((Net.layer N.fr N.w2 N.b2 (Net.layer N.fr N.w1 N.b1 (N.feat l)) n : ℝ) : EReal) := fun n => by
    rw [next_apply, Finset.sum_congr rfl fun k _ => by rw [e1 k]]
    exact layer_real (fun n => a10 (ix2 0 n)) (fun k n => a5 (ix3 0 k n)) (fun n => a6 (ix2 0 n)) _ n (h10 _) (fun _ => h5 _) (h6 _)
  rw [next_apply, Finset.sum_congr rfl fun k _ => by rw [e2 k]]
  exact layer_real (fun n => a10 (ix2 0 n)) (fun k n => a7 (ix3 0 k n)) (fun n => a8 (ix2 0 n)) _ n (h10 _) (fun _ => h7 _) (h8 _)

include h3 h4 h5 h6 h7 h8 h9 h10 in
theorem tap_apply (l : Fin 2048) (s : Fin 2) (c : Fin 1024) :
    filters (next (next (first a3 a4 a10) a5 a6 a10) a7 a8 a10) a9 (ix3 l s c)
      = (((netOf a3 a4 a5 a6 a7 a8 a9 a10).tap s c l : ℝ) : EReal) := by
  rw [filters_apply, ← (time_real (ix2 l 0)).coe_toReal, ← (rates_real (ix1 c)).coe_toReal,
    Finset.sum_congr rfl fun k _ => by
      rw [hidden_apply a3 a4 a5 a6 a7 a8 a9 a10 h3 h4 h5 h6 h7 h8 h10, ← (h9 _).coe_toReal],
    coe_dot, ← EReal.coe_neg, ← EReal.coe_mul, Ideal.exp_coe, ← EReal.coe_mul]
  rfl

include h3 h4 h5 h6 h7 h8 h9 h10 in
/-- The row of the layout that a pair of positions reads holds the two-sided filter at their lag. -/
theorem line_apply (i j : Fin 2048) (c : Fin 1024) :
    line a3 a4 a5 a6 a7 a8 a9 a10 (ix2 ⟨i.val + 2047 - j.val, by omega⟩ c)
      = (((netOf a3 a4 a5 a6 a7 a8 a9 a10).filter c ((i.val : ℤ) - j.val) : ℝ) : EReal) := by
  have hf : ∀ l : Fin 2048, ∀ s, filters (next (next (first a3 a4 a10) a5 a6 a10) a7 a8 a10) a9 (ix3 l s c)
      = (((netOf a3 a4 a5 a6 a7 a8 a9 a10).taps s c l.val : ℝ) : EReal) := fun l s => by
    rw [tap_apply a3 a4 a5 a6 a7 a8 a9 a10 h3 h4 h5 h6 h7 h8 h9 h10, Net.taps, dif_pos l.isLt]
  rw [line, lineOf_apply _ _ i j c _ rfl, Net.filter]
  simp only [forward_apply, backward_apply, hf, twoSided]
  rcases lt_trichotomy i j with h | h | h
  · have h' : i.val < j.val := h
    rw [dif_neg (by omega), dif_pos h, if_neg (by omega), if_pos (by omega)]
    congr 3
    omega
  · subst h
    rw [dif_neg (lt_irrefl _), dif_neg (lt_irrefl _), if_neg (by omega), if_neg (by omega), EReal.coe_add]
    rfl
  · have h' : j.val < i.val := h
    rw [dif_pos h, if_pos (by omega)]
    congr 3
    omega

include h3 h4 h5 h6 h7 h8 h9 h10 in
/-- The reference's result at a row and column. -/
theorem result_apply (u : FVec Ideal S16384x1024 .f32) (gate : FVec Ideal S16384x1024 .bf16) (d : FVec Ideal S1x1024 .f32)
    (hu : AllReal u) (b : Fin 8) (i : Fin 2048) (c : Fin 1024) :
    mix u gate d (line a3 a4 a5 a6 a7 a8 a9 a10) (ix2 ⟨b.val * 2048 + i.val, by omega⟩ c)
      = result (netOf a3 a4 a5 a6 a7 a8 a9 a10) c (fun j => (u (ix2 ⟨b.val * 2048 + j.val, by omega⟩ c)).toReal)
          (d (ix2 0 c)) (gate (ix2 ⟨b.val * 2048 + i.val, by omega⟩ c)) i := by
  have hb : (b.val * 2048 + i.val) / 2048 = b.val := by omega
  have hi : (b.val * 2048 + i.val) % 2048 = i.val := by omega
  have hs : ∀ j : Fin 2048, u (ix2 ⟨(b.val * 2048 + i.val) / 2048 * 2048 + j.val, by omega⟩ c)
        * line a3 a4 a5 a6 a7 a8 a9 a10 (ix2 ⟨(b.val * 2048 + i.val) % 2048 + 2047 - j.val, by omega⟩ c)
      = (((netOf a3 a4 a5 a6 a7 a8 a9 a10).filter c ((i.val : ℤ) - j.val) : ℝ) : EReal)
        * (((u (ix2 ⟨b.val * 2048 + j.val, by omega⟩ c)).toReal : ℝ) : EReal) := fun j => by
    simp only [hb, hi]
    rw [line_apply a3 a4 a5 a6 a7 a8 a9 a10 h3 h4 h5 h6 h7 h8 h9 h10, (hu _).coe_toReal, mul_comm]
  rw [mix_apply, result, (hu _).coe_toReal, Finset.sum_congr rfl fun j _ => hs j, coe_dot]

end

end Cert.Hyena.Ref

end
-- ==== Proof.Network.lean ====
module

public import proofs.«01_k».proof.Proof.Hidden
public import proofs.«01_k».proof.Proof.Reference

@[expose] public section

set_option maxRecDepth 16384

noncomputable section

namespace Cert.Hyena.Ker

open Cert.KernelIdeal Cert.KernelIdeal.Gen Idealize.ShloMosaic Idealize.ShloMosaic.TcCoe Idealize.SL.Sem

theorem remainder_zero {x : EReal} (h : IsReal x) : x - x = 0 := by
  obtain ⟨r, rfl⟩ := h
  rw [← EReal.coe_sub, sub_self]
  rfl

/-- The remainders of real operands vanish. -/
theorem split_total {K : ℕ} (x w : Fin K → EReal) (hx : ∀ k, IsReal (x k)) (hw : ∀ k, IsReal (w k)) :
    ∑ k, x k * w k + ∑ k, (x k - x k) * w k + ∑ k, x k * (w k - w k) = ∑ k, x k * w k := by
  simp only [remainder_zero (hx _), remainder_zero (hw _), zero_mul, mul_zero, Finset.sum_const_zero, add_zero]

theorem sineRow_eq {K : ℕ} (fr : Fin 64 → EReal) (w : Fin K → Fin 64 → EReal) (b : Fin 64 → EReal) (x : Fin K → EReal) (n : Fin 64)
    (hx : ∀ k, IsReal (x k)) (hw : ∀ k, IsReal (w k n)) :
    sineRow fr w b x n = Ideal.sin (fr n * (∑ k, x k * w k n + b n)) := by
  rw [sineRow, split_total x (fun k => w k n) hx hw]

/-- A sum over the padded lanes is the sum over the lanes before the padding. -/
theorem padded_sum (x w : Fin 128 → EReal) (x' w' : Fin 33 → EReal)
    (hx : ∀ k, x k = if h : k.val < 33 then x' ⟨k.val, h⟩ else 0) (hw : ∀ k, w k = if h : k.val < 33 then w' ⟨k.val, h⟩ else 0) :
    ∑ k, x k * w k = ∑ k, x' k * w' k := by
  refine (Fin.sum_univ_add (a := 33) (b := 95) (fun k => x k * w k)).trans ?_
  have h1 : ∀ k : Fin 33, x (Fin.castAdd 95 k) * w (Fin.castAdd 95 k) = x' k * w' k := fun k => by
    rw [hx, hw, dif_pos (show (Fin.castAdd 95 k).val < 33 from k.isLt), dif_pos (show (Fin.castAdd 95 k).val < 33 from k.isLt)]
    rfl
  have h2 : ∀ k : Fin 95, x (Fin.natAdd 33 k) * w (Fin.natAdd 33 k) = 0 := fun k => by
    rw [hx, dif_neg (show ¬ (Fin.natAdd 33 k).val < 33 from fun h => by
      have h' : 33 + k.val < 33 := h
      omega), zero_mul]
  rw [Finset.sum_congr rfl fun k _ => h1 k, Finset.sum_congr rfl fun k _ => h2 k, Finset.sum_const_zero, add_zero]

section

variable (a3 : FVec Ideal Cert.ReferenceIdeal.S1x33x64 .f32) (a4 : FVec Ideal Cert.ReferenceIdeal.S1x64 .f32)
  (a5 : FVec Ideal Cert.ReferenceIdeal.S1x64x64 .f32) (a6 : FVec Ideal Cert.ReferenceIdeal.S1x64 .f32)
  (a7 : FVec Ideal Cert.ReferenceIdeal.S1x64x64 .f32) (a8 : FVec Ideal Cert.ReferenceIdeal.S1x64 .f32)
  (a9 : FVec Ideal Cert.ReferenceIdeal.S1x64x2048 .f32) (a10 : FVec Ideal Cert.ReferenceIdeal.S1x64 .f32)
  (h3 : AllReal a3) (h4 : AllReal a4) (h5 : AllReal a5) (h6 : AllReal a6) (h7 : AllReal a7) (h8 : AllReal a8)
  (h9 : AllReal a9) (h10 : AllReal a10)
  (z : Vec Ideal S2048x128 .f32)
  (hz : ∀ l k, z (ix2 l k) = if h : k.val < 33 then Ref.features (ix2 l ⟨k.val, h⟩) else 0)

include h3 h4 h5 h6 h7 h8 h10 hz in
/-- The hidden layer the kernel computes from the padded features and weights is the network's. -/
theorem hidden_real (w1 : Vec Ideal S128x64 .f32) (b1 : Vec Ideal S1x64 .f32) (w2 : Vec Ideal S64x64 .f32)
    (b2 : Vec Ideal S1x64 .f32) (w3 : Vec Ideal S64x64 .f32) (b3 fr : Vec Ideal S1x64 .f32)
    (hw1 : ∀ k n, w1 (ix2 k n) = if h : k.val < 33 then a3 (ix3 0 ⟨k.val, h⟩ n) else 0)
    (hb1 : ∀ n, b1 (ix2 0 n) = a4 (ix2 0 n)) (hw2 : ∀ k n, w2 (ix2 k n) = a5 (ix3 0 k n)) (hb2 : ∀ n, b2 (ix2 0 n) = a6 (ix2 0 n))
    (hw3 : ∀ k n, w3 (ix2 k n) = a7 (ix3 0 k n)) (hb3 : ∀ n, b3 (ix2 0 n) = a8 (ix2 0 n)) (hfr : ∀ n, fr (ix2 0 n) = a10 (ix2 0 n))
    (l : Fin 2048) (j : Fin 64) :
    hidden z w1 b1 w2 b2 w3 b3 fr (ix2 l j) = (((Ref.netOf a3 a4 a5 a6 a7 a8 a9 a10).hid l j : ℝ) : EReal) := by
  let N := Ref.netOf a3 a4 a5 a6 a7 a8 a9 a10
  have e1 : ∀ n, sineRow (fun n => fr (ix2 0 n)) (fun k n => w1 (ix2 k n)) (fun n => b1 (ix2 0 n)) (fun k => z (ix2 l k)) n
      = ((Net.layer N.fr N.w1 N.b1 (N.feat l) n : ℝ) : EReal) := fun n => by
    rw [sineRow_eq _ _ _ _ _ (fun k => by
        show IsReal (z (ix2 l k))
        rw [hz]; split
        · exact Ref.features_real _
        · exact ⟨0, rfl⟩) (fun k => by
        show IsReal (w1 (ix2 k n))
        rw [hw1]; split
        · exact h3 _
        · exact ⟨0, rfl⟩),
      padded_sum (fun k => z (ix2 l k)) (fun k => w1 (ix2 k n)) (fun k => Ref.features (ix2 l k)) (fun k => a3 (ix3 0 k n)) (hz l) (fun k => hw1 k n),
      hfr, hb1, Finset.sum_congr rfl fun k _ => by rw [← (Ref.features_real (ix2 l k)).coe_toReal]]
    exact Ref.layer_real (fun n => a10 (ix2 0 n)) (fun k n => a3 (ix3 0 k n)) (fun n => a4 (ix2 0 n)) _ n (h10 _) (fun _ => h3 _) (h4 _)
  have step : ∀ (w : Vec Ideal S64x64 .f32) (b : Vec Ideal S1x64 .f32) (a : FVec Ideal Cert.ReferenceIdeal.S1x64x64 .f32)
      (a' : FVec Ideal Cert.ReferenceIdeal.S1x64 .f32) (x : Fin 64 → EReal) (y : Fin 64 → ℝ) (n : Fin 64),
      (∀ k n, w (ix2 k n) = a (ix3 0 k n)) → (∀ n, b (ix2 0 n) = a' (ix2 0 n)) → AllReal a → AllReal a' → (∀ k, x k = ((y k : ℝ) : EReal)) →
      sineRow (fun n => fr (ix2 0 n)) (fun k n => w (ix2 k n)) (fun n => b (ix2 0 n)) x n
        = ((Net.layer N.fr (fun k n => (a (ix3 0 k n)).toReal) (fun n => (a' (ix2 0 n)).toReal) y n : ℝ) : EReal) := by
    intro w b a a' x y n hw hb ha ha' hx
    rw [sineRow_eq _ _ _ _ _ (fun k => ⟨y k, hx k⟩) (fun k => by show IsReal (w (ix2 k n)); rw [hw]; exact ha _), hfr, hb,
      Finset.sum_congr rfl fun k _ => by rw [hx k, hw k n]]
    exact Ref.layer_real (fun n => a10 (ix2 0 n)) (fun k n => a (ix3 0 k n)) (fun n => a' (ix2 0 n)) _ n (h10 _) (fun _ => ha _) (ha' _)
  exact step w3 b3 a7 a8 _ _ j hw3 hb3 h7 h8 fun k => step w2 b2 a5 a6 _ _ k hw2 hb2 h5 h6 e1

/-- The taps of a column tile as the kernel computes them. -/
theorem taps_apply (H : Vec Ideal S2048x64 .f32) (Z : Vec Ideal S2048x1 .f32) (D : Vec Ideal S1x256 .f32) (W : Vec Ideal S64x256 .f32)
    (n : Fin 2048) (l : Fin 256) :
    k0_pay11 (F := Ideal) H Z D W (ix2 n l)
      = (∑ k, H (ix2 n k) * W (ix2 k l) + ∑ k, (H (ix2 n k) - H (ix2 n k)) * W (ix2 k l) + ∑ k, H (ix2 n k) * (W (ix2 k l) - W (ix2 k l)))
        * Ideal.exp ((0 - Z (ix2 n 0)) * D (ix2 0 l)) := by
  pointwise [k0_pay11, k0_pay10]

/-- The first feature is the position. -/
theorem features_first (l : Fin 2048) (h : 0 < 33) : Ref.features (ix2 l ⟨0, h⟩) = Ref.time (ix2 l 0) := by
  pointwise [Ref.features]

include h9 hz in
/-- The taps of side `s` and column `c`, from the hidden layer and a block of the last weight matrix. -/
theorem taps_real (H : Vec Ideal S2048x64 .f32) (D : Vec Ideal S1x256 .f32) (W : Vec Ideal S64x256 .f32) (s : Fin 2) (c : Fin 256 → Fin 1024) (inb)
    (hH : ∀ l j, H (ix2 l j) = (((Ref.netOf a3 a4 a5 a6 a7 a8 a9 a10).hid l j : ℝ) : EReal))
    (hD : ∀ l, D (ix2 0 l) = Ref.rates (ix1 (c l))) (hW : ∀ k l, W (ix2 k l) = a9 (ix3 0 k (Net.sideCol s (c l))))
    (n : Fin 2048) (l : Fin 256) :
    k0_pay11 (F := Ideal) H (View.ld z (Rect.unit (s := S2048x128) ![0, 0] ![2048, 1] inb)) D W (ix2 n l)
      = (((Ref.netOf a3 a4 a5 a6 a7 a8 a9 a10).taps s (c l) n : ℝ) : EReal) := by
  have e : (View.ld z (Rect.unit (s := S2048x128) ![0, 0] ![2048, 1] inb) : Vec Ideal S2048x1 .f32) (ix2 n 0) = Ref.time (ix2 n 0) :=
    (View.ld_unit_apply_of z _ _ inb (ix2 n (0 : Fin 1)) (ix2 n (0 : Fin 128)) (fun b => by
      match b with
      | ⟨0, _⟩ => exact (Nat.zero_add _).symm
      | ⟨1, _⟩ => rfl)).trans ((hz n 0).trans ((dif_pos (by decide)).trans (features_first n (by decide))))
  rw [taps_apply, split_total _ _ (fun k => ⟨_, hH n k⟩) (fun k => by rw [hW]; exact h9 _), e, hD,
    ← (Ref.time_real (ix2 n 0)).coe_toReal, ← (Ref.rates_real (ix1 (c l))).coe_toReal,
    Finset.sum_congr rfl fun k _ => by rw [hH, hW, ← (h9 _).coe_toReal], coe_dot, Net.taps, dif_pos n.isLt, zero_sub,
    ← EReal.coe_neg, ← EReal.coe_mul, Ideal.exp_coe, ← EReal.coe_mul]
  rfl

end

end Cert.Hyena.Ker

end
-- ==== Proof.Points.lean ====
module

public import proofs.«01_k».proof.Proof.Blocks
public import proofs.«01_k».proof.Proof.Gen.KernelIdeal.Frame
public import Idealize.ShloMosaic.Lib.Pipeline.ReadBack

@[expose] public section

set_option maxRecDepth 16384

noncomputable section

namespace Cert.Hyena.Ker

open Cert.KernelIdeal Cert.KernelIdeal.Gen Idealize.ShloMosaic Idealize.ShloMosaic.TcCoe Idealize.SL.Sem

/-- A load of one filter block is that block of what was stored. -/
theorem readCov_lag {κ : Kind} {sp : Space} (v : View sig κ sp S7x512x256 .bf16) (L : List (View.Piece (Elt Ideal) S7x512x256 .bf16)) (k : ℕ) (inb) :
    (v.readCov L (Rect.unit (s := S7x512x256) ![k, 0, 0] ![1, 512, 256] inb).toLoadRect : Vec Ideal S1x512x256 .bf16)
      = View.ld (View.canon L) (Rect.unit (s := S7x512x256) ![k, 0, 0] ![1, 512, 256] inb) :=
  View.readCov_eq_canon' v _ _

/-- The output block of a point that keeps the filter's spectra. -/
theorem out_keep (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : ¬cond0_0 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) (xs2 : Vec Ideal S7x512x256 .bf16) (xs3 : Vec Ideal S7x512x256 .bf16) (xs4 : Vec Ideal S2048x64 .f32) (xs5 : Vec Ideal S512x128 .f32) (xs6 : Vec Ideal S512x128 .f32) (xs7 : Vec Ideal S512x128 .f32) (a : Fin 4) (r : Fin 512) (l : Fin 256) (y : S2048x256.Idx)
    (hy0 : (y 0 : ℕ) = 512 * a.val + r.val) (hy1 : (y 1 : ℕ) = l.val)
    : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs2 xs3 xs4 xs5 xs6 xs7 y = blockRow x3 x0 x2 x1 xs2 xs3 a r l := by
  frame_open
  simp (disch := decide) only [↓ View.readCov_skip, ↓ View.readCov_cons_toLoadRect, ↓ View.readCov_fill]
  frame_out
  refine four_tiles _ _ _ _ _ _ _ _ a r l y hy0 hy1 _ ?_ ?_ ?_ ?_ <;> intro ha <;> subst ha
  · rw [tile_first, tile_pair]
    simp only [mixRe_0, mixIm_0, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag xs2 0 _ _ _ (by decide : 0 < 7), ld_lag xs2 1 _ _ _ (by decide : 1 < 7), ld_lag xs2 2 _ _ _ (by decide : 2 < 7), ld_lag xs2 3 _ _ _ (by decide : 3 < 7), ld_lag xs3 0 _ _ _ (by decide : 0 < 7), ld_lag xs3 1 _ _ _ (by decide : 1 < 7), ld_lag xs3 2 _ _ _ (by decide : 2 < 7), ld_lag xs3 3 _ _ _ (by decide : 3 < 7)]
    rw [ld_rows _ _ _ _ _ (by decide), ld_rows _ _ _ _ _ (by decide)]
    rfl
  · rw [tile_second, tile_pair]
    simp only [mixRe_1, mixIm_1, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag xs2 1 _ _ _ (by decide : 1 < 7), ld_lag xs2 2 _ _ _ (by decide : 2 < 7), ld_lag xs2 3 _ _ _ (by decide : 3 < 7), ld_lag xs2 4 _ _ _ (by decide : 4 < 7), ld_lag xs3 1 _ _ _ (by decide : 1 < 7), ld_lag xs3 2 _ _ _ (by decide : 2 < 7), ld_lag xs3 3 _ _ _ (by decide : 3 < 7), ld_lag xs3 4 _ _ _ (by decide : 4 < 7)]
    rw [ld_rows _ _ _ _ _ (by decide), ld_rows _ _ _ _ _ (by decide)]
    rfl
  · rw [tile_third, tile_pair]
    simp only [mixRe_2, mixIm_2, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag xs2 2 _ _ _ (by decide : 2 < 7), ld_lag xs2 3 _ _ _ (by decide : 3 < 7), ld_lag xs2 4 _ _ _ (by decide : 4 < 7), ld_lag xs2 5 _ _ _ (by decide : 5 < 7), ld_lag xs3 2 _ _ _ (by decide : 2 < 7), ld_lag xs3 3 _ _ _ (by decide : 3 < 7), ld_lag xs3 4 _ _ _ (by decide : 4 < 7), ld_lag xs3 5 _ _ _ (by decide : 5 < 7)]
    rw [ld_rows _ _ _ _ _ (by decide), ld_rows _ _ _ _ _ (by decide)]
    rfl
  · rw [tile_pair]
    simp only [mixRe_3, mixIm_3, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag xs2 3 _ _ _ (by decide : 3 < 7), ld_lag xs2 4 _ _ _ (by decide : 4 < 7), ld_lag xs2 5 _ _ _ (by decide : 5 < 7), ld_lag xs2 6 _ _ _ (by decide : 6 < 7), ld_lag xs3 3 _ _ _ (by decide : 3 < 7), ld_lag xs3 4 _ _ _ (by decide : 4 < 7), ld_lag xs3 5 _ _ _ (by decide : 5 < 7), ld_lag xs3 6 _ _ _ (by decide : 6 < 7)]
    rw [ld_rows _ _ _ _ _ (by decide), ld_rows _ _ _ _ _ (by decide)]
    rfl

/-- The output block of a point that takes up the next channel tile. -/
theorem out_next (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : ¬cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) (xs4 : Vec Ideal S2048x64 .f32) (xs5 : Vec Ideal S512x128 .f32) (xs6 : Vec Ideal S512x128 .f32) (xs7 : Vec Ideal S512x128 .f32) (a : Fin 4) (r : Fin 512) (l : Fin 256) (y : S2048x256.Idx)
    (hy0 : (y 0 : ℕ) = 512 * a.val + r.val) (hy1 : (y 1 : ℕ) = l.val)
    (K2 K3 : Vec Ideal S7x512x256 .bf16) (h2 : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 xs4 xs5 xs6 xs7 = K2) (h3 : sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 xs4 xs5 xs6 xs7 = K3)
    : out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 xs4 xs5 xs6 xs7 y = blockRow x3 x0 x2 x1 K2 K3 a r l := by
  revert h2 h3
  frame_open
  simp only [readCov_lag]
  simp (disch := decide) only [↓ View.readCov_skip, ↓ View.readCov_cons_toLoadRect, ↓ View.readCov_fill]
  frame_out
  intro h2 h3
  simp only [h2, h3]
  refine four_tiles _ _ _ _ _ _ _ _ a r l y hy0 hy1 _ ?_ ?_ ?_ ?_ <;> intro ha <;> subst ha
  · rw [tile_first, tile_pair]
    simp only [mixRe_0, mixIm_0, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag K2 0 _ _ _ (by decide : 0 < 7), ld_lag K2 1 _ _ _ (by decide : 1 < 7), ld_lag K2 2 _ _ _ (by decide : 2 < 7), ld_lag K2 3 _ _ _ (by decide : 3 < 7), ld_lag K3 0 _ _ _ (by decide : 0 < 7), ld_lag K3 1 _ _ _ (by decide : 1 < 7), ld_lag K3 2 _ _ _ (by decide : 2 < 7), ld_lag K3 3 _ _ _ (by decide : 3 < 7)]
    rw [ld_rows _ _ _ _ _ (by decide), ld_rows _ _ _ _ _ (by decide)]
    rfl
  · rw [tile_second, tile_pair]
    simp only [mixRe_1, mixIm_1, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag K2 1 _ _ _ (by decide : 1 < 7), ld_lag K2 2 _ _ _ (by decide : 2 < 7), ld_lag K2 3 _ _ _ (by decide : 3 < 7), ld_lag K2 4 _ _ _ (by decide : 4 < 7), ld_lag K3 1 _ _ _ (by decide : 1 < 7), ld_lag K3 2 _ _ _ (by decide : 2 < 7), ld_lag K3 3 _ _ _ (by decide : 3 < 7), ld_lag K3 4 _ _ _ (by decide : 4 < 7)]
    rw [ld_rows _ _ _ _ _ (by decide), ld_rows _ _ _ _ _ (by decide)]
    rfl
  · rw [tile_third, tile_pair]
    simp only [mixRe_2, mixIm_2, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag K2 2 _ _ _ (by decide : 2 < 7), ld_lag K2 3 _ _ _ (by decide : 3 < 7), ld_lag K2 4 _ _ _ (by decide : 4 < 7), ld_lag K2 5 _ _ _ (by decide : 5 < 7), ld_lag K3 2 _ _ _ (by decide : 2 < 7), ld_lag K3 3 _ _ _ (by decide : 3 < 7), ld_lag K3 4 _ _ _ (by decide : 4 < 7), ld_lag K3 5 _ _ _ (by decide : 5 < 7)]
    rw [ld_rows _ _ _ _ _ (by decide), ld_rows _ _ _ _ _ (by decide)]
    rfl
  · rw [tile_pair]
    simp only [mixRe_3, mixIm_3, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag K2 3 _ _ _ (by decide : 3 < 7), ld_lag K2 4 _ _ _ (by decide : 4 < 7), ld_lag K2 5 _ _ _ (by decide : 5 < 7), ld_lag K2 6 _ _ _ (by decide : 6 < 7), ld_lag K3 3 _ _ _ (by decide : 3 < 7), ld_lag K3 4 _ _ _ (by decide : 4 < 7), ld_lag K3 5 _ _ _ (by decide : 5 < 7), ld_lag K3 6 _ _ _ (by decide : 6 < 7)]
    rw [ld_rows _ _ _ _ _ (by decide), ld_rows _ _ _ _ _ (by decide)]
    rfl

/-- The output block of the first point. -/
theorem out_first (c : Dev nD) (i : grid0.Coords) (arg2 : Memref sig .tc .vmem S2048x256 .f32) (harg2 : arg2.IsWhole) (arg3 : Memref sig .tc .vmem S2048x256 .bf16) (harg3 : arg3.IsWhole) (arg4 : Memref sig .tc .vmem S1x256 .f32) (harg4 : arg4.IsWhole) (arg5 : Memref sig .tc .vmem S512x1024 .bf16) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S1x256 .f32) (harg16 : arg16.IsWhole) (arg17 : Memref sig .tc .vmem S2048x256 .bf16) (harg17 : arg17.IsWhole) (arg18 : Memref sig .tc .vmem S8x512x256 .bf16) (harg18 : arg18.IsWhole) (arg19 : Memref sig .tc .vmem S4x1024x256 .bf16) (harg19 : arg19.IsWhole) (arg20 : Memref sig .tc .vmem S7x512x256 .bf16) (harg20 : arg20.IsWhole) (arg21 : Memref sig .tc .vmem S7x512x256 .bf16) (harg21 : arg21.IsWhole) (arg22 : Memref sig .tc .vmem S2048x64 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S512x2048 .bf16) (harg26 : arg26.IsWhole) (arg27 : Memref sig .tc .vmem S512x2048 .f32) (harg27 : arg27.IsWhole) (arg28 : Memref sig .tc .vmem S512x2048 .f32) (harg28 : arg28.IsWhole) (hc0 : cond0_0 i) (hc1 : cond0_1 i) (x0 : Vec Ideal S2048x256 .f32) (x1 : Vec Ideal S2048x256 .bf16) (x2 : Vec Ideal S1x256 .f32) (x3 : Vec Ideal S512x1024 .bf16) (x4 : Vec Ideal S2048x128 .f32) (x5 : Vec Ideal S128x64 .f32) (x6 : Vec Ideal S1x64 .f32) (x7 : Vec Ideal S64x64 .f32) (x8 : Vec Ideal S1x64 .f32) (x9 : Vec Ideal S64x64 .f32) (x10 : Vec Ideal S1x64 .f32) (x11 : Vec Ideal S1x64 .f32) (x12 : Vec Ideal S64x256 .f32) (x13 : Vec Ideal S64x256 .f32) (x14 : Vec Ideal S1x256 .f32) (a : Fin 4) (r : Fin 512) (l : Fin 256) (y : S2048x256.Idx)
    (hy0 : (y 0 : ℕ) = 512 * a.val + r.val) (hy1 : (y 1 : ℕ) = l.val)
    (K2 K3 : Vec Ideal S7x512x256 .bf16) (h2 : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 = K2) (h3 : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 = K3)
    : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 y = blockRow x3 x0 x2 x1 K2 K3 a r l := by
  revert h2 h3
  frame_open
  simp only [readCov_lag]
  simp (disch := decide) only [↓ View.readCov_skip, ↓ View.readCov_cons_toLoadRect, ↓ View.readCov_fill]
  frame_out
  intro h2 h3
  simp only [h2, h3]
  refine four_tiles _ _ _ _ _ _ _ _ a r l y hy0 hy1 _ ?_ ?_ ?_ ?_ <;> intro ha <;> subst ha
  · rw [tile_first, tile_pair]
    simp only [mixRe_0, mixIm_0, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag K2 0 _ _ _ (by decide : 0 < 7), ld_lag K2 1 _ _ _ (by decide : 1 < 7), ld_lag K2 2 _ _ _ (by decide : 2 < 7), ld_lag K2 3 _ _ _ (by decide : 3 < 7), ld_lag K3 0 _ _ _ (by decide : 0 < 7), ld_lag K3 1 _ _ _ (by decide : 1 < 7), ld_lag K3 2 _ _ _ (by decide : 2 < 7), ld_lag K3 3 _ _ _ (by decide : 3 < 7)]
    rw [ld_rows _ _ _ _ _ (by decide), ld_rows _ _ _ _ _ (by decide)]
    rfl
  · rw [tile_second, tile_pair]
    simp only [mixRe_1, mixIm_1, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag K2 1 _ _ _ (by decide : 1 < 7), ld_lag K2 2 _ _ _ (by decide : 2 < 7), ld_lag K2 3 _ _ _ (by decide : 3 < 7), ld_lag K2 4 _ _ _ (by decide : 4 < 7), ld_lag K3 1 _ _ _ (by decide : 1 < 7), ld_lag K3 2 _ _ _ (by decide : 2 < 7), ld_lag K3 3 _ _ _ (by decide : 3 < 7), ld_lag K3 4 _ _ _ (by decide : 4 < 7)]
    rw [ld_rows _ _ _ _ _ (by decide), ld_rows _ _ _ _ _ (by decide)]
    rfl
  · rw [tile_third, tile_pair]
    simp only [mixRe_2, mixIm_2, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag K2 2 _ _ _ (by decide : 2 < 7), ld_lag K2 3 _ _ _ (by decide : 3 < 7), ld_lag K2 4 _ _ _ (by decide : 4 < 7), ld_lag K2 5 _ _ _ (by decide : 5 < 7), ld_lag K3 2 _ _ _ (by decide : 2 < 7), ld_lag K3 3 _ _ _ (by decide : 3 < 7), ld_lag K3 4 _ _ _ (by decide : 4 < 7), ld_lag K3 5 _ _ _ (by decide : 5 < 7)]
    rw [ld_rows _ _ _ _ _ (by decide), ld_rows _ _ _ _ _ (by decide)]
    rfl
  · rw [tile_pair]
    simp only [mixRe_3, mixIm_3, half_0c, half_0s, half_1c, half_1s, half_2c, half_2s, half_3c, half_3s,
      half_cos _ _ _ 0 _ 0 rfl, half_cos _ _ _ 512 _ 1 rfl, half_cos _ _ _ 1024 _ 2 rfl, half_cos _ _ _ 1536 _ 3 rfl,
      half_sin _ _ _ 0 _ 0 rfl, half_sin _ _ _ 512 _ 1 rfl, half_sin _ _ _ 1024 _ 2 rfl, half_sin _ _ _ 1536 _ 3 rfl, blockRow, Fin.sum_univ_four]
    simp only [ld_lag K2 3 _ _ _ (by decide : 3 < 7), ld_lag K2 4 _ _ _ (by decide : 4 < 7), ld_lag K2 5 _ _ _ (by decide : 5 < 7), ld_lag K2 6 _ _ _ (by decide : 6 < 7), ld_lag K3 3 _ _ _ (by decide : 3 < 7), ld_lag K3 4 _ _ _ (by decide : 4 < 7), ld_lag K3 5 _ _ _ (by decide : 5 < 7), ld_lag K3 6 _ _ _ (by decide : 6 < 7)]
    rw [ld_rows _ _ _ _ _ (by decide), ld_rows _ _ _ _ _ (by decide)]
    rfl

end Cert.Hyena.Ker

end
-- ==== Proof.Grid.lean ====
module

public import proofs.«01_k».proof.Proof.Slots
public import proofs.«01_k».proof.Proof.Points
public import proofs.«01_k».proof.Proof.Hidden
public import proofs.«01_k».proof.Proof.Spec
public import proofs.«01_k».proof.Proof.Gen.KernelIdeal.Value

@[expose] public section

set_option maxRecDepth 16384

noncomputable section

namespace Cert.Hyena.Ker

open Cert.KernelIdeal Cert.KernelIdeal.Gen Cert.KernelIdeal.Value Idealize.ShloMosaic Idealize.ShloMosaic.TcCoe Idealize.SL.Sem

theorem point_lt (t : Fin cfg0.N) : t.val < 32 := lt_of_lt_of_eq t.isLt (show cfg0.N = 32 from N_0)

/-- The column of the arrays that lane `l` of a point's blocks holds. -/
def col (t : Fin cfg0.N) (l : Fin 256) : Fin 1024 := ⟨256 * (t.val / 8) + l.val, by have := point_lt t; omega⟩

variable (m : (ℓ : Loc nD τ sig) → Buf (Elt Ideal) ℓ) (c : Dev nD) (N : Net)

/-- The features' position lane, as the body loads it. -/
abbrev lane0 (x : Vec Ideal S2048x128 .f32) : Vec Ideal S2048x1 .f32 :=
  View.ld x (Rect.unit (s := S2048x128) ![0, 0] ![2048, 1] inb_S2048x128_S2048x1_0_0)

/-- What the blocks of the table, the features and the network's weights hold, at every point. -/
structure Inputs : Prop where
  cosines : ∀ (t : Fin cfg0.N) (f n : Fin 512), iblk m c 3 t (ix2 f (lower n)) = ((tabC f n : ℝ) : EReal)
  sines : ∀ (t : Fin cfg0.N) (f n : Fin 512), iblk m c 3 t (ix2 f (upper n)) = ((tabS f n : ℝ) : EReal)
  hid : ∀ (t : Fin cfg0.N) (l : Fin 2048) (j : Fin 64),
    hidden (iblk m c 4 t) (iblk m c 5 t) (iblk m c 6 t) (iblk m c 7 t) (iblk m c 8 t) (iblk m c 9 t) (iblk m c 10 t) (iblk m c 11 t) (ix2 l j)
      = ((N.hid l j : ℝ) : EReal)
  forward : ∀ (t : Fin cfg0.N) (H : Vec Ideal S2048x64 .f32), (∀ l j, H (ix2 l j) = ((N.hid l j : ℝ) : EReal)) →
    ∀ (n : Fin 2048) (l : Fin 256), k0_pay11 (F := Ideal) H (lane0 (iblk m c 4 t)) (iblk m c 14 t) (iblk m c 12 t) (ix2 n l)
      = ((N.taps 0 (col t l) n : ℝ) : EReal)
  backward : ∀ (t : Fin cfg0.N) (H : Vec Ideal S2048x64 .f32), (∀ l j, H (ix2 l j) = ((N.hid l j : ℝ) : EReal)) →
    ∀ (n : Fin 2048) (l : Fin 256), k0_pay11 (F := Ideal) H (lane0 (iblk m c 4 t)) (iblk m c 14 t) (iblk m c 13 t) (ix2 n l)
      = ((N.taps 1 (col t l) n : ℝ) : EReal)

/-- What the scratch holds after a point: the hidden layer and the tables of the first point, and the spectra of the point's column tile. -/
structure Carried (t : Fin cfg0.N) : Prop where
  hid : ∀ (l : Fin 2048) (j : Fin 64), (outsAt0 m c t.val t.isLt).2.2.2.1 (ix2 l j) = ((N.hid l j : ℝ) : EReal)
  cosine : ∀ (f : Fin 512) (j : Fin 128), (outsAt0 m c t.val t.isLt).2.2.2.2.1 (ix2 f j) = ((Real.cos (phase f) / 512 : ℝ) : EReal)
  sine : ∀ (f : Fin 512) (j : Fin 128), (outsAt0 m c t.val t.isLt).2.2.2.2.2.1 (ix2 f j) = ((Real.sin (phase f) / 512 : ℝ) : EReal)
  sign : ∀ (f : Fin 512) (j : Fin 128), (outsAt0 m c t.val t.isLt).2.2.2.2.2.2 (ix2 f j) = ((sgn f : ℝ) : EReal)
  re : ∀ (k : Fin 7) (f : Fin 512) (l : Fin 256),
    (outsAt0 m c t.val t.isLt).2.1 (ix3 k f l) = ((specRe (N.filter (col t l)) ((k : ℤ) - 3) f : ℝ) : EReal)
  im : ∀ (k : Fin 7) (f : Fin 512) (l : Fin 256),
    (outsAt0 m c t.val t.isLt).2.2.1 (ix3 k f l) = ((specIm (N.filter (col t l)) ((k : ℤ) - 3) f : ℝ) : EReal)

variable {N} (I : Inputs m c N)

include I in
theorem carried_first (t : Fin cfg0.N) (h0 : t.val % 8 = 0) (h1 : t.val < 8) : Carried m c N t := by
  have e := outsAt0_A m c t h0 h1
  constructor <;> rw [e] <;> dsimp only
  · intro l j
    exact (congrFun (hidden_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) _).trans (I.hid t l j)
  · intro f j
    exact (congrFun (table_first_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) _).trans (cos_apply f j)
  · intro f j
    exact (congrFun (table_first_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) _).trans (sin_apply f j)
  · intro f j
    exact (congrFun (table_first_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) _).trans (sgn_apply f j)
  · intro k f l
    exact slots_A_re c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (hy0 := rfl) (hy1 := rfl) (hy2 := rfl) (kf := fun l => N.taps 0 (col t l)) (kb := fun l => N.taps 1 (col t l))
      (hC := I.cosines t) (hS := I.sines t) (hH := hidden_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (hF := I.forward t _ (I.hid t)) (hB := I.backward t _ (I.hid t))
  · intro k f l
    exact slots_A_im c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (hy0 := rfl) (hy1 := rfl) (hy2 := rfl) (kf := fun l => N.taps 0 (col t l)) (kb := fun l => N.taps 1 (col t l))
      (hC := I.cosines t) (hS := I.sines t) (hH := hidden_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (hF := I.forward t _ (I.hid t)) (hB := I.backward t _ (I.hid t))

/-- A point before the current one. -/
def before (t : Fin cfg0.N) : Fin cfg0.N := ⟨t.val - 1, Nat.lt_of_le_of_lt (Nat.sub_le _ _) t.isLt⟩

include I in
theorem carried_next (t : Fin cfg0.N) (h0 : t.val % 8 = 0) (h1 : ¬ t.val < 8) (p : Carried m c N (before t)) : Carried m c N t := by
  have e := outsAt0_C m c t h0 h1
  constructor <;> rw [e] <;> dsimp only
  · exact p.hid
  · exact p.cosine
  · exact p.sine
  · exact p.sign
  · intro k f l
    exact slots_C_re c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (hy0 := rfl) (hy1 := rfl) (hy2 := rfl) (kf := fun l => N.taps 0 (col t l)) (kb := fun l => N.taps 1 (col t l))
      (hC := I.cosines t) (hS := I.sines t) (h5 := p.cosine) (h6 := p.sine) (h7 := p.sign)
      (hF := I.forward t _ p.hid) (hB := I.backward t _ p.hid)
  · intro k f l
    exact slots_C_im c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (hy0 := rfl) (hy1 := rfl) (hy2 := rfl) (kf := fun l => N.taps 0 (col t l)) (kb := fun l => N.taps 1 (col t l))
      (hC := I.cosines t) (hS := I.sines t) (h5 := p.cosine) (h6 := p.sine) (h7 := p.sign)
      (hF := I.forward t _ p.hid) (hB := I.backward t _ p.hid)

theorem carried_keep (t : Fin cfg0.N) (h0 : ¬ t.val % 8 = 0) (p : Carried m c N (before t)) : Carried m c N t := by
  have e := outsAt0_B m c t h0
  have hc : ∀ l, col t l = col (before t) l := fun l => Fin.ext (by
    show 256 * (t.val / 8) + l.val = 256 * ((t.val - 1) / 8) + l.val
    omega)
  constructor <;> rw [e] <;> dsimp only
  · exact p.hid
  · exact p.cosine
  · exact p.sine
  · exact p.sign
  · intro k f l
    rw [hc]
    exact p.re k f l
  · intro k f l
    rw [hc]
    exact p.im k f l

include I in
/-- The scratch after every point. -/
theorem carried (t : Fin cfg0.N) : Carried m c N t := by
  obtain ⟨n, hn⟩ := t
  induction n with
  | zero => exact carried_first m c I _ rfl (Nat.zero_lt_succ 7)
  | succ n ih =>
    have p : Carried m c N (before ⟨n + 1, hn⟩) := ih (Nat.lt_of_succ_lt hn)
    by_cases h0 : (n + 1) % 8 = 0
    · by_cases h1 : n + 1 < 8
      · exact carried_first m c I _ h0 h1
      · exact carried_next m c I _ h0 h1 p
    · exact carried_keep m c _ h0 p

/-- The output block of a point, from the spectra the scratch then holds. -/
theorem block_apply (t : Fin cfg0.N) (a : Fin 4) (r : Fin 512) (l : Fin 256) (y : S2048x256.Idx)
    (hy0 : (y 0 : ℕ) = 512 * a.val + r.val) (hy1 : (y 1 : ℕ) = l.val) :
    (outsAt0 m c t.val t.isLt).1 y
      = blockRow (iblk m c 3 t) (iblk m c 0 t) (iblk m c 2 t) (iblk m c 1 t) (outsAt0 m c t.val t.isLt).2.1 (outsAt0 m c t.val t.isLt).2.2.1 a r l := by
  by_cases h0 : t.val % 8 = 0
  · by_cases h1 : t.val < 8
    · rw [outsAt0_A m c t h0 h1]
      dsimp only
      exact out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (hy0 := hy0) (hy1 := hy1) (h2 := rfl) (h3 := rfl)
    · rw [outsAt0_C m c t h0 h1]
      dsimp only
      exact out_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (hy0 := hy0) (hy1 := hy1) (h2 := rfl) (h3 := rfl)
  · rw [outsAt0_B m c t h0]
    dsimp only
    exact out_keep c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (hy0 := hy0) (hy1 := hy1)

/-- An entry of the final array is an entry of the block of the point that writes it. -/
theorem array_apply (i : S16384x1024.Idx) (t : Fin cfg0.N) (ht : pt15Of i = t.val) :
    G15 m c i = (outsAt0 m c t.val t.isLt).1 (loc15Of i) := by
  unfold G15
  rw [dif_pos (by rw [ht]; exact t.isLt), outsAt0_sweep, fold0_congr m c _ _ _ _ ht]

end Cert.Hyena.Ker

end
-- ==== Proof.Host.lean ====
module

public import proofs.«01_k».proof.Proof.Table
public import proofs.«01_k».proof.Proof.Network
public import proofs.«01_k».proof.Proof.Grid
public import Idealize.ShloMosaic.Lib.Claim

@[expose] public section

set_option maxRecDepth 16384

noncomputable section

namespace Cert.Hyena.Ker

open Cert.KernelIdeal Cert.KernelIdeal.Gen Idealize.ShloMosaic Idealize.ShloMosaic.TcCoe Idealize.SL.Sem

/-- Two arrays joined along an axis. -/
def pair {α : Type} {t s₁ s₂ : Shape} (d : Fin t.rank) (h : Shape.Concatenates [s₁, s₂] t d) (a : s₁.Idx → α) (b : s₂.Idx → α) : t.Idx → α :=
  concatenate t d [⟨s₁, a⟩, ⟨s₂, b⟩] h

theorem pair_def {α : Type} {t s₁ s₂ : Shape} (d : Fin t.rank) (h : Shape.Concatenates [s₁, s₂] t d) (a : s₁.Idx → α) (b : s₂.Idx → α) :
    concatenate t d [⟨s₁, a⟩, ⟨s₂, b⟩] h = pair d h a b := rfl

/-- Three arrays joined along an axis. -/
def triple {α : Type} {t s₁ s₂ s₃ : Shape} (d : Fin t.rank) (h : Shape.Concatenates [s₁, s₂, s₃] t d) (a : s₁.Idx → α) (b : s₂.Idx → α)
    (e : s₃.Idx → α) : t.Idx → α :=
  concatenate t d [⟨s₁, a⟩, ⟨s₂, b⟩, ⟨s₃, e⟩] h

theorem triple_def {α : Type} {t s₁ s₂ s₃ : Shape} (d : Fin t.rank) (h : Shape.Concatenates [s₁, s₂, s₃] t d) (a : s₁.Idx → α) (b : s₂.Idx → α)
    (e : s₃.Idx → α) : concatenate t d [⟨s₁, a⟩, ⟨s₂, b⟩, ⟨s₃, e⟩] h = triple d h a b e := rfl

variable (m : (ℓ : Loc nD τ sig) → Buf (Elt Ideal) ℓ) (c : Dev nD)

/-! ## What the host leaves in the call's operands -/

set_option maxHeartbeats 8000000 in
/-- The operands the host makes: the table, the padded features and first weights, the decay rates, and the other weights without their unit axis. -/
theorem operands :
    V m c main_v19 = table
    ∧ V m c main_v37 = (pad S2048x128 ![0, 0] ![0, 95] ![0, 0] Ref.features (sitofp .f32 (constantI S_ 32 0x00000000#32)) pads_S2048x33_S2048x128_000_0950 h_S_ : FVec Ideal S2048x128 .f32)
    ∧ V m c main_v39 = (pad S128x64 ![0, 0] ![95, 0] ![0, 0] (shapeCast S33x64 (m ((c : Thread nD τ).loc main_arg3)) shapeCasts_S1x33x64_S33x64)
        (sitofp .f32 (constantI S_ 32 0x00000000#32)) pads_S33x64_S128x64_0950_000 h_S_ : FVec Ideal S128x64 .f32)
    ∧ V m c main_v42 = (broadcastInDim S1x1024 ![1] bcast_S1024_S1x1024_1 Ref.rates : FVec Ideal S1x1024 .f32)
    ∧ V m c main_v43 = (shapeCast S64x64 (m ((c : Thread nD τ).loc main_arg5)) shapeCasts_S1x64x64_S64x64 : FVec Ideal S64x64 .f32)
    ∧ V m c main_v44 = (shapeCast S64x64 (m ((c : Thread nD τ).loc main_arg7)) shapeCasts_S1x64x64_S64x64 : FVec Ideal S64x64 .f32)
    ∧ V m c main_v45 = (shapeCast S64x2048 (m ((c : Thread nD τ).loc main_arg9)) shapeCasts_S1x64x2048_S64x2048 : FVec Ideal S64x2048 .f32) := by
  refine ⟨?_, ?_, ?_, ?_, ?_, ?_, ?_⟩
  all_goals simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, StableHlo.TRef.binary, StableHlo.TRef.nullary, StableHlo.TRef.reshape, StableHlo.TRef.unary, StableHlo.TRef.ternary, StableHlo.TRef.toBuf, StableHlo.TRef.ofBuf, cast_eq, pair_def, triple_def]
  all_goals
    after_results_simp <;> (try dsimp only [Matrix.cons_val]) <;> (try after_results_simp) <;> (try dsimp only [Matrix.cons_val]) <;>
      (try after_results_simp)
  all_goals rfl

end Cert.Hyena.Ker

end
-- ==== Proof.Windows.lean ====
module

public import proofs.«01_k».proof.Proof.Table
public import proofs.«01_k».proof.Proof.Network
public import proofs.«01_k».proof.Proof.Grid
public import Idealize.ShloMosaic.Lib.Claim

@[expose] public section

set_option maxRecDepth 16384

noncomputable section

namespace Cert.Hyena.Ker

open Cert.KernelIdeal Cert.KernelIdeal.Gen Idealize.ShloMosaic Idealize.ShloMosaic.TcCoe Idealize.SL.Sem

variable (m : (ℓ : Loc nD τ sig) → Buf (Elt Ideal) ℓ) (c : Dev nD)

/-! ## What the blocks hold -/

/-- The block each window moves at a point. -/
theorem index_facts : ∀ t : Fin cfg0.N,
    win0_0.index t = ![t.val % 8, t.val / 8] ∧ win0_1.index t = ![t.val % 8, t.val / 8] ∧ win0_2.index t = ![0, t.val / 8]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, t.val / 8] ∧ win0_13.index t = ![0, 4 + t.val / 8] ∧ win0_14.index t = ![0, t.val / 8] :=
  (by decide +kernel : ∀ t : Fin grid0.N, _)

set_option maxHeartbeats 4000000 in
/-- Every window's block, read off the array it is a block of. -/
theorem reads (t : Fin cfg0.N) :
    (∀ (r : Fin 2048) (l : Fin 256), iblk m c 0 t (ix2 r l) = V m c main_arg0 (ix2 ⟨2048 * (t.val % 8) + r.val, by omega⟩ (col t l)))
    ∧ (∀ (r : Fin 2048) (l : Fin 256), iblk m c 1 t (ix2 r l) = V m c main_arg1 (ix2 ⟨2048 * (t.val % 8) + r.val, by omega⟩ (col t l)))
    ∧ (∀ (r : Fin 1) (l : Fin 256), iblk m c 2 t (ix2 r l) = V m c main_arg2 (ix2 r (col t l)))
    ∧ (∀ (r : Fin 512) (l : Fin 1024), iblk m c 3 t (ix2 r l) = V m c main_v19 (ix2 r l))
    ∧ (∀ (r : Fin 2048) (l : Fin 128), iblk m c 4 t (ix2 r l) = V m c main_v37 (ix2 r l))
    ∧ (∀ (r : Fin 128) (l : Fin 64), iblk m c 5 t (ix2 r l) = V m c main_v39 (ix2 r l))
    ∧ (∀ (r : Fin 1) (l : Fin 64), iblk m c 6 t (ix2 r l) = V m c main_arg4 (ix2 r l))
    ∧ (∀ (r : Fin 64) (l : Fin 64), iblk m c 7 t (ix2 r l) = V m c main_v43 (ix2 r l))
    ∧ (∀ (r : Fin 1) (l : Fin 64), iblk m c 8 t (ix2 r l) = V m c main_arg6 (ix2 r l))
    ∧ (∀ (r : Fin 64) (l : Fin 64), iblk m c 9 t (ix2 r l) = V m c main_v44 (ix2 r l))
    ∧ (∀ (r : Fin 1) (l : Fin 64), iblk m c 10 t (ix2 r l) = V m c main_arg8 (ix2 r l))
    ∧ (∀ (r : Fin 1) (l : Fin 64), iblk m c 11 t (ix2 r l) = V m c main_arg10 (ix2 r l))
    ∧ (∀ (r : Fin 64) (l : Fin 256), iblk m c 12 t (ix2 r l) = V m c main_v45 (ix2 r (Net.sideCol 0 (col t l))))
    ∧ (∀ (r : Fin 64) (l : Fin 256), iblk m c 13 t (ix2 r l) = V m c main_v45 (ix2 r (Net.sideCol 1 (col t l))))
    ∧ (∀ (r : Fin 1) (l : Fin 256), iblk m c 14 t (ix2 r l) = V m c main_v42 (ix2 r (col t l))) := by
  obtain ⟨e0, e1, e2, e3, e4, e5, e6, e7, e8, e9, e10, e11, e12, e13, e14⟩ := index_facts t
  have ht := point_lt t
  refine ⟨?_, ?_, ?_, ?_, ?_, ?_, ?_, ?_, ?_, ?_, ?_, ?_, ?_, ?_, ?_⟩ <;>
    (intro r l
     blk_ext [iblk, col, Net.sideCol, e0, e1, e2, e3, e4, e5, e6, e7, e8, e9, e10, e11, e12, e13, e14])

end Cert.Hyena.Ker

end
-- ==== Proof.Column.lean ====
module

public import proofs.«01_k».proof.Proof.Blocks
public import proofs.«01_k».proof.Proof.Fourier
public import proofs.«01_k».proof.Proof.Spec

@[expose] public section

set_option maxRecDepth 16384

noncomputable section

namespace Cert.Hyena.Ker

open Cert.KernelIdeal Cert.KernelIdeal.Gen Idealize.ShloMosaic Idealize.ShloMosaic.TcCoe Idealize.SL.Sem

/-- A sum of reals, in the extended reals. -/
theorem coe_total {ι : Type} (s : Finset ι) (x : ι → ℝ) : ∑ k ∈ s, (x k : EReal) = ((∑ k ∈ s, x k : ℝ) : EReal) := by
  simpa using coe_dot s x fun _ => 1

section

variable (cs : Vec Ideal S512x1024 .bf16) (u : Vec Ideal S2048x256 .f32) (d : Vec Ideal S1x256 .f32) (g : Vec Ideal S2048x256 .bf16)
  (kr ki : Vec Ideal S7x512x256 .bf16) (κ : ℤ → ℝ) (x : ℕ → ℝ) (l : Fin 256)
  (hC : ∀ f n : Fin 512, cs (ix2 f (lower n)) = ((tabC f n : ℝ) : EReal))
  (hS : ∀ f n : Fin 512, cs (ix2 f (upper n)) = ((tabS f n : ℝ) : EReal))
  (hu : ∀ b n, u (ix2 (rowOf b n) l) = ((x (512 * b.val + n.val) : ℝ) : EReal))

include hC hu in
theorem cosOf_real (b : Fin 4) (f : Fin 512) :
    cosOf cs u b f l = ((∑ n ∈ Finset.range 512, tabC f n * x (512 * b + n) : ℝ) : EReal) := by
  rw [cosOf, Finset.sum_range, ← coe_dot]
  exact Finset.sum_congr rfl fun n _ => by rw [hC, hu]

include hS hu in
theorem sinOf_real (b : Fin 4) (f : Fin 512) :
    sinOf cs u b f l = ((∑ n ∈ Finset.range 512, tabS f n * x (512 * b + n) : ℝ) : EReal) := by
  rw [sinOf, Finset.sum_range, ← coe_dot]
  exact Finset.sum_congr rfl fun n _ => by rw [hS, hu]

include hC hS hu in
/-- From the spectra of the two-sided filter `κ`, an entry of an output block is the convolution at its row, the skip term and the gate. -/
theorem blockRow_conv (hkr : ∀ (k : Fin 7) (f : Fin 512), kr (ix3 k f l) = ((specRe κ ((k.val : ℤ) - 3) f : ℝ) : EReal))
    (hki : ∀ (k : Fin 7) (f : Fin 512), ki (ix3 k f l) = ((specIm κ ((k.val : ℤ) - 3) f : ℝ) : EReal))
    (a : Fin 4) (r : Fin 512) :
    blockRow cs u d g kr ki a r l
      = (((∑ j : Fin 2048, κ (((512 * a.val + r.val : ℕ) : ℤ) - (j.val : ℤ)) * x j.val : ℝ) : EReal)
          + ((x (512 * a.val + r.val) : ℝ) : EReal) * d (ix2 0 l)) * g (ix2 (rowOf a r) l) := by
  have hs : ∀ b : Fin 4, (((slot a b).val : ℕ) : ℤ) - 3 = (a.val : ℤ) - b.val := fun b => by
    show ((3 + a.val - b.val : ℕ) : ℤ) - 3 = _
    omega
  have hmain := block_conv κ x a.val r.val r.isLt
  rw [blockRow, hu, ← Finset.sum_range (fun j => κ (((512 * a.val + r.val : ℕ) : ℤ) - (j : ℤ)) * x j), ← hmain]
  congr 2
  simp only [hkr, hki, hs, cosOf_real cs u x l hC hu, sinOf_real cs u x l hS hu, hC, hS, ← EReal.coe_mul, ← EReal.coe_add, ← EReal.coe_sub, coe_total]
  simp only [Finset.sum_range]

end

end Cert.Hyena.Ker

end
-- ==== Proof.Value.lean ====
module

public import proofs.«01_k».proof.Proof.Host
public import proofs.«01_k».proof.Proof.Windows
public import proofs.«01_k».proof.Proof.Column

@[expose] public section

set_option maxRecDepth 16384

noncomputable section

namespace Cert.Hyena.Ker

open Cert.KernelIdeal Cert.KernelIdeal.Gen Cert.KernelIdeal.Value Idealize.ShloMosaic Idealize.ShloMosaic.TcCoe Idealize.SL.Sem

/-! ## The host's layouts at an index -/

theorem word_zero : (FloatOps.sitofp FTy.f32 (0#32) : Ideal .f32) = 0 := by
  have h := sitofp_ofNat 0 (by decide)
  rw [Nat.cast_zero, EReal.coe_zero] at h
  exact h

theorem pad_lanes (X : FVec Ideal S2048x33 .f32) (l : Fin 2048) (k : Fin 128) :
    (pad S2048x128 ![0, 0] ![0, 95] ![0, 0] X (sitofp .f32 (constantI S_ 32 0x00000000#32)) pads_S2048x33_S2048x128_000_0950 h_S_
      : FVec Ideal S2048x128 .f32) (ix2 l k) = if h : k.val < 33 then X (ix2 l ⟨k.val, h⟩) else 0 := by
  pointwise
  simp only [word_zero]

theorem pad_rows (X : FVec Ideal S1x33x64 .f32) (k : Fin 128) (n : Fin 64) :
    (pad S128x64 ![0, 0] ![95, 0] ![0, 0] (shapeCast S33x64 X shapeCasts_S1x33x64_S33x64) (sitofp .f32 (constantI S_ 32 0x00000000#32))
      pads_S33x64_S128x64_0950_000 h_S_ : FVec Ideal S128x64 .f32) (ix2 k n) = if h : k.val < 33 then X (ix3 0 ⟨k.val, h⟩ n) else 0 := by
  pointwise
  simp only [word_zero]

theorem drop_square (X : FVec Ideal S1x64x64 .f32) (k n : Fin 64) :
    (shapeCast S64x64 X shapeCasts_S1x64x64_S64x64 : FVec Ideal S64x64 .f32) (ix2 k n) = X (ix3 0 k n) := by
  pointwise

theorem drop_wide (X : FVec Ideal S1x64x2048 .f32) (k : Fin 64) (n : Fin 2048) :
    (shapeCast S64x2048 X shapeCasts_S1x64x2048_S64x2048 : FVec Ideal S64x2048 .f32) (ix2 k n) = X (ix3 0 k n) := by
  pointwise

theorem spread_rates (l : Fin 1024) :
    (broadcastInDim S1x1024 ![1] bcast_S1024_S1x1024_1 Ref.rates : FVec Ideal S1x1024 .f32) (ix2 0 l) = Ref.rates (ix1 l) := by
  pointwise

/-! ## The kernel's result -/

variable (m : (ℓ : Loc nD τ sig) → Buf (Elt Ideal) ℓ) (c : Dev nD)

/-- The filter network of the call's arguments. -/
abbrev netAt : Net :=
  Ref.netOf (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The arguments the convolution and the network read are real. -/
structure Real : Prop where
  u : AllReal (m ((c : Thread nD τ).loc main_arg0) : FVec Ideal S16384x1024 .f32)
  w1 : AllReal (m ((c : Thread nD τ).loc main_arg3) : FVec Ideal S1x33x64 .f32)
  b1 : AllReal (m ((c : Thread nD τ).loc main_arg4) : FVec Ideal S1x64 .f32)
  w2 : AllReal (m ((c : Thread nD τ).loc main_arg5) : FVec Ideal S1x64x64 .f32)
  b2 : AllReal (m ((c : Thread nD τ).loc main_arg6) : FVec Ideal S1x64 .f32)
  w3 : AllReal (m ((c : Thread nD τ).loc main_arg7) : FVec Ideal S1x64x64 .f32)
  b3 : AllReal (m ((c : Thread nD τ).loc main_arg8) : FVec Ideal S1x64 .f32)
  w4 : AllReal (m ((c : Thread nD τ).loc main_arg9) : FVec Ideal S1x64x2048 .f32)
  fr : AllReal (m ((c : Thread nD τ).loc main_arg10) : FVec Ideal S1x64 .f32)

variable {m c} (h : Real m c)

include h in
/-- The blocks of every point hold the table, the features and the weights. -/
theorem inputs : Inputs m c (netAt m c) := by
  obtain ⟨o19, o37, o39, o42, o43, o44, o45⟩ := operands m c
  have hz : ∀ (t : Fin cfg0.N) l k, iblk m c 4 t (ix2 l k) = if h : k.val < 33 then Ref.features (ix2 l ⟨k.val, h⟩) else 0 := fun t l k => by
    obtain ⟨-, -, -, -, e4, -⟩ := reads m c t
    rw [e4, o37]
    exact pad_lanes _ l k
  constructor
  · intro t f n
    obtain ⟨-, -, -, e3, -⟩ := reads m c t
    rw [e3, o19, table_lower]
  · intro t f n
    obtain ⟨-, -, -, e3, -⟩ := reads m c t
    rw [e3, o19, table_upper]
  · intro t l j
    obtain ⟨-, -, -, -, -, e5, e6, e7, e8, e9, e10, e11, -⟩ := reads m c t
    refine hidden_real _ _ _ _ _ _ _ _ h.w1 h.b1 h.w2 h.b2 h.w3 h.b3 h.fr _ (hz t) _ _ _ _ _ _ _ ?_ ?_ ?_ ?_ ?_ ?_ ?_ l j
    · intro k n
      rw [e5, o39]
      exact pad_rows _ k n
    · intro n
      rw [e6, V_main_arg4]
    · intro k n
      rw [e7, o43]
      exact drop_square _ k n
    · intro n
      rw [e8, V_main_arg6]
    · intro k n
      rw [e9, o44]
      exact drop_square _ k n
    · intro n
      rw [e10, V_main_arg8]
    · intro n
      rw [e11, V_main_arg10]
  · intro t H hH n l
    obtain ⟨-, -, -, -, -, -, -, -, -, -, -, -, e12, -, e14⟩ := reads m c t
    refine taps_real _ _ _ _ _ _ _ _ h.w4 _ (hz t) H _ _ 0 (col t) _ hH (fun l => ?_) (fun k l => ?_) n l
    · rw [e14, o42]
      exact spread_rates _
    · rw [e12, o45]
      exact drop_wide _ k _
  · intro t H hH n l
    obtain ⟨-, -, -, -, -, -, -, -, -, -, -, -, -, e13, e14⟩ := reads m c t
    refine taps_real _ _ _ _ _ _ _ _ h.w4 _ (hz t) H _ _ 1 (col t) _ hH (fun l => ?_) (fun k l => ?_) n l
    · rw [e14, o42]
      exact spread_rates _
    · rw [e13, o45]
      exact drop_wide _ k _

include h in
/-- An entry of the kernel's result: the convolution with the network's two-sided filter, the skip term and the gate. -/
theorem kernel_apply (b : Fin 8) (i : Fin 2048) (q : Fin 1024) :
    (G15 m c : FVec Ideal S16384x1024 .bf16) (ix2 ⟨b.val * 2048 + i.val, by omega⟩ q)
      = result (netAt m c) q (fun j => ((m ((c : Thread nD τ).loc main_arg0) : FVec Ideal S16384x1024 .f32) (ix2 ⟨b.val * 2048 + j.val, by omega⟩ q)).toReal)
          ((m ((c : Thread nD τ).loc main_arg2) : FVec Ideal S1x1024 .f32) (ix2 0 q))
          ((m ((c : Thread nD τ).loc main_arg1) : FVec Ideal S16384x1024 .bf16) (ix2 ⟨b.val * 2048 + i.val, by omega⟩ q)) i := by
  let t : Fin cfg0.N := ⟨b.val + 8 * (q.val / 256), lt_of_lt_of_eq (by omega) N_0.symm⟩
  let l : Fin 256 := ⟨q.val % 256, Nat.mod_lt _ (by decide)⟩
  let a : Fin 4 := ⟨i.val / 512, by omega⟩
  let r : Fin 512 := ⟨i.val % 512, Nat.mod_lt _ (by decide)⟩
  have ht : t.val = b.val + 8 * (q.val / 256) := rfl
  have hcol : col t l = q := Fin.ext (by
    show 256 * ((b.val + 8 * (q.val / 256)) / 8) + q.val % 256 = q.val
    omega)
  have hrow : ∀ (p : Fin 2048), (⟨2048 * (t.val % 8) + p.val, by omega⟩ : Fin 16384) = ⟨b.val * 2048 + p.val, by omega⟩ := fun p => Fin.ext (by
    show 2048 * (t.val % 8) + p.val = b.val * 2048 + p.val
    rw [ht]; omega)
  have hi : rowOf a r = i := Fin.ext (by
    show 512 * (i.val / 512) + i.val % 512 = i.val
    omega)
  have hir : 512 * a.val + r.val = i.val := congrArg Fin.val hi
  obtain ⟨e0, e1, e2, -⟩ := reads m c t
  let x : ℕ → ℝ := fun j => if hj : j < 2048 then
    ((m ((c : Thread nD τ).loc main_arg0) : FVec Ideal S16384x1024 .f32) (ix2 ⟨b.val * 2048 + j, by omega⟩ q)).toReal else 0
  have hx : ∀ j : Fin 2048, x j.val = ((m ((c : Thread nD τ).loc main_arg0) : FVec Ideal S16384x1024 .f32) (ix2 ⟨b.val * 2048 + j.val, by omega⟩ q)).toReal :=
    fun j => dif_pos j.isLt
  have hu : ∀ (b' : Fin 4) (n : Fin 512), iblk m c 0 t (ix2 (rowOf b' n) l) = ((x (512 * b'.val + n.val) : ℝ) : EReal) := fun b' n => by
    rw [e0, hcol, hrow, V_main_arg0, show 512 * b'.val + n.val = (rowOf b' n).val from rfl, hx]
    exact ((h.u _).coe_toReal).symm
  have S := carried m c (inputs h) t
  rw [array_apply m c _ t (by
      show 1 * ((b.val * 2048 + i.val) / 2048 - 0) + 8 * (q.val / 256 - 0) = b.val + 8 * (q.val / 256)
      omega),
    block_apply m c t a r l _ (by
      show (b.val * 2048 + i.val) % 2048 = 512 * (i.val / 512) + i.val % 512
      omega) rfl,
    blockRow_conv _ _ _ _ _ _ ((netAt m c).filter q) x l ((inputs h).cosines t) ((inputs h).sines t) hu
      (fun k f => by rw [S.re k f l, hcol]) (fun k f => by rw [S.im k f l, hcol]) a r]
  rw [e2, e1, hcol, hi, hrow, hir, V_main_arg2, V_main_arg1, result, hx]
  simp only [hx]

end Cert.Hyena.Ker

end
-- ==== Proof.Equal.lean ====
module

public import proofs.«01_k».proof.Proof.Value
public import proofs.«01_k».proof.Proof.Gen.ReferenceIdeal.Run
public import proofs.«01_k».proof.Proof.Gen.Kernel
public import proofs.«01_k».proof.Proof.Gen.Kernel.Frame
public import Idealize.ShloMosaic.Adequacy
public import Idealize.ShloMosaic.Init
public import proofs.«01_k».proof.Defs

@[expose] public section

set_option maxRecDepth 16384

noncomputable section

namespace Cert.Hyena

open Idealize.ShloMosaic Idealize.ShloMosaic.TcCoe Idealize.SL.Sem

/-! ## The precondition -/

instance finiteFacts : Cert.Pre_finite.Facts where
  bcast_S_S16384x1024 := by decide
  bcast_S_S1x33x64 := by decide
  bcast_S_S1x64 := by decide
  bcast_S_S1x64x64 := by decide
  bcast_S_S1x64x2048 := by decide

/-- An array whose magnitudes all compare below infinity holds real numbers. -/
theorem allReal_of_lt {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32 : FVec Ideal Cert.Pre_finite.S_ .f32))
      = fun _ => 1#1) : AllReal x := fun i => by
  have e : Ideal.cmp .olt (max (x i) (-(x i))) (Ideal.ofBits .f32 0x7F800000#32) = 1 := congrFun h i
  rw [lit_inf, Ideal.cmp_olt_eq_one] at e
  exact isReal_of_abs_lt e

theorem real_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Ker.Real m c := by
  obtain ⟨h0, h3, h4, h5, h6, h7, h8, h9, h10⟩ := h c
  exact ⟨allReal_of_lt _ _ h0, allReal_of_lt _ _ h3, allReal_of_lt _ _ h4, allReal_of_lt _ _ h5, allReal_of_lt _ _ h6,
    allReal_of_lt _ _ h7, allReal_of_lt _ _ h8, allReal_of_lt _ _ h9, allReal_of_lt _ _ h10⟩

/-! ## The claims -/

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant is `π/1024`, by the certificate's table. -/
theorem preserves : Cert.preserves_Kernel_KernelIdeal :=
  IdealRules.named_const.statement Cert.KernelIdeal.κ "half_step" .f32 0x3B490FDB#32 ((Real.pi * 1024⁻¹ : ℝ) : EReal) rfl

/-- At the extended reals the kernel and the reference end with the same array: every entry of either is `result` of the
    same network, column, skip weight and gate. -/
theorem algebraic : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  have hr := real_of_pre m hpre c
  obtain ⟨a0, a1, a2, a3, a4, a5, a6, a7, a8, a9, a10⟩ := hagree c
  refine (Ref.result_stages m' c).trans ?_
  rw [a0, a1, a2, a3, a4, a5, a6, a7, a8, a9, a10]
  funext i
  obtain ⟨b, p, q, rfl⟩ : ∃ (b : Fin 8) (p : Fin 2048) (q : Fin 1024), i = ix2 ⟨b.val * 2048 + p.val, by omega⟩ q := by
    have h0 : (i 0).val < 16384 := (i 0).isLt
    refine ⟨⟨(i 0).val / 2048, by omega⟩, ⟨(i 0).val % 2048, Nat.mod_lt _ (by decide)⟩, i 1, ?_⟩
    funext d
    refine Fin.cases ?_ (fun d => ?_) d
    · exact Fin.ext (by
        show (i 0).val = (i 0).val / 2048 * 2048 + (i 0).val % 2048
        omega)
    · obtain rfl : d = 0 := Subsingleton.elim _ _
      rfl
  exact (Ref.result_apply _ _ _ _ _ _ _ _ hr.w1 hr.b1 hr.w2 hr.b2 hr.w3 hr.b3 hr.w4 hr.fr _ _ _ hr.u b p q).trans
    (Ker.kernel_apply hr b p q).symm

end Cert.Hyena

end
-- ==== Proof.MergeSpec.lean ====
module

public import proofs.«01_k».proof.Proof.Gen.MergeIdeal.Value
public import proofs.«01_k».proof.Proof.Gen.MergeReferenceIdeal.Run
public import Idealize.ShloMosaic.Lib.Claim
public import proofs.«01_k».proof.Proof.Spec

@[expose] public section

set_option maxRecDepth 16384

noncomputable section

/-! ## One row of the merge -/

namespace Cert.Merging

open Idealize.ShloMosaic

/-- An entry of the gated sum of the two branches' projections: the row `g` holds the gates of both. -/
def mixed (h p : Fin 1024 → EReal) (g g' : Fin 1024 → EReal) (wh wp : Fin 1024 → Fin 1024 → EReal) (k : Fin 1024) : EReal :=
  Ideal.logistic (g k) * ∑ j, h j * wh j k + Ideal.logistic (g' k) * ∑ j, p j * wp j k

/-- An entry of the residual stream: the output projection of a row `a`, added to the row `x`. -/
def stream (x a : Fin 1024 → EReal) (wo : Fin 1024 → Fin 1024 → EReal) (n : Fin 1024) : EReal :=
  x n + ∑ k, a k * wo k n

/-- An entry of a row divided by its root mean square. -/
def normed (x : Fin 1024 → EReal) (n : Fin 1024) : EReal :=
  x n * Ideal.rsqrt (Ideal.div (∑ k, x k * x k) (Ideal.ofBits .f32 0x44800000#32) + Ideal.ofBits .f32 0x358637BD#32)

/-- An entry of the merged stream, normed and scaled: the gates of the first branch are the first 1024 columns of `g`. -/
def result (h p : Fin 16384 → Fin 1024 → EReal) (g : Fin 16384 → Fin 2048 → EReal) (x : Fin 16384 → Fin 1024 → EReal)
    (wh wp wo : Fin 1024 → Fin 1024 → EReal) (w : Fin 1024 → EReal) (i : Fin 16384) (n : Fin 1024) : EReal :=
  normed (stream (x i) (mixed (h i) (p i) (fun j => g i ⟨0 * 1024 + j.val, by omega⟩) (fun j => g i ⟨1 * 1024 + j.val, by omega⟩) wh wp) wo) n * w n

end Cert.Merging

/-! ## The kernel's tile -/

namespace Cert.Merging.Ker

open Cert.MergeIdeal Cert.MergeIdeal.Gen Cert.MergeIdeal.Value Idealize.ShloMosaic Idealize.ShloMosaic.TcCoe Idealize.SL.Sem

/-- A product of the tile's rows with a matrix. -/
def prod (a w : FVec Ideal S1024x1024 .bf16) : FVec Ideal S1024x1024 .f32 :=
  matmul dot_S1024x1024_S1024x1024_S1024x1024_1_0_0_1_n_n none a (shapeCast S1024x1024 w shapeCasts_S1024x1024_S1024x1024)
    (constant S1024x1024 .f32 0x00000000#32)

/-- One branch, gated. -/
def gated (g : FVec Ideal S1024x1024 .bf16) (q : FVec Ideal S1024x1024 .f32) : FVec Ideal S1024x1024 .f32 :=
  mulf (logistic (extf .f32 g bitsLt_bf16_f32)) q

/-- The tile's rows, normed. -/
def norm (x : FVec Ideal S1024x1024 .f32) : FVec Ideal S1024x1024 .f32 :=
  mulf x (broadcastTo S1024x1024 (rsqrt (addf (divf (shapeCast S1024x1
      (multiReduction .add [1] S1024 (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024)

theorem prod_apply (a w : FVec Ideal S1024x1024 .bf16) (r n : Fin 1024) : prod a w (ix2 r n) = ∑ j, a (ix2 r j) * w (ix2 j n) := by
  pointwise [prod]

theorem gated_apply (g : FVec Ideal S1024x1024 .bf16) (q : FVec Ideal S1024x1024 .f32) (r n : Fin 1024) :
    gated g q (ix2 r n) = Ideal.logistic (g (ix2 r n)) * q (ix2 r n) := by
  pointwise [gated]

theorem norm_apply (x : FVec Ideal S1024x1024 .f32) (r n : Fin 1024) : norm x (ix2 r n) = normed (fun k => x (ix2 r k)) n := by
  pointwise [norm, normed]

theorem body_stages (h wh p wp g g' wo : Vec Ideal S1024x1024 .bf16) (x : Vec Ideal S1024x1024 .f32) :
    k0_pay2 h wh p wp g g' x wo
      = norm (addf x (prod (truncf .bf16 (addf (gated g (prod h wh)) (gated g' (prod p wp))) bitsLt_bf16_f32) wo)) := rfl

/-- An entry of the body's value before the last scale. -/
theorem body_apply (h wh p wp g g' wo : Vec Ideal S1024x1024 .bf16) (x : Vec Ideal S1024x1024 .f32) (r n : Fin 1024) :
    k0_pay2 h wh p wp g g' x wo (ix2 r n)
      = normed (stream (fun k => x (ix2 r k))
          (mixed (fun j => h (ix2 r j)) (fun j => p (ix2 r j)) (fun j => g (ix2 r j)) (fun j => g' (ix2 r j)) (fun j k => wh (ix2 j k)) (fun j k => wp (ix2 j k)))
          (fun k n => wo (ix2 k n))) n := by
  rw [body_stages, norm_apply]
  refine congrArg (fun f => normed f n) (funext fun k => ?_)
  show x (ix2 r k) + prod _ wo (ix2 r k) = _
  rw [prod_apply]
  refine congrArg (fun s => x (ix2 r k) + s) (Finset.sum_congr rfl fun j _ => congrArg (· * wo (ix2 j k)) ?_)
  show gated g (prod h wh) (ix2 r j) + gated g' (prod p wp) (ix2 r j) = _
  rw [gated_apply, gated_apply, prod_apply, prod_apply]
  rfl

end Cert.Merging.Ker

/-! ## The reference -/

namespace Cert.Merging.Ref

open Cert.MergeReferenceIdeal Cert.MergeReferenceIdeal.Gen Idealize.ShloMosaic Idealize.ShloMosaic.TcCoe Idealize.SL.Sem

/-- The gates: the sigmoid of the two gate columns. -/
def gates (g : FVec Ideal S16384x2048 .bf16) : FVec Ideal S16384x2x1024 .f32 :=
  Host.divf (broadcastInDim S16384x2x1024 ![] bcast_S_S16384x2x1024 (constant S_ .f32 0x3F800000#32))
    (addf (broadcastInDim S16384x2x1024 ![] bcast_S_S16384x2x1024 (constant S_ .f32 0x3F800000#32))
      (Host.exp (Host.negf (shapeCast _ (extf .f32 g bitsLt_bf16_f32) shapeCasts_S16384x2048_S16384x2x1024))))

/-- A product with a layer's matrix. -/
def prod (a : FVec Ideal S16384x1024 .f32) (w : FVec Ideal S1x1024x1024 .f32) : FVec Ideal S16384x1024 .f32 :=
  Host.dotGeneral dot_S16384x1024_S1024x1024_S16384x1024_1_0_0_1_n_n none a (shapeCast _ w shapeCasts_S1x1024x1024_S1024x1024)

/-- The two branches, gated and added. -/
def mix (z : FVec Ideal S16384x2x1024 .f32) (h p : FVec Ideal S16384x1024 .f32) : FVec Ideal S16384x1024 .f32 :=
  addf (mulf (shapeCast _ (extractStridedSlice S16384x1x1024 ![0, 0, 0] z slices_S16384x2x1024_S16384x1x1024_0_0_0) shapeCasts_S16384x1x1024_S16384x1024) h)
    (mulf (shapeCast _ (extractStridedSlice S16384x1x1024 ![0, 1, 0] z slices_S16384x2x1024_S16384x1x1024_0_1_0) shapeCasts_S16384x1x1024_S16384x1024) p)

/-- The root mean square norm. -/
def norm (x : FVec Ideal S16384x1024 .f32) (w : FVec Ideal S1024 .f32) : FVec Ideal S16384x1024 .f32 :=
  mulf (mulf x (broadcastInDim S16384x1024 ![0, 1] bcast_S16384x1_S16384x1024_0_1 (Host.rsqrt (addf (Host.divf
      (broadcastInDim S16384x1 ![0] bcast_S16384_S16384x1_0
        (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 w))

theorem gates_apply (g : FVec Ideal S16384x2048 .bf16) (i : Fin 16384) (s : Fin 2) (k : Fin 1024) :
    gates g (ix3 i s k) = Ideal.logistic (g (ix2 i ⟨s.val * 1024 + k.val, by omega⟩)) := by
  pointwise [gates, Ideal.logistic]

theorem prod_apply (a : FVec Ideal S16384x1024 .f32) (w : FVec Ideal S1x1024x1024 .f32) (i : Fin 16384) (n : Fin 1024) :
    prod a w (ix2 i n) = ∑ j, a (ix2 i j) * w (ix3 0 j n) := by
  pointwise [prod]

theorem mix_apply (z : FVec Ideal S16384x2x1024 .f32) (h p : FVec Ideal S16384x1024 .f32) (i : Fin 16384) (n : Fin 1024) :
    mix z h p (ix2 i n) = z (ix3 i 0 n) * h (ix2 i n) + z (ix3 i 1 n) * p (ix2 i n) := by
  pointwise [mix]

theorem norm_apply (x : FVec Ideal S16384x1024 .f32) (w : FVec Ideal S1024 .f32) (i : Fin 16384) (n : Fin 1024) :
    norm x w (ix2 i n) = normed (fun k => x (ix2 i k)) n * w (ix1 n) := by
  pointwise [norm, normed]

theorem result_stages (m : (ℓ : Loc nD τ sig) → Buf (Elt Ideal) ℓ) (c : Dev nD) :
    Cert.MergeReferenceIdeal.Value.res_out0 m c
      = norm (addf (m ((c.tc : Thread nD τ).loc main_arg3))
          (prod (mix (gates (m ((c.tc : Thread nD τ).loc main_arg2)))
              (prod (extf .f32 (m ((c.tc : Thread nD τ).loc main_arg0) : FVec Ideal S16384x1024 .bf16) bitsLt_bf16_f32) (m ((c.tc : Thread nD τ).loc main_arg4)))
              (prod (extf .f32 (m ((c.tc : Thread nD τ).loc main_arg1) : FVec Ideal S16384x1024 .bf16) bitsLt_bf16_f32) (m ((c.tc : Thread nD τ).loc main_arg5))))
            (m ((c.tc : Thread nD τ).loc main_arg6)))) (m ((c.tc : Thread nD τ).loc main_arg7)) := by
  unfold Cert.MergeReferenceIdeal.Value.res_out0 Cert.MergeReferenceIdeal.Value.res_main_v36
  rfl

end Cert.Merging.Ref

end
-- ==== Proof.Merge.lean ====
module

public import proofs.«01_k».proof.Proof.MergeSpec
public import proofs.«01_k».proof.Proof.Gen.Merge
public import proofs.«01_k».proof.Proof.Gen.Merge.Frame
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.Merging.Ker

open Cert.MergeIdeal Cert.MergeIdeal.Gen Cert.MergeIdeal.Value Idealize.ShloMosaic Idealize.ShloMosaic.TcCoe Idealize.SL.Sem

variable (m : (ℓ : Loc nD τ sig) → Buf (Elt Ideal) ℓ) (c : Dev nD)

/-! ## What the blocks hold -/

/-- The row of the arrays that a row of a point's tile is. -/
def row (t : Fin cfg0.N) (r : Fin 1024) : Fin 16384 := ⟨1024 * t.val + r.val, by
  have h : t.val < 16 := t.isLt
  omega⟩

/-- The block each window moves at a point; every point writes its own back. -/
theorem index_facts : ∀ t : Fin cfg0.N,
    win0_0.index t = ![t.val, 0] ∧ win0_1.index t = ![t.val, 0] ∧ win0_2.index t = ![t.val, 0] ∧ win0_3.index t = ![t.val, 1]
    ∧ win0_4.index t = ![t.val, 0] ∧ win0_5.index t = ![0, 0] ∧ win0_6.index t = ![0, 0] ∧ win0_7.index t = ![0, 0]
    ∧ win0_8.index t = ![0, 0] ∧ win0_9.index t = ![t.val, 0] ∧ win0_9.flush t = true :=
  (by decide +kernel : ∀ t : Fin grid0.N, _)

set_option maxHeartbeats 4000000 in
/-- Every window's block, read off the array it is a block of. -/
theorem reads (t : Fin cfg0.N) :
    (∀ (r n : Fin 1024), iblk m c 0 t (ix2 r n) = V m c main_arg0 (ix2 (row t r) n))
    ∧ (∀ (r n : Fin 1024), iblk m c 1 t (ix2 r n) = V m c main_arg1 (ix2 (row t r) n))
    ∧ (∀ (r n : Fin 1024), iblk m c 2 t (ix2 r n) = V m c main_arg2 (ix2 (row t r) ⟨0 * 1024 + n.val, by omega⟩))
    ∧ (∀ (r n : Fin 1024), iblk m c 3 t (ix2 r n) = V m c main_arg2 (ix2 (row t r) ⟨1 * 1024 + n.val, by omega⟩))
    ∧ (∀ (r n : Fin 1024), iblk m c 4 t (ix2 r n) = V m c main_arg3 (ix2 (row t r) n))
    ∧ (∀ (r n : Fin 1024), iblk m c 5 t (ix2 r n) = V m c main_v1 (ix2 r n))
    ∧ (∀ (r n : Fin 1024), iblk m c 6 t (ix2 r n) = V m c main_v3 (ix2 r n))
    ∧ (∀ (r n : Fin 1024), iblk m c 7 t (ix2 r n) = V m c main_v5 (ix2 r n))
    ∧ (∀ (r : Fin 1) (n : Fin 1024), iblk m c 8 t (ix2 r n) = V m c main_v6 (ix2 r n)) := by
  obtain ⟨e0, e1, e2, e3, e4, e5, e6, e7, e8, -, -⟩ := index_facts t
  have ht : t.val < 16 := t.isLt
  refine ⟨?_, ?_, ?_, ?_, ?_, ?_, ?_, ?_, ?_⟩ <;>
    (intro r n
     blk_ext [iblk, row, e0, e1, e2, e3, e4, e5, e6, e7, e8])

set_option maxHeartbeats 8000000 in
/-- The operands the host makes: the weights without their unit axis, and the norm's scale as a row. -/
theorem operands :
    V m c main_v1 = (truncf .bf16 (shapeCast S1024x1024 (m ((c : Thread nD τ).loc main_arg4)) shapeCasts_S1x1024x1024_S1024x1024 : FVec Ideal S1024x1024 .f32) bitsLt_bf16_f32 : FVec Ideal S1024x1024 .bf16)
    ∧ V m c main_v3 = (truncf .bf16 (shapeCast S1024x1024 (m ((c : Thread nD τ).loc main_arg5)) shapeCasts_S1x1024x1024_S1024x1024 : FVec Ideal S1024x1024 .f32) bitsLt_bf16_f32 : FVec Ideal S1024x1024 .bf16)
    ∧ V m c main_v5 = (truncf .bf16 (shapeCast S1024x1024 (m ((c : Thread nD τ).loc main_arg6)) shapeCasts_S1x1024x1024_S1024x1024 : FVec Ideal S1024x1024 .f32) bitsLt_bf16_f32 : FVec Ideal S1024x1024 .bf16)
    ∧ V m c main_v6 = (broadcastInDim S1x1024 ![1] bcast_S1024_S1x1024_1 (m ((c : Thread nD τ).loc main_arg7)) : FVec Ideal S1x1024 .f32) := by
  refine ⟨?_, ?_, ?_, ?_⟩
  all_goals simp only [V, hostOps0, List.flatten_cons, List.flatten_nil, List.append_nil, List.cons_append, List.nil_append, StableHlo.TRef.binary, StableHlo.TRef.nullary, StableHlo.TRef.reshape, StableHlo.TRef.unary, StableHlo.TRef.ternary, StableHlo.TRef.toBuf, StableHlo.TRef.ofBuf, cast_eq]
  all_goals after_results_simp
  all_goals rfl

theorem weight_apply (w : FVec Ideal S1x1024x1024 .f32) (k n : Fin 1024) :
    (truncf .bf16 (shapeCast S1024x1024 w shapeCasts_S1x1024x1024_S1024x1024 : FVec Ideal S1024x1024 .f32) bitsLt_bf16_f32 : FVec Ideal S1024x1024 .bf16) (ix2 k n)
      = w (ix3 0 k n) := by
  pointwise []

theorem scale_apply (w : FVec Ideal S1024 .f32) (n : Fin 1024) :
    (broadcastInDim S1x1024 ![1] bcast_S1024_S1x1024_1 w : FVec Ideal S1x1024 .f32) (ix2 0 n) = w (ix1 n) := by
  pointwise []

/-! ## What the call leaves in its output -/

theorem ld_tile {α : EltTy} (X : Vec Ideal S1024x1024 α) : View.ld X r0_0 = X := by
  funext y
  exact View.ld_unit_apply_of X _ _ _ _ _ fun b => by
    refine Fin.cases ?_ (fun b => ?_) b
    · exact (Nat.zero_add _).symm
    · obtain rfl : b = 0 := Subsingleton.elim _ _
      exact (Nat.zero_add _).symm

theorem ld_scale {α : EltTy} (X : Vec Ideal S1x1024 α) : View.ld X r0_1 = X := by
  funext y
  exact View.ld_unit_apply_of X _ _ _ _ _ fun b => by
    refine Fin.cases ?_ (fun b => ?_) b
    · exact (Nat.zero_add _).symm
    · obtain rfl : b = 0 := Subsingleton.elim _ _
      exact (Nat.zero_add _).symm

/-- An entry of a point's tile. -/
theorem tile_apply (h p g g' wh wp wo : Vec Ideal S1024x1024 .bf16) (x : Vec Ideal S1024x1024 .f32) (w : Vec Ideal S1x1024 .f32) (r n : Fin 1024) :
    out0_9 h p g g' x wh wp wo w (ix2 r n)
      = normed (stream (fun k => x (ix2 r k))
          (mixed (fun j => h (ix2 r j)) (fun j => p (ix2 r j)) (fun j => g (ix2 r j)) (fun j => g' (ix2 r j)) (fun j k => wh (ix2 j k)) (fun j k => wp (ix2 j k)))
          (fun k n => wo (ix2 k n))) n * w (ix2 0 n) := by
  unfold out0_9
  rw [canon9_eq]
  simp only [ld_tile, ld_scale]
  have i0 : ix9_0 (ix2 r n) = ix2 r n := by
    funext d
    refine Fin.cases rfl (fun d => ?_) d
    obtain rfl : d = 0 := Subsingleton.elim _ _
    rfl
  have i1 : ix9_1 (ix2 r n) = ix2 0 n := by
    funext d
    refine Fin.cases rfl (fun d => ?_) d
    obtain rfl : d = 0 := Subsingleton.elim _ _
    rfl
  show k0_pay2 h wh p wp g g' x wo (ix9_0 (ix2 r n)) * w (ix9_1 (ix2 r n)) = _
  rw [i0, i1, body_apply]

theorem array_read (A : FVec Ideal S16384x1024 .f32) (t : Fin cfg0.N) (r n : Fin 1024) :
    ((cfg0.win 9).blk t).view.read (Elt Ideal) A (ix2 r n) = A (ix2 (row t r) n) := by
  obtain ⟨-, -, -, -, -, -, -, -, -, e9, -⟩ := index_facts t
  have ht : t.val < 16 := t.isLt
  blk_ext [row, e9]

theorem array_apply (t : Fin cfg0.N) (r n : Fin 1024) :
    ((dats m 0 c).arrAt 9 cfg0.N : FVec Ideal S16384x1024 .f32) (ix2 (row t r) n)
      = out0_9 (iblk m c 0 t) (iblk m c 1 t) (iblk m c 2 t) (iblk m c 3 t) (iblk m c 4 t) (iblk m c 5 t) (iblk m c 6 t) (iblk m c 7 t) (iblk m c 8 t) (ix2 r n) := by
  obtain ⟨-, -, -, -, -, -, -, -, -, -, hf⟩ := index_facts t
  refine (array_read _ t r n).symm.trans ((congrFun (blocks9 m c t hf) (ix2 r n)).trans ?_)
  rw [flushed9]
  rfl

/-- An entry of the call's output, from the arguments. -/
theorem kernel_apply (t : Fin cfg0.N) (r n : Fin 1024) :
    ((dats m 0 c).arrAt 9 cfg0.N : FVec Ideal S16384x1024 .f32) (ix2 (row t r) n)
      = result (fun i j => (m ((c : Thread nD τ).loc main_arg0) : FVec Ideal S16384x1024 .bf16) (ix2 i j))
          (fun i j => (m ((c : Thread nD τ).loc main_arg1) : FVec Ideal S16384x1024 .bf16) (ix2 i j))
          (fun i j => (m ((c : Thread nD τ).loc main_arg2) : FVec Ideal S16384x2048 .bf16) (ix2 i j))
          (fun i j => (m ((c : Thread nD τ).loc main_arg3) : FVec Ideal S16384x1024 .f32) (ix2 i j))
          (fun j k => (m ((c : Thread nD τ).loc main_arg4) : FVec Ideal S1x1024x1024 .f32) (ix3 0 j k))
          (fun j k => (m ((c : Thread nD τ).loc main_arg5) : FVec Ideal S1x1024x1024 .f32) (ix3 0 j k))
          (fun j k => (m ((c : Thread nD τ).loc main_arg6) : FVec Ideal S1x1024x1024 .f32) (ix3 0 j k))
          (fun k => (m ((c : Thread nD τ).loc main_arg7) : FVec Ideal S1024 .f32) (ix1 k)) (row t r) n := by
  obtain ⟨h0, h1, h2, h3, h4, h5, h6, h7, h8⟩ := reads m c t
  obtain ⟨o1, o3, o5, o6⟩ := operands m c
  rw [V_main_arg0] at h0
  rw [V_main_arg1] at h1
  rw [V_main_arg2] at h2 h3
  rw [V_main_arg3] at h4
  rw [o1] at h5
  rw [o3] at h6
  rw [o5] at h7
  rw [o6] at h8
  have w5 := fun j k => (h5 j k).trans (weight_apply _ j k)
  have w6 := fun j k => (h6 j k).trans (weight_apply _ j k)
  have w7 := fun j k => (h7 j k).trans (weight_apply _ j k)
  refine (array_apply m c t r n).trans ((tile_apply _ _ _ _ _ _ _ _ _ r n).trans ?_)
  refine congrArg₂ (fun a b : EReal => a * b) (congrArg (fun f => normed f n) ?_) ((h8 0 n).trans (scale_apply _ n))
  refine congr (congr (congrArg stream (funext fun k => h4 r k)) ?_) (funext fun k => funext fun n => w7 k n)
  exact congr (congr (congr (congr (congr (congrArg mixed (funext fun j => h0 r j)) (funext fun j => h1 r j)) (funext fun j => h2 r j))
    (funext fun j => h3 r j)) (funext fun j => funext fun k => w5 j k)) (funext fun j => funext fun k => w6 j k)

end Cert.Merging.Ker

/-! ## The reference's entries -/

namespace Cert.Merging.Ref

open Cert.MergeReferenceIdeal Cert.MergeReferenceIdeal.Gen Idealize.ShloMosaic Idealize.ShloMosaic.TcCoe Idealize.SL.Sem

/-- An entry of the reference's result, from the arguments. -/
theorem result_apply (h p : FVec Ideal S16384x1024 .bf16) (g : FVec Ideal S16384x2048 .bf16) (x : FVec Ideal S16384x1024 .f32)
    (wh wp wo : FVec Ideal S1x1024x1024 .f32) (w : FVec Ideal S1024 .f32) (i : Fin 16384) (n : Fin 1024) :
    norm (addf x (prod (mix (gates g) (prod (extf .f32 h bitsLt_bf16_f32) wh) (prod (extf .f32 p bitsLt_bf16_f32) wp)) wo)) w (ix2 i n)
      = result (fun i j => h (ix2 i j)) (fun i j => p (ix2 i j)) (fun i j => g (ix2 i j)) (fun i j => x (ix2 i j))
          (fun j k => wh (ix3 0 j k)) (fun j k => wp (ix3 0 j k)) (fun j k => wo (ix3 0 j k)) (fun k => w (ix1 k)) i n := by
  rw [norm_apply]
  refine congrArg (fun f => normed f n * w (ix1 n)) (funext fun k => ?_)
  show x (ix2 i k) + prod _ wo (ix2 i k) = _
  rw [prod_apply]
  refine congrArg (fun s => x (ix2 i k) + s) (Finset.sum_congr rfl fun j _ => congrArg (· * wo (ix3 0 j k)) ?_)
  rw [mix_apply, gates_apply, gates_apply, prod_apply, prod_apply]
  rfl

end Cert.Merging.Ref

/-! ## The claims -/

namespace Cert.Merging

open Idealize.ShloMosaic Idealize.ShloMosaic.TcCoe Idealize.SL.Sem

theorem frame_kernel : Cert.quiescent_Merge := fun m ρ _ => Cert.Merge.Gen.frame m ρ

theorem frame_ideal : Cert.quiescent_MergeIdeal := fun m ρ _ => Cert.MergeIdeal.Gen.frame m ρ

theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem preserves : Cert.preserves_Merge_MergeIdeal := trivial

/-- At the extended reals the merge and its reference end with the same array: every entry of either is `result` of the
    same arguments. -/
theorem algebraic : Cert.algebraic_MergeIdeal_MergeReferenceIdeal := by
  intro m ρ m' ρ' _ hagree
  refine ⟨_, Cert.MergeIdeal.Value.run_blocks (F := Ideal) m ρ, ?_⟩
  refine (θ_run Cert.MergeReferenceIdeal.defs _ _).mono (fun _ h c => ⟨(h c).1.trans ?_, (h c).2⟩)
    (Cert.MergeReferenceIdeal.Value.run (F := Ideal) m' ρ')
  obtain ⟨a0, a1, a2, a3, a4, a5, a6, a7⟩ := hagree c
  refine (Ref.result_stages m' c).trans ?_
  rw [a0, a1, a2, a3, a4, a5, a6, a7]
  funext i
  obtain ⟨t, r, n, rfl⟩ : ∃ (t : Fin Cert.MergeIdeal.cfg0.N) (r n : Fin 1024), i = ix2 (Ker.row t r) n := by
    have h0 : (i 0).val < 16384 := (i 0).isLt
    refine ⟨⟨(i 0).val / 1024, show (i 0).val / 1024 < 16 by omega⟩, ⟨(i 0).val % 1024, Nat.mod_lt _ (by decide)⟩, i 1, ?_⟩
    funext d
    refine Fin.cases ?_ (fun d => ?_) d
    · exact Fin.ext (by
        show (i 0).val = 1024 * ((i 0).val / 1024) + (i 0).val % 1024
        omega)
    · obtain rfl : d = 0 := Subsingleton.elim _ _
      rfl
  exact (Ref.result_apply _ _ _ _ _ _ _ _ _ _).trans (Ker.kernel_apply m c t r n).symm

end Cert.Merging

end
-- ==== Proof.InprojSpec.lean ====
module

public import proofs.«01_k».proof.Proof.MergeSpec
public import proofs.«01_k».proof.Proof.Gen.InprojIdeal.Frame
public import Idealize.ShloMosaic.Lib.Claim

@[expose] public section

set_option maxRecDepth 16384

noncomputable section

/-! ## The input projection's tile -/

namespace Cert.Projection.Ker

open Cert.InprojIdeal Cert.InprojIdeal.Gen Idealize.ShloMosaic Idealize.ShloMosaic.TcCoe Idealize.SL.Sem
open Cert.Merging (normed)

/-- The tile's rows between the rows before it and the rows after it. -/
def joined (xp : Vec Ideal S16x1024 .f32) (x : Vec Ideal S1024x1024 .f32) (xn : Vec Ideal S16x1024 .f32) : FVec Ideal S1056x1024 .f32 :=
  concatenate S1056x1024 0 [⟨S16x1024, xp⟩, ⟨S1024x1024, x⟩, ⟨S16x1024, xn⟩] concatenates_S16x1024_S1024x1024_S16x1024_S1056x1024_d0

/-- The rows, normed and scaled. -/
def norm (x : FVec Ideal S1056x1024 .f32) (g : Vec Ideal S1x1024 .f32) : FVec Ideal S1056x1024 .bf16 :=
  truncf .bf16 (mulf (mulf x (broadcastTo S1056x1024 (rsqrt (addf (divf (shapeCast S1056x1
      (multiReduction .add [1] S1056 (mulf x x) 0x00000000#32 reduces_S1056x1024_S1056 (.inl rfl) rfl) shapeCasts_S1056_S1056x1)
    (broadcast S1056x1 (Scalar.ofBits .f32 0x44800000#32))) (broadcast S1056x1 (Scalar.ofBits .f32 0x358637BD#32)))) broadcasts_S1056x1_S1056x1024))
    (broadcastTo S1056x1024 g broadcasts_S1x1024_S1056x1024)) bitsLt_bf16_f32

/-- The projection of all rows on 256 columns. -/
def lines (h : FVec Ideal S1056x1024 .bf16) (w : FVec Ideal S1024x256 .bf16) (b : Vec Ideal S1x256 .f32) : FVec Ideal S1056x256 .f32 :=
  addf (matmul dot_S1056x1024_S1024x256_S1056x256_1_0_0_1_n_n none h (shapeCast S1024x256 w shapeCasts_S1024x256_S1024x256)
    (constant S1056x256 .f32 0x00000000#32)) (broadcastTo S1056x256 b broadcasts_S1x256_S1056x256)

/-- The rows of other sequences set to zero. -/
def padded (first last : BitVec 1) (p : FVec Ideal S1056x256 .f32) : FVec Ideal S1056x256 .f32 :=
  concatenate S1056x256 0
    [⟨S16x256, Scalar.select first (broadcast S16x256 (Scalar.ofBits (F := Ideal) .f32 0x00000000#32)) (extractStridedSlice S16x256 ![0, 0] p slices_S1056x256_o0_0_S16x256)⟩,
     ⟨S1024x256, extractStridedSlice S1024x256 ![16, 0] p slices_S1056x256_o16_0_S1024x256⟩,
     ⟨S16x256, Scalar.select last (broadcast S16x256 (Scalar.ofBits (F := Ideal) .f32 0x00000000#32)) (extractStridedSlice S16x256 ![1040, 0] p slices_S1056x256_o1040_0_S16x256)⟩]
    concatenates_S16x256_S1024x256_S16x256_S1056x256_d0

/-- The centred convolution of three taps. -/
def conv3 (p : FVec Ideal S1056x256 .f32) (w : Vec Ideal S3x256 .f32) (b : Vec Ideal S1x256 .f32) : FVec Ideal S1024x256 .f32 :=
  extractStridedSlice S1024x256 ![16, 0] (addf (addf (addf
      (mulf (dynamicRotate 0 1#32 none p rotates_S1056x256_d0)
        (broadcastTo S1056x256 (extractStridedSlice S1x256 ![0, 0] (shapeCast S3x256 w shapeCasts_S3x256_S3x256) slices_S3x256_o0_0_S1x256) broadcasts_S1x256_S1056x256))
      (mulf p
        (broadcastTo S1056x256 (extractStridedSlice S1x256 ![1, 0] (shapeCast S3x256 w shapeCasts_S3x256_S3x256) slices_S3x256_o1_0_S1x256) broadcasts_S1x256_S1056x256)))
      (mulf (dynamicRotate 0 1055#32 none p rotates_S1056x256_d0)
        (broadcastTo S1056x256 (extractStridedSlice S1x256 ![2, 0] (shapeCast S3x256 w shapeCasts_S3x256_S3x256) slices_S3x256_o2_0_S1x256) broadcasts_S1x256_S1056x256)))
      (broadcastTo S1056x256 b broadcasts_S1x256_S1056x256)) slices_S1056x256_o16_0_S1024x256

/-- The tile's own rows. -/
def own (h : FVec Ideal S1056x1024 .bf16) : FVec Ideal S1024x1024 .bf16 :=
  extractStridedSlice S1024x1024 ![16, 0] h slices_S1056x1024_o16_0_S1024x1024

/-- The projection of the tile's own rows on 256 columns. -/
def line (h : FVec Ideal S1024x1024 .bf16) (w : FVec Ideal S1024x256 .bf16) (b : Vec Ideal S1x256 .f32) : FVec Ideal S1024x256 .f32 :=
  addf (matmul dot_S1024x1024_S1024x256_S1024x256_1_0_0_1_n_n none h (shapeCast S1024x256 w shapeCasts_S1024x256_S1024x256)
    (constant S1024x256 .f32 0x00000000#32)) (broadcastTo S1024x256 b broadcasts_S1x256_S1024x256)

/-- A convolved group of 256 columns. -/
def conv (first last : BitVec 1) (h : FVec Ideal S1056x1024 .bf16) (w : FVec Ideal S1024x256 .bf16) (b : Vec Ideal S1x256 .f32) (cw : Vec Ideal S3x256 .f32)
    (cb : Vec Ideal S1x256 .f32) : FVec Ideal S1024x256 .f32 :=
  conv3 (padded first last (lines h w b)) cw cb

def silu (z : FVec Ideal S1024x256 .f32) : FVec Ideal S1024x256 .f32 := mulf z (logistic z)

section Pieces

variable (i j : BitVec 1) (h : FVec Ideal S1056x1024 .bf16) (o : FVec Ideal S1024x1024 .bf16) (y : FVec Ideal S1056x1024 .f32) (g : Vec Ideal S1x1024 .f32)
variable (w w' : Vec Ideal S1024x256 .bf16) (b b' : Vec Ideal S1x256 .f32) (cw cw' : Vec Ideal S3x256 .f32) (cb cb' : Vec Ideal S1x256 .f32)

theorem hidden_eq (xp : Vec Ideal S16x1024 .f32) (x : Vec Ideal S1024x1024 .f32) (xn : Vec Ideal S16x1024 .f32) :
    k0_pay3 (k0_pay2 xp x xn) g = norm (joined xp x xn) g := rfl

theorem own_eq : k0_pay4 y g = own (k0_pay3 y g) := rfl

theorem piece_u0 : k0_pay7 i j (k0_pay5 i j y g w b cw cb) (k0_pay6 y g w') b' cw' cb'
    = mulf (conv i j (k0_pay3 y g) w b cw cb) (conv i j (k0_pay3 y g) w' b' cw' cb') := rfl

theorem piece_u1 : k0_pay15 (k0_pay12 i j (k0_pay11 h w b) cw cb) (k0_pay13 i j h w' b') (k0_pay14 cw') cb'
    = mulf (conv i j h w b cw cb) (conv i j h w' b' cw' cb') := rfl

theorem piece_u2 : k0_pay23 (k0_pay21 (k0_pay19 i j h w b) (k0_pay20 cw) cb 1#32) cb' (k0_pay22 i j h w' b' cw')
    = mulf (conv i j h w b cw cb) (conv i j h w' b' cw' cb') := rfl

theorem piece_u3 : k0_pay32 i j h (k0_pay31 i j h w b cw cb) w' b' cw' cb'
    = mulf (conv i j h w b cw cb) (conv i j h w' b' cw' cb') := rfl

theorem piece_g0 : k0_pay10 i j h (k0_pay8 o w b) (k0_pay9 w') (constant S1056x256 .f32 0x00000000#32) b' cw' cb'
    = truncf .bf16 (mulf (conv i j h w' b' cw' cb') (silu (line o w b))) bitsLt_bf16_f32 := rfl

theorem piece_g1 : k0_pay18 (k0_pay16 o w b) (k0_pay17 i j h w' b') cw' cb'
    = truncf .bf16 (mulf (conv i j h w' b' cw' cb') (silu (line o w b))) bitsLt_bf16_f32 := rfl

theorem piece_g2 : k0_pay30 (k0_pay24 o w b) cb' (k0_pay27 i j h w' b') (k0_pay28 i j h w' b' cw') (k0_pay29 cw')
    = truncf .bf16 (mulf (conv i j h w' b' cw' cb') (silu (line o w b))) bitsLt_bf16_f32 := rfl

theorem piece_g3 : k0_pay35 i j h (k0_pay33 o w) (k0_pay34 b) w' b' cw' cb'
    = truncf .bf16 (mulf (conv i j h w' b' cw' cb') (silu (line o w b))) bitsLt_bf16_f32 := rfl

theorem piece_p0 : k0_pay56 o w b = truncf .bf16 (line o w b) bitsLt_bf16_f32 := rfl
theorem piece_p1 : k0_pay57 o w b = truncf .bf16 (line o w b) bitsLt_bf16_f32 := rfl
theorem piece_p2 : k0_pay58 o w b = truncf .bf16 (line o w b) bitsLt_bf16_f32 := rfl
theorem piece_p3 : k0_pay59 o w b = truncf .bf16 (line o w b) bitsLt_bf16_f32 := rfl
theorem piece_p4 : k0_pay61 (k0_pay60 o w) b = truncf .bf16 (line o w b) bitsLt_bf16_f32 := rfl
theorem piece_p5 : k0_pay62 o w b = truncf .bf16 (line o w b) bitsLt_bf16_f32 := rfl
theorem piece_p6 : k0_pay63 o w b = truncf .bf16 (line o w b) bitsLt_bf16_f32 := rfl
theorem piece_p7 : k0_pay1 o w b = truncf .bf16 (line o w b) bitsLt_bf16_f32 := rfl

end Pieces

/-! ## Entries -/

/-- A row's product with a column, and the bias. -/
def dotRow (h : FVec Ideal S1056x1024 .bf16) (w : Fin 1024 → EReal) (b : EReal) (r : Fin 1056) : EReal := (∑ j, h (ix2 r j) * w j) + b

/-- An entry of the convolution of the rows' products with a column. -/
def convRow (first last : BitVec 1) (h : FVec Ideal S1056x1024 .bf16) (w : Fin 1024 → EReal) (b : EReal) (cw : Fin 3 → EReal) (cb : EReal) (r : Fin 1024) : EReal :=
  (if r.val = 0 ∧ first = 1#1 then 0 else dotRow h w b ⟨15 + r.val, by omega⟩) * cw 0 + dotRow h w b ⟨16 + r.val, by omega⟩ * cw 1
    + (if r.val = 1023 ∧ last = 1#1 then 0 else dotRow h w b ⟨17 + r.val, by omega⟩) * cw 2 + cb

theorem norm_apply (x : FVec Ideal S1056x1024 .f32) (g : Vec Ideal S1x1024 .f32) (r : Fin 1056) (n : Fin 1024) :
    norm x g (ix2 r n) = normed (fun k => x (ix2 r k)) n * g (ix2 0 n) := by
  pointwise [norm, normed]

theorem lines_apply (h : FVec Ideal S1056x1024 .bf16) (w : Vec Ideal S1024x256 .bf16) (b : Vec Ideal S1x256 .f32) (r : Fin 1056) (n : Fin 256) :
    lines h w b (ix2 r n) = dotRow h (fun j => w (ix2 j n)) (b (ix2 0 n)) r := by
  pointwise [lines, dotRow]

theorem line_apply (h : FVec Ideal S1056x1024 .bf16) (w : Vec Ideal S1024x256 .bf16) (b : Vec Ideal S1x256 .f32) (r : Fin 1024) (n : Fin 256) :
    line (own h) w b (ix2 r n) = dotRow h (fun j => w (ix2 j n)) (b (ix2 0 n)) ⟨16 + r.val, by omega⟩ := by
  pointwise [line, own, dotRow]

theorem conv3_apply (p : FVec Ideal S1056x256 .f32) (w : Vec Ideal S3x256 .f32) (b : Vec Ideal S1x256 .f32) (r : Fin 1024) (n : Fin 256) :
    conv3 p w b (ix2 r n) = p (ix2 ⟨15 + r.val, by omega⟩ n) * w (ix2 0 n) + p (ix2 ⟨16 + r.val, by omega⟩ n) * w (ix2 1 n)
      + p (ix2 ⟨17 + r.val, by omega⟩ n) * w (ix2 2 n) + b (ix2 0 n) := by
  have l : (⟨15 + r.val, by omega⟩ : Fin 1056) = ⟨(16 + r.val + 1056 - 1) % 1056, Nat.mod_lt _ (by decide)⟩ := Fin.ext (by show 15 + r.val = (16 + r.val + 1056 - 1) % 1056; omega)
  have u : (⟨17 + r.val, by omega⟩ : Fin 1056) = ⟨(16 + r.val + 1056 - 1055) % 1056, Nat.mod_lt _ (by decide)⟩ := Fin.ext (by show 17 + r.val = (16 + r.val + 1056 - 1055) % 1056; omega)
  rw [l, u]
  pointwise [conv3]

theorem select_apply {α : Type} {s : Shape} (c : BitVec 1) (x y : s.Idx → α) (i : s.Idx) : Scalar.select c x y i = if c = 1#1 then x i else y i := by
  unfold Scalar.select
  by_cases h : c = 1#1
  · rw [if_pos h]; exact congrFun (if_pos h) i
  · rw [if_neg h]; exact congrFun (if_neg h) i

theorem padded_mid (first last : BitVec 1) (p : FVec Ideal S1056x256 .f32) (r : Fin 1024) (n : Fin 256) :
    padded first last p (ix2 ⟨16 + r.val, by omega⟩ n) = p (ix2 ⟨16 + r.val, by omega⟩ n) := by
  pointwise [padded, select_apply]

theorem padded_left (first last : BitVec 1) (p : FVec Ideal S1056x256 .f32) (r : Fin 1024) (n : Fin 256) :
    padded first last p (ix2 ⟨15 + r.val, by omega⟩ n) = if r.val = 0 ∧ first = 1#1 then 0 else p (ix2 ⟨15 + r.val, by omega⟩ n) := by
  pointwise [padded, select_apply]
  by_cases h : r.val = 0
  · rw [dif_pos (show 15 + r.val < 16 by omega)]
    exact if_congr (by simp [h]) rfl rfl
  · rw [dif_neg (show ¬ 15 + r.val < 16 by omega), dif_pos (show 15 + r.val - 16 < 1024 by omega)]
    exact (congrArg (fun a => p (ix2 a n)) (Fin.ext (by show 16 + (15 + r.val - 16) = 15 + r.val; omega))).trans (if_neg fun e => h e.1).symm

theorem padded_right (first last : BitVec 1) (p : FVec Ideal S1056x256 .f32) (r : Fin 1024) (n : Fin 256) :
    padded first last p (ix2 ⟨17 + r.val, by omega⟩ n) = if r.val = 1023 ∧ last = 1#1 then 0 else p (ix2 ⟨17 + r.val, by omega⟩ n) := by
  pointwise [padded, select_apply]
  rw [dif_neg (show ¬ 17 + r.val < 16 by omega)]
  by_cases h : r.val = 1023
  · rw [dif_neg (show ¬ 17 + r.val - 16 < 1024 by omega)]
    exact if_congr (by simp [h]) rfl (congrArg (fun a => p (ix2 a n)) (Fin.ext (by show 1040 + (17 + r.val - 16 - 1024) = 17 + r.val; omega)))
  · rw [dif_pos (show 17 + r.val - 16 < 1024 by omega)]
    exact (congrArg (fun a => p (ix2 a n)) (Fin.ext (by show 16 + (17 + r.val - 16) = 17 + r.val; omega))).trans (if_neg fun e => h e.1).symm

theorem joined_apply (xp : Vec Ideal S16x1024 .f32) (x : Vec Ideal S1024x1024 .f32) (xn : Vec Ideal S16x1024 .f32) (r : Fin 1056) (k : Fin 1024) :
    joined xp x xn (ix2 r k) = if h : r.val < 16 then xp (ix2 ⟨r.val, h⟩ k) else if h' : r.val < 1040 then x (ix2 ⟨r.val - 16, by omega⟩ k)
      else xn (ix2 ⟨r.val - 1040, by omega⟩ k) := by
  pointwise [joined]
  by_cases h : r.val < 16
  · rw [dif_pos h, dif_pos h]
  · rw [dif_neg h, dif_neg h]
    by_cases h' : r.val < 1040
    · rw [dif_pos h', dif_pos (show r.val - 16 < 1024 by omega)]
    · rw [dif_neg h', dif_neg (show ¬ r.val - 16 < 1024 by omega)]
      exact congrArg (fun a => xn (ix2 a k)) (Fin.ext (by show r.val - 16 - 1024 = r.val - 1040; omega))

theorem conv_apply (first last : BitVec 1) (h : FVec Ideal S1056x1024 .bf16) (w : Vec Ideal S1024x256 .bf16) (b : Vec Ideal S1x256 .f32) (cw : Vec Ideal S3x256 .f32)
    (cb : Vec Ideal S1x256 .f32) (r : Fin 1024) (n : Fin 256) :
    conv first last h w b cw cb (ix2 r n)
      = convRow first last h (fun j => w (ix2 j n)) (b (ix2 0 n)) (fun k => cw (ix2 k n)) (cb (ix2 0 n)) r := by
  unfold conv
  rw [conv3_apply, padded_left, padded_mid, padded_right, lines_apply, lines_apply, lines_apply]
  rfl

end Cert.Projection.Ker

end
-- ==== Proof.InprojTile.lean ====
module

public import proofs.«01_k».proof.Proof.InprojSpec
public import proofs.«01_k».proof.Proof.Gen.InprojIdeal.Value
public import Idealize.ShloMosaic.Lib.Pipeline.ValueKit

@[expose] public section

set_option maxRecDepth 16384

noncomputable section

/-! ## The tile, output by output -/

namespace Cert.Projection.Ker

open Cert.InprojIdeal Cert.InprojIdeal.Gen Cert.InprojIdeal.Value Idealize.ShloMosaic Idealize.ShloMosaic.TcCoe Idealize.SL.Sem
open Cert.Merging (normed)

theorem ld_whole {n k : ℕ} {e : EltTy} (X : Vec Ideal ⟨2, ![n, k]⟩ e) (inb) :
    (View.ld X (Rect.unit (s := ⟨2, ![n, k]⟩) ![0, 0] ![n, k] inb) : Vec Ideal ⟨2, ![n, k]⟩ e) = X := by
  funext y
  exact View.ld_unit_apply_of X _ _ inb _ _ fun b => by
    match b with
    | ⟨0, _⟩ => exact (Nat.zero_add _).symm
    | ⟨1, _⟩ => exact (Nat.zero_add _).symm

theorem ld_cols {n k w : ℕ} {e : EltTy} (X : Vec Ideal ⟨2, ![n, k]⟩ e) (c : ℕ) (inb) (hc : c + w ≤ k) (p : Fin n) (q : Fin w) :
    (View.ld X (Rect.unit (s := ⟨2, ![n, k]⟩) ![0, c] ![n, w] inb) : Vec Ideal ⟨2, ![n, w]⟩ e) (ix2 p q) = X (ix2 p ⟨c + q.val, by omega⟩) :=
  View.ld_unit_apply_of X _ _ inb _ _ fun b => by
    match b with
    | ⟨0, _⟩ => exact (Nat.zero_add _).symm
    | ⟨1, _⟩ => rfl

variable (first last : BitVec 1) (h : FVec Ideal S1056x1024 .bf16)
variable (x4 : Vec Ideal S1024x8192 .bf16) (x5 : Vec Ideal S1x8192 .f32) (x6 : Vec Ideal S3x3072 .f32) (x7 : Vec Ideal S1x3072 .f32)

/-- A row's projection on a column. -/
def dotCol (q : Fin 8192) (r : Fin 1056) : EReal := dotRow h (fun j => x4 (ix2 j q)) (x5 (ix2 0 q)) r

/-- An entry of a convolved column. -/
def convCol (q : Fin 3072) (r : Fin 1024) : EReal :=
  convRow first last h (fun j => x4 (ix2 j ⟨q.val, by omega⟩)) (x5 (ix2 0 ⟨q.val, by omega⟩)) (fun k => x6 (ix2 k q)) (x7 (ix2 0 q)) r

/-- An entry of the convolution's input. -/
def entryU (r n : Fin 1024) : EReal :=
  convCol first last h x4 x5 x6 x7 ⟨1024 + n.val, by omega⟩ r * convCol first last h x4 x5 x6 x7 ⟨2048 + n.val, by omega⟩ r

/-- An entry of its gate. -/
def entryG (r n : Fin 1024) : EReal :=
  convCol first last h x4 x5 x6 x7 ⟨n.val, by omega⟩ r
    * (dotCol h x4 x5 ⟨3072 + n.val, by omega⟩ ⟨16 + r.val, by omega⟩ * Ideal.logistic (dotCol h x4 x5 ⟨3072 + n.val, by omega⟩ ⟨16 + r.val, by omega⟩))

/-- An entry of the gate columns. -/
def entryP (r : Fin 1024) (n : Fin 2048) : EReal := dotCol h x4 x5 ⟨6144 + n.val, by omega⟩ ⟨16 + r.val, by omega⟩

theorem conv_ld (c : ℕ) (hc : c + 256 ≤ 3072) (i4 i5 i6 i7) (r : Fin 1024) (l : Fin 256) :
    conv first last h (View.ld x4 (Rect.unit (s := S1024x8192) ![0, c] ![1024, 256] i4)) (View.ld x5 (Rect.unit (s := S1x8192) ![0, c] ![1, 256] i5))
        (View.ld x6 (Rect.unit (s := S3x3072) ![0, c] ![3, 256] i6)) (View.ld x7 (Rect.unit (s := S1x3072) ![0, c] ![1, 256] i7)) (ix2 r l)
      = convCol first last h x4 x5 x6 x7 ⟨c + l.val, by omega⟩ r := by
  rw [conv_apply]
  unfold convCol
  congr 1
  · exact funext fun j => ld_cols x4 c i4 (by omega) j l
  · exact ld_cols x5 c i5 (by omega) 0 l
  · exact funext fun k => ld_cols x6 c i6 hc k l
  · exact ld_cols x7 c i7 hc 0 l

theorem line_ld (c : ℕ) (hc : c + 256 ≤ 8192) (i4 i5) (r : Fin 1024) (l : Fin 256) :
    line (own h) (View.ld x4 (Rect.unit (s := S1024x8192) ![0, c] ![1024, 256] i4)) (View.ld x5 (Rect.unit (s := S1x8192) ![0, c] ![1, 256] i5)) (ix2 r l)
      = dotCol h x4 x5 ⟨c + l.val, by omega⟩ ⟨16 + r.val, by omega⟩ := by
  rw [line_apply]
  unfold dotCol
  congr 1
  · exact funext fun j => ld_cols x4 c i4 (by omega) j l
  · exact ld_cols x5 c i5 (by omega) 0 l

theorem split_idx (x : S1024x256.Idx) : ∃ (r : Fin 1024) (l : Fin 256), x = ix2 r l :=
  ⟨x 0, x 1, funext fun a => by match a with | ⟨0, _⟩ => rfl | ⟨1, _⟩ => rfl⟩

theorem u_piece (c c1 c2 : ℕ) (hc : c + 256 ≤ 1024) (h1 : c1 = 1024 + c) (h2 : c2 = 2048 + c) (i4 i5 i6 i7 j4 j5 j6 j7) (inb) (x : S1024x256.Idx) :
    mulf (conv first last h (View.ld x4 (Rect.unit (s := S1024x8192) ![0, c1] ![1024, 256] i4)) (View.ld x5 (Rect.unit (s := S1x8192) ![0, c1] ![1, 256] i5))
        (View.ld x6 (Rect.unit (s := S3x3072) ![0, c1] ![3, 256] i6)) (View.ld x7 (Rect.unit (s := S1x3072) ![0, c1] ![1, 256] i7)))
      (conv first last h (View.ld x4 (Rect.unit (s := S1024x8192) ![0, c2] ![1024, 256] j4)) (View.ld x5 (Rect.unit (s := S1x8192) ![0, c2] ![1, 256] j5))
        (View.ld x6 (Rect.unit (s := S3x3072) ![0, c2] ![3, 256] j6)) (View.ld x7 (Rect.unit (s := S1x3072) ![0, c2] ![1, 256] j7))) x
      = entryU first last h x4 x5 x6 x7 ((Rect.unit (s := S1024x1024) ![0, c] ![1024, 256] inb).emb x 0)
          ((Rect.unit (s := S1024x1024) ![0, c] ![1024, 256] inb).emb x 1) := by
  subst h1 h2
  obtain ⟨r, l, rfl⟩ := split_idx x
  have er : ((Rect.unit (s := S1024x1024) ![0, c] ![1024, 256] inb).emb (ix2 r l) 0 : Fin 1024) = r := Fin.ext (by show 0 + 1 * r.val = r.val; omega)
  have el : ((Rect.unit (s := S1024x1024) ![0, c] ![1024, 256] inb).emb (ix2 r l) 1 : Fin 1024) = (⟨c + l.val, (by omega : c + l.val < 1024)⟩ : Fin 1024) := Fin.ext (by show c + 1 * l.val = c + l.val; omega)
  rw [er, el]
  unfold entryU
  refine congrArg₂ (fun a b : EReal => a * b) ?_ ?_
  · exact (conv_ld first last h x4 x5 x6 x7 _ (by omega) i4 i5 i6 i7 r l).trans (congrArg (fun q => convCol first last h x4 x5 x6 x7 q r) (Fin.ext (Nat.add_assoc _ _ _)))
  · exact (conv_ld first last h x4 x5 x6 x7 _ (by omega) j4 j5 j6 j7 r l).trans (congrArg (fun q => convCol first last h x4 x5 x6 x7 q r) (Fin.ext (Nat.add_assoc _ _ _)))

theorem g_piece (c c1 : ℕ) (hc : c + 256 ≤ 1024) (h1 : c1 = 3072 + c) (i4 i5 j4 j5 j6 j7) (inb) (x : S1024x256.Idx) :
    (truncf .bf16 (mulf (conv first last h (View.ld x4 (Rect.unit (s := S1024x8192) ![0, c] ![1024, 256] j4)) (View.ld x5 (Rect.unit (s := S1x8192) ![0, c] ![1, 256] j5))
        (View.ld x6 (Rect.unit (s := S3x3072) ![0, c] ![3, 256] j6)) (View.ld x7 (Rect.unit (s := S1x3072) ![0, c] ![1, 256] j7)))
      (silu (line (own h) (View.ld x4 (Rect.unit (s := S1024x8192) ![0, c1] ![1024, 256] i4)) (View.ld x5 (Rect.unit (s := S1x8192) ![0, c1] ![1, 256] i5)))))
        bitsLt_bf16_f32 : FVec Ideal S1024x256 .bf16) x
      = entryG first last h x4 x5 x6 x7 ((Rect.unit (s := S1024x1024) ![0, c] ![1024, 256] inb).emb x 0)
          ((Rect.unit (s := S1024x1024) ![0, c] ![1024, 256] inb).emb x 1) := by
  subst h1
  obtain ⟨r, l, rfl⟩ := split_idx x
  have er : ((Rect.unit (s := S1024x1024) ![0, c] ![1024, 256] inb).emb (ix2 r l) 0 : Fin 1024) = r := Fin.ext (by show 0 + 1 * r.val = r.val; omega)
  have el : ((Rect.unit (s := S1024x1024) ![0, c] ![1024, 256] inb).emb (ix2 r l) 1 : Fin 1024) = (⟨c + l.val, (by omega : c + l.val < 1024)⟩ : Fin 1024) := Fin.ext (by show c + 1 * l.val = c + l.val; omega)
  rw [er, el]
  unfold entryG
  have e := (line_ld h x4 x5 _ (by omega) i4 i5 r l).trans (congrArg (fun q => dotCol h x4 x5 q ⟨16 + r.val, by omega⟩) (Fin.ext (show (3072 + c) + l.val = 3072 + (c + l.val) from Nat.add_assoc _ _ _) : (⟨3072 + c + l.val, by omega⟩ : Fin 8192) = ⟨3072 + (c + l.val), by omega⟩))
  exact congrArg₂ (fun a b : EReal => a * b) (conv_ld first last h x4 x5 x6 x7 _ (by omega) j4 j5 j6 j7 r l) (congrArg (fun z : EReal => z * Ideal.logistic z) e)

theorem p_piece (c c1 : ℕ) (hc : c + 256 ≤ 2048) (h1 : c1 = 6144 + c) (i4 i5) (inb) (x : S1024x256.Idx) :
    (truncf .bf16 (line (own h) (View.ld x4 (Rect.unit (s := S1024x8192) ![0, c1] ![1024, 256] i4)) (View.ld x5 (Rect.unit (s := S1x8192) ![0, c1] ![1, 256] i5)))
        bitsLt_bf16_f32 : FVec Ideal S1024x256 .bf16) x
      = entryP h x4 x5 ((Rect.unit (s := S1024x2048) ![0, c] ![1024, 256] inb).emb x 0)
          ((Rect.unit (s := S1024x2048) ![0, c] ![1024, 256] inb).emb x 1) := by
  subst h1
  obtain ⟨r, l, rfl⟩ := split_idx x
  have er : ((Rect.unit (s := S1024x2048) ![0, c] ![1024, 256] inb).emb (ix2 r l) 0 : Fin 1024) = r := Fin.ext (by show 0 + 1 * r.val = r.val; omega)
  have el : ((Rect.unit (s := S1024x2048) ![0, c] ![1024, 256] inb).emb (ix2 r l) 1 : Fin 2048) = (⟨c + l.val, (by omega : c + l.val < 2048)⟩ : Fin 2048) := Fin.ext (by show c + 1 * l.val = c + l.val; omega)
  rw [er, el]
  exact (line_ld h x4 x5 _ (by omega) i4 i5 r l).trans (congrArg (fun q => dotCol h x4 x5 q ⟨16 + r.val, by omega⟩) (Fin.ext (Nat.add_assoc 6144 c l.val)))

/-! ## The outputs' blocks -/

section Blocks

variable (i : grid0.Coords) (x0 : Vec Ideal S16x1024 .f32) (x1 : Vec Ideal S1024x1024 .f32) (x2 : Vec Ideal S16x1024 .f32) (x3 : Vec Ideal S1x1024 .f32)
variable (x8 : Vec Ideal S4x256x256 .bf16) (x9 x10 : Vec Ideal S1x1024 .f32)

/-- The test for a sequence's half. -/
def half (i : grid0.Coords) (v : BitVec 32) : BitVec 1 :=
  Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) v

theorem hidden_apply (r : Fin 1056) (n : Fin 1024) :
    k0_pay65 i x0 x1 x2 x3 x4 x5 x6 x7 x8 x9 x10 (ix2 r n) = normed (fun k => joined x0 x1 x2 (ix2 r k)) n * x3 (ix2 0 n) := by
  unfold k0_pay65 k0_pay64
  rw [hidden_eq, norm_apply, ld_whole x0, ld_whole x1, ld_whole x2, ld_whole x3]

theorem block_u (r n : Fin 1024) : out0_11 i x0 x1 x2 x3 x4 x5 x6 x7 x8 x9 x10 (ix2 r n)
    = entryU (half i 0#32) (half i 1#32) (k0_pay65 i x0 x1 x2 x3 x4 x5 x6 x7 x8 x9 x10) x4 x5 x6 x7 r n := by
  unfold out0_11
  refine View.canon_apply_of_pieces (Val := Elt Ideal) (show FVec Ideal S1024x1024 .f32 from fun y => entryU (half i 0#32) (half i 1#32) (k0_pay65 i x0 x1 x2 x3 x4 x5 x6 x7 x8 x9 x10) x4 x5 x6 x7 (y 0) (y 1)) _ ?_ (ix2 r n)
    (cover0_11 _ _ _ _ _)
  intro pc hpc x
  rcases List.mem_cons.mp hpc with rfl | hpc
  · exact (congrFun (piece_u3 _ _ _ _ _ _ _ _ _ _ _) x).trans (u_piece _ _ _ _ _ _ _ 768 _ _ (by decide) rfl rfl _ _ _ _ _ _ _ _ inb_S1024x1024_S1024x256_0_768 x)
  rcases List.mem_cons.mp hpc with rfl | hpc
  · exact (congrFun (piece_u2 _ _ _ _ _ _ _ _ _ _ _) x).trans (u_piece _ _ _ _ _ _ _ 512 _ _ (by decide) rfl rfl _ _ _ _ _ _ _ _ inb_S1024x1024_S1024x256_0_512 x)
  rcases List.mem_cons.mp hpc with rfl | hpc
  · exact (congrFun (piece_u1 _ _ _ _ _ _ _ _ _ _ _) x).trans (u_piece _ _ _ _ _ _ _ 256 _ _ (by decide) rfl rfl _ _ _ _ _ _ _ _ inb_S1024x1024_S1024x256_0_256 x)
  rcases List.mem_cons.mp hpc with rfl | hpc
  · exact (congrFun (piece_u0 _ _ _ _ _ _ _ _ _ _ _ _) x).trans (u_piece _ _ _ _ _ _ _ 0 _ _ (by decide) rfl rfl _ _ _ _ _ _ _ _ inb_S1024x1024_S1024x256_0_0 x)
  nomatch hpc

theorem block_g (r n : Fin 1024) : out0_12 i x0 x1 x2 x3 x4 x5 x6 x7 x8 x9 x10 (ix2 r n)
    = entryG (half i 0#32) (half i 1#32) (k0_pay65 i x0 x1 x2 x3 x4 x5 x6 x7 x8 x9 x10) x4 x5 x6 x7 r n := by
  unfold out0_12
  refine View.canon_apply_of_pieces (Val := Elt Ideal) (show FVec Ideal S1024x1024 .bf16 from fun y => entryG (half i 0#32) (half i 1#32) (k0_pay65 i x0 x1 x2 x3 x4 x5 x6 x7 x8 x9 x10) x4 x5 x6 x7 (y 0) (y 1)) _ ?_ (ix2 r n)
    (cover0_12 _ _ _ _ _)
  intro pc hpc x
  rcases List.mem_cons.mp hpc with rfl | hpc
  · exact (congrFun (piece_g3 _ _ _ _ _ _ _ _ _ _) x).trans (g_piece _ _ (k0_pay65 i x0 x1 x2 x3 x4 x5 x6 x7 x8 x9 x10) _ _ _ _ 768 _ (by decide) rfl _ _ _ _ _ _ inb_S1024x1024_S1024x256_0_768 x)
  rcases List.mem_cons.mp hpc with rfl | hpc
  · exact (congrFun (piece_g2 _ _ _ _ _ _ _ _ _ _) x).trans (g_piece _ _ (k0_pay65 i x0 x1 x2 x3 x4 x5 x6 x7 x8 x9 x10) _ _ _ _ 512 _ (by decide) rfl _ _ _ _ _ _ inb_S1024x1024_S1024x256_0_512 x)
  rcases List.mem_cons.mp hpc with rfl | hpc
  · exact (congrFun (piece_g1 _ _ _ _ _ _ _ _ _ _) x).trans (g_piece _ _ (k0_pay65 i x0 x1 x2 x3 x4 x5 x6 x7 x8 x9 x10) _ _ _ _ 256 _ (by decide) rfl _ _ _ _ _ _ inb_S1024x1024_S1024x256_0_256 x)
  rcases List.mem_cons.mp hpc with rfl | hpc
  · exact (congrFun (piece_g0 _ _ _ _ _ _ _ _ _ _) x).trans (g_piece _ _ (k0_pay65 i x0 x1 x2 x3 x4 x5 x6 x7 x8 x9 x10) _ _ _ _ 0 _ (by decide) rfl _ _ _ _ _ _ inb_S1024x1024_S1024x256_0_0 x)
  nomatch hpc

theorem block_p (r : Fin 1024) (n : Fin 2048) : out0_14 i x0 x1 x2 x3 x4 x5 x6 x7 x8 x9 x10 (ix2 r n)
    = entryP (k0_pay65 i x0 x1 x2 x3 x4 x5 x6 x7 x8 x9 x10) x4 x5 r n := by
  unfold out0_14
  refine View.canon_apply_of_pieces (Val := Elt Ideal) (show FVec Ideal S1024x2048 .bf16 from fun y => entryP (k0_pay65 i x0 x1 x2 x3 x4 x5 x6 x7 x8 x9 x10) x4 x5 (y 0) (y 1)) _ ?_ (ix2 r n)
    (cover0_14 _ _ _ _ _ _ _ _ _)
  intro pc hpc x
  rcases List.mem_cons.mp hpc with rfl | hpc
  · exact (congrFun (piece_p7 _ _ _) x).trans (p_piece (k0_pay65 i x0 x1 x2 x3 x4 x5 x6 x7 x8 x9 x10) _ _ 1792 _ (by decide) rfl _ _ inb_S1024x2048_S1024x256_0_1792 x)
  rcases List.mem_cons.mp hpc with rfl | hpc
  · exact (congrFun (piece_p6 _ _ _) x).trans (p_piece (k0_pay65 i x0 x1 x2 x3 x4 x5 x6 x7 x8 x9 x10) _ _ 1536 _ (by decide) rfl _ _ inb_S1024x2048_S1024x256_0_1536 x)
  rcases List.mem_cons.mp hpc with rfl | hpc
  · exact (congrFun (piece_p5 _ _ _) x).trans (p_piece (k0_pay65 i x0 x1 x2 x3 x4 x5 x6 x7 x8 x9 x10) _ _ 1280 _ (by decide) rfl _ _ inb_S1024x2048_S1024x256_0_1280 x)
  rcases List.mem_cons.mp hpc with rfl | hpc
  · exact (congrFun (piece_p4 _ _ _) x).trans (p_piece (k0_pay65 i x0 x1 x2 x3 x4 x5 x6 x7 x8 x9 x10) _ _ 1024 _ (by decide) rfl _ _ inb_S1024x2048_S1024x256_0_1024 x)
  rcases List.mem_cons.mp hpc with rfl | hpc
  · exact (congrFun (piece_p3 _ _ _) x).trans (p_piece (k0_pay65 i x0 x1 x2 x3 x4 x5 x6 x7 x8 x9 x10) _ _ 768 _ (by decide) rfl _ _ inb_S1024x2048_S1024x256_0_768 x)
  rcases List.mem_cons.mp hpc with rfl | hpc
  · exact (congrFun (piece_p2 _ _ _) x).trans (p_piece (k0_pay65 i x0 x1 x2 x3 x4 x5 x6 x7 x8 x9 x10) _ _ 512 _ (by decide) rfl _ _ inb_S1024x2048_S1024x256_0_512 x)
  rcases List.mem_cons.mp hpc with rfl | hpc
  · exact (congrFun (piece_p1 _ _ _) x).trans (p_piece (k0_pay65 i x0 x1 x2 x3 x4 x5 x6 x7 x8 x9 x10) _ _ 256 _ (by decide) rfl _ _ inb_S1024x2048_S1024x256_0_256 x)
  rcases List.mem_cons.mp hpc with rfl | hpc
  · exact (congrFun (piece_p0 _ _ _) x).trans (p_piece (k0_pay65 i x0 x1 x2 x3 x4 x5 x6 x7 x8 x9 x10) _ _ 0 _ (by decide) rfl _ _ inb_S1024x2048_S1024x256_0_0 x)
  nomatch hpc

end Blocks

end Cert.Projection.Ker

end
-- ==== Proof.InprojRef.lean ====
module

public import proofs.«01_k».proof.Proof.MergeSpec
public import proofs.«01_k».proof.Proof.Gen.InprojReferenceIdeal.Run
public import Idealize.ShloMosaic.Lib.Claim

@[expose] public section

set_option maxRecDepth 16384

noncomputable section

namespace Cert.Projection

open Idealize.ShloMosaic Idealize.ShloMosaic.TcCoe Idealize.SL.Sem
open Cert.Merging (normed)

/-! ## The values both programs end with, as functions of the arguments' entries -/

variable (X : Fin 16384 → Fin 1024 → EReal) (g : Fin 1024 → EReal) (W : Fin 1024 → Fin 8192 → EReal) (b : Fin 8192 → EReal)
variable (cw : Fin 3 → Fin 3072 → EReal) (cb : Fin 3072 → EReal)

/-- A normed row's projection on a column. -/
def proj (q : Fin 8192) (i : Fin 16384) : EReal := (∑ j, (normed (X i) j * g j) * W j q) + b q

/-- The centred convolution of a projected column, zero beyond the ends of a sequence. -/
def short (q : Fin 3072) (i : Fin 16384) : EReal :=
  (if i.val % 2048 = 0 then 0 else proj X g W b ⟨q.val, by omega⟩ ⟨i.val - 1, by omega⟩) * cw 0 q + proj X g W b ⟨q.val, by omega⟩ i * cw 1 q
    + (if i.val % 2048 = 2047 then 0 else proj X g W b ⟨q.val, by omega⟩ ⟨min (i.val + 1) 16383, by omega⟩) * cw 2 q + cb q

def resultU (i : Fin 16384) (n : Fin 1024) : EReal :=
  short X g W b cw cb ⟨1024 + n.val, by omega⟩ i * short X g W b cw cb ⟨2048 + n.val, by omega⟩ i

def resultG (i : Fin 16384) (n : Fin 1024) : EReal :=
  short X g W b cw cb ⟨n.val, by omega⟩ i
    * (proj X g W b ⟨3072 + n.val, by omega⟩ i * Ideal.logistic (proj X g W b ⟨3072 + n.val, by omega⟩ i))

def resultP (i : Fin 16384) (n : Fin 2048) : EReal := proj X g W b ⟨6144 + n.val, by omega⟩ i

end Cert.Projection

namespace Cert.Projection.Ref

open Cert.InprojReferenceIdeal Cert.InprojReferenceIdeal.Gen Cert.InprojReferenceIdeal.Value Idealize.ShloMosaic Idealize.ShloMosaic.TcCoe Idealize.SL.Sem
open Cert.Merging (normed)

/-- The reference's projection. -/
def lines (x : FVec Ideal S16384x1024 .f32) (g : FVec Ideal S1x1024 .f32) (w : FVec Ideal S1x1024x8192 .f32) (b : FVec Ideal S1x8192 .f32) : FVec Ideal S16384x8192 .f32 :=
  addf (Host.dotGeneral (F := Ideal) dot_S16384x1024_S1024x8192_S16384x8192_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 g shapeCasts_S1x1024_S1024)))) (shapeCast S1024x8192 w shapeCasts_S1x1024x8192_S1024x8192)) (broadcastInDim S16384x8192 ![0, 1] bcast_S1x8192_S16384x8192_0_1 (broadcastInDim S1x8192 ![1] bcast_S8192_S1x8192_1 (shapeCast S8192 b shapeCasts_S1x8192_S8192)))

theorem lines_apply (x : FVec Ideal S16384x1024 .f32) (g : FVec Ideal S1x1024 .f32) (w : FVec Ideal S1x1024x8192 .f32) (b : FVec Ideal S1x8192 .f32) (i : Fin 16384) (q : Fin 8192) :
    lines x g w b (ix2 i q) = proj (fun i k => x (ix2 i k)) (fun k => g (ix2 0 k)) (fun j q => w (ix3 0 j q)) (fun q => b (ix2 0 q)) q i := by
  pointwise [lines, proj, normed]

/-- The columns by sequence. -/
def seqs (y : FVec Ideal S16384x8192 .f32) : FVec Ideal S8x2048x8192 .f32 := shapeCast S8x2048x8192 y shapeCasts_S16384x8192_S8x2048x8192

def flat (s : Fin 8) (p : Fin 2048) : Fin 16384 := ⟨s.val * 2048 + p.val, by omega⟩

theorem seqs_apply (y : FVec Ideal S16384x8192 .f32) (s : Fin 8) (p : Fin 2048) (q : Fin 8192) : seqs y (ix3 s p q) = y (ix2 (flat s p) q) := by
  pointwise [seqs, flat]

def padded (y : FVec Ideal S8x2048x8192 .f32) : FVec Ideal S8x2050x3072 .f32 :=
  pad S8x2050x3072 ![0, 1, 0] ![0, 1, 0] ![0, 0, 0] (extractStridedSlice S8x2048x3072 ![0, 0, 0] y slices_S8x2048x8192_S8x2048x3072_0_0_0) (sitofp .f32 (constantI S_ 32 0#32)) pads_S8x2048x3072_S8x2050x3072_000_110_000 h_S_

theorem padded_apply (y : FVec Ideal S8x2048x8192 .f32) (s : Fin 8) (p : Fin 2050) (q : Fin 3072) :
    padded y (ix3 s p q) = if h : 1 ≤ p.val ∧ p.val < 2049 then y (ix3 s ⟨p.val - 1, by omega⟩ ⟨q.val, by omega⟩) else 0 := by
  pointwise [padded]
  by_cases h : 1 ≤ p.val ∧ p.val < 2049
  · rw [dif_pos h, dif_pos ⟨h.1, by omega⟩]
  · rw [dif_neg h, dif_neg fun h' => h ⟨h'.1, by omega⟩]
    exact congrArg (fun r : ℝ => (r : EReal)) (Int.cast_zero (R := ℝ))

def conv (z : FVec Ideal S8x2050x3072 .f32) (w : FVec Ideal S1x3x3072 .f32) (b : FVec Ideal S1x3072 .f32) : FVec Ideal S8x2048x3072 .f32 :=
  addf (addf (addf (mulf (extractStridedSlice S8x2048x3072 ![0, 0, 0] z slices_S8x2050x3072_S8x2048x3072_0_0_0) (broadcastInDim S8x2048x3072 ![0, 1, 2] bcast_S1x1x3072_S8x2048x3072_0_1_2 (broadcastInDim S1x1x3072 ![2] bcast_S3072_S1x1x3072_2 (shapeCast S3072 (extractStridedSlice S1x3072 ![0, 0] (shapeCast S3x3072 w shapeCasts_S1x3x3072_S3x3072) slices_S3x3072_S1x3072_0_0) shapeCasts_S1x3072_S3072)))) (mulf (extractStridedSlice S8x2048x3072 ![0, 1, 0] z slices_S8x2050x3072_S8x2048x3072_0_1_0) (broadcastInDim S8x2048x3072 ![0, 1, 2] bcast_S1x1x3072_S8x2048x3072_0_1_2 (broadcastInDim S1x1x3072 ![2] bcast_S3072_S1x1x3072_2 (shapeCast S3072 (extractStridedSlice S1x3072 ![1, 0] (shapeCast S3x3072 w shapeCasts_S1x3x3072_S3x3072) slices_S3x3072_S1x3072_1_0) shapeCasts_S1x3072_S3072))))) (mulf (extractStridedSlice S8x2048x3072 ![0, 2, 0] z slices_S8x2050x3072_S8x2048x3072_0_2_0) (broadcastInDim S8x2048x3072 ![0, 1, 2] bcast_S1x1x3072_S8x2048x3072_0_1_2 (broadcastInDim S1x1x3072 ![2] bcast_S3072_S1x1x3072_2 (shapeCast S3072 (extractStridedSlice S1x3072 ![2, 0] (shapeCast S3x3072 w shapeCasts_S1x3x3072_S3x3072) slices_S3x3072_S1x3072_2_0) shapeCasts_S1x3072_S3072))))) (broadcastInDim S8x2048x3072 ![0, 1, 2] bcast_S1x1x3072_S8x2048x3072_0_1_2 (broadcastInDim S1x1x3072 ![2] bcast_S3072_S1x1x3072_2 (shapeCast S3072 b shapeCasts_S1x3072_S3072)))

theorem conv_apply (z : FVec Ideal S8x2050x3072 .f32) (w : FVec Ideal S1x3x3072 .f32) (b : FVec Ideal S1x3072 .f32) (s : Fin 8) (p : Fin 2048) (q : Fin 3072) :
    conv z w b (ix3 s p q) = z (ix3 s ⟨0 + p.val, by omega⟩ q) * w (ix3 0 0 q) + z (ix3 s ⟨1 + p.val, by omega⟩ q) * w (ix3 0 1 q)
      + z (ix3 s ⟨2 + p.val, by omega⟩ q) * w (ix3 0 2 q) + b (ix2 0 q) := by
  pointwise [conv]

def outU (v : FVec Ideal S8x2048x3072 .f32) : FVec Ideal S16384x1024 .f32 :=
  shapeCast S16384x1024 (mulf (extractStridedSlice S8x2048x1024 ![0, 0, 2048] v slices_S8x2048x3072_S8x2048x1024_0_0_2048) (extractStridedSlice S8x2048x1024 ![0, 0, 1024] v slices_S8x2048x3072_S8x2048x1024_0_0_1024)) shapeCasts_S8x2048x1024_S16384x1024

theorem outU_apply (v : FVec Ideal S8x2048x3072 .f32) (s : Fin 8) (p : Fin 2048) (n : Fin 1024) :
    outU v (ix2 (flat s p) n) = v (ix3 s p ⟨2048 + n.val, by omega⟩) * v (ix3 s p ⟨1024 + n.val, by omega⟩) := by
  pointwise [outU, flat]

def outG (v : FVec Ideal S8x2048x3072 .f32) (y : FVec Ideal S8x2048x8192 .f32) : FVec Ideal S16384x1024 .bf16 :=
  truncf .bf16 (shapeCast S16384x1024 (mulf (extractStridedSlice S8x2048x1024 ![0, 0, 0] v slices_S8x2048x3072_S8x2048x1024_0_0_0) (mulf (extractStridedSlice S8x2048x1024 ![0, 0, 3072] y slices_S8x2048x8192_S8x2048x1024_0_0_3072) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 3072] y slices_S8x2048x8192_S8x2048x1024_0_0_3072))))))) shapeCasts_S8x2048x1024_S16384x1024 : FVec Ideal S16384x1024 .f32) bitsLt_bf16_f32

theorem outG_apply (v : FVec Ideal S8x2048x3072 .f32) (y : FVec Ideal S8x2048x8192 .f32) (s : Fin 8) (p : Fin 2048) (n : Fin 1024) :
    outG v y (ix2 (flat s p) n) = v (ix3 s p ⟨n.val, by omega⟩)
      * (y (ix3 s p ⟨3072 + n.val, by omega⟩) * Ideal.logistic (y (ix3 s p ⟨3072 + n.val, by omega⟩))) := by
  pointwise [outG, flat]
  rfl

def outP (y : FVec Ideal S8x2048x8192 .f32) : FVec Ideal S16384x2048 .bf16 :=
  truncf .bf16 (shapeCast S16384x2048 (extractStridedSlice S8x2048x2048 ![0, 0, 6144] y slices_S8x2048x8192_S8x2048x2048_0_0_6144) shapeCasts_S8x2048x2048_S16384x2048 : FVec Ideal S16384x2048 .f32) bitsLt_bf16_f32

theorem outP_apply (y : FVec Ideal S8x2048x8192 .f32) (s : Fin 8) (p n : Fin 2048) :
    outP y (ix2 (flat s p) n) = y (ix3 s p ⟨6144 + n.val, by omega⟩) := by
  pointwise [outP, flat]

/-- The convolved columns, from the arguments. -/
theorem conv_short (x : FVec Ideal S16384x1024 .f32) (g : FVec Ideal S1x1024 .f32) (w : FVec Ideal S1x1024x8192 .f32) (b : FVec Ideal S1x8192 .f32)
    (cw : FVec Ideal S1x3x3072 .f32) (cb : FVec Ideal S1x3072 .f32) (s : Fin 8) (p : Fin 2048) (q : Fin 3072) :
    conv (padded (seqs (lines x g w b))) cw cb (ix3 s p q)
      = short (fun i k => x (ix2 i k)) (fun k => g (ix2 0 k)) (fun j q => w (ix3 0 j q)) (fun q => b (ix2 0 q))
          (fun k q => cw (ix3 0 k q)) (fun q => cb (ix2 0 q)) q (flat s p) := by
  have hs : s.val < 8 := s.isLt
  have hp : p.val < 2048 := p.isLt
  rw [conv_apply, padded_apply, padded_apply, padded_apply]
  unfold short
  refine congrArg₂ (fun a b : EReal => a + b) (congrArg₂ (fun a b : EReal => a + b) (congrArg₂ (fun a b : EReal => a + b)
    (congrArg (fun a : EReal => a * cw (ix3 0 0 q)) ?_) (congrArg (fun a : EReal => a * cw (ix3 0 1 q)) ?_)) (congrArg (fun a : EReal => a * cw (ix3 0 2 q)) ?_)) rfl
  · by_cases h : p.val = 0
    · exact (dif_neg fun h' => absurd h'.1 (by show ¬ 1 ≤ 0 + p.val; omega)).trans (if_pos (show (s.val * 2048 + p.val) % 2048 = 0 by omega)).symm
    · refine (dif_pos (show 1 ≤ 0 + p.val ∧ 0 + p.val < 2049 by omega)).trans (Eq.trans ?_ (if_neg (show ¬ (s.val * 2048 + p.val) % 2048 = 0 by omega)).symm)
      rw [seqs_apply, lines_apply]
      exact congrArg (proj _ _ _ _ _) (Fin.ext (show s.val * 2048 + (0 + p.val - 1) = s.val * 2048 + p.val - 1 by omega))
  · refine (dif_pos (show 1 ≤ 1 + p.val ∧ 1 + p.val < 2049 by omega)).trans ?_
    rw [seqs_apply, lines_apply]
    exact congrArg (proj _ _ _ _ _) (Fin.ext (show s.val * 2048 + (1 + p.val - 1) = s.val * 2048 + p.val by omega))
  · by_cases h : p.val = 2047
    · exact (dif_neg fun h' => absurd h'.2 (by show ¬ 2 + p.val < 2049; omega)).trans (if_pos (show (s.val * 2048 + p.val) % 2048 = 2047 by omega)).symm
    · refine (dif_pos (show 1 ≤ 2 + p.val ∧ 2 + p.val < 2049 by omega)).trans (Eq.trans ?_ (if_neg (show ¬ (s.val * 2048 + p.val) % 2048 = 2047 by omega)).symm)
      rw [seqs_apply, lines_apply]
      exact congrArg (proj _ _ _ _ _) (Fin.ext (show s.val * 2048 + (2 + p.val - 1) = min (s.val * 2048 + p.val + 1) 16383 by omega))

section Results

variable (x : FVec Ideal S16384x1024 .f32) (g : FVec Ideal S1x1024 .f32) (w : FVec Ideal S1x1024x8192 .f32) (b : FVec Ideal S1x8192 .f32)
variable (cw : FVec Ideal S1x3x3072 .f32) (cb : FVec Ideal S1x3072 .f32)

theorem u_apply (s : Fin 8) (p : Fin 2048) (n : Fin 1024) : outU (conv (padded (seqs (lines x g w b))) cw cb) (ix2 (flat s p) n)
    = resultU (fun i k => x (ix2 i k)) (fun k => g (ix2 0 k)) (fun j q => w (ix3 0 j q)) (fun q => b (ix2 0 q))
        (fun k q => cw (ix3 0 k q)) (fun q => cb (ix2 0 q)) (flat s p) n := by
  rw [outU_apply, conv_short, conv_short]
  exact mul_comm _ _

theorem g_apply (s : Fin 8) (p : Fin 2048) (n : Fin 1024) : outG (conv (padded (seqs (lines x g w b))) cw cb) (seqs (lines x g w b)) (ix2 (flat s p) n)
    = resultG (fun i k => x (ix2 i k)) (fun k => g (ix2 0 k)) (fun j q => w (ix3 0 j q)) (fun q => b (ix2 0 q))
        (fun k q => cw (ix3 0 k q)) (fun q => cb (ix2 0 q)) (flat s p) n := by
  rw [outG_apply, conv_short, seqs_apply, lines_apply]
  rfl

theorem p_apply (s : Fin 8) (p n : Fin 2048) : outP (seqs (lines x g w b)) (ix2 (flat s p) n)
    = resultP (fun i k => x (ix2 i k)) (fun k => g (ix2 0 k)) (fun j q => w (ix3 0 j q)) (fun q => b (ix2 0 q)) (flat s p) n := by
  rw [outP_apply, seqs_apply, lines_apply]
  rfl

end Results

theorem v20_eq (V0 : Valuation τ sig (Elt Ideal)) : res_main_v20 V0
    = seqs (lines (V0 (Proc.devRef .tc main_arg0)) (V0 (Proc.devRef .tc main_arg1)) (V0 (Proc.devRef .tc main_arg2)) (V0 (Proc.devRef .tc main_arg3))) := rfl

theorem v47_eq (V0 : Valuation τ sig (Elt Ideal)) : res_main_v47 V0
    = conv (padded (res_main_v20 V0)) (V0 (Proc.devRef .tc main_arg4)) (V0 (Proc.devRef .tc main_arg5)) := rfl

end Cert.Projection.Ref

end
-- ==== Proof.Inproj.lean ====
module

public import proofs.«01_k».proof.Proof.InprojTile
public import proofs.«01_k».proof.Proof.InprojRef
public import proofs.«01_k».proof.Proof.Gen.Inproj
public import proofs.«01_k».proof.Proof.Gen.Inproj.Frame
public import Idealize.ShloMosaic.Lib.Pipeline.ValueKit
public import Idealize.ShloMosaic.Adequacy
public import Idealize.ShloMosaic.Init
public import proofs.«01_k».proof.Defs

@[expose] public section

set_option maxRecDepth 16384

noncomputable section

namespace Cert.Projection.Ker

open Cert.InprojIdeal Cert.InprojIdeal.Gen Cert.InprojIdeal.Value Idealize.ShloMosaic Idealize.ShloMosaic.TcCoe Idealize.SL.Sem
open Cert.Merging (normed)

variable (m : (ℓ : Loc nD τ sig) → Buf (Elt Ideal) ℓ) (c : Dev nD)

/-! ## What the blocks hold -/

/-- The row of the arrays that a row of a point's tile is. -/
def row (t : Fin cfg0.N) (r : Fin 1024) : Fin 16384 := ⟨1024 * t.val + r.val, by
  have h : t.val < 16 := t.isLt
  omega⟩

/-- The block each window moves at a point: the two halos are the 16 rows before and after the tile, within the array. -/
theorem index_facts : ∀ t : Fin cfg0.N,
    win0_0.index t = ![64 * t.val - 1, 0] ∧ win0_1.index t = ![t.val, 0] ∧ win0_2.index t = ![min (64 * t.val + 64) 1023, 0]
    ∧ win0_3.index t = ![0, 0] ∧ win0_4.index t = ![0, 0] ∧ win0_5.index t = ![0, 0] ∧ win0_6.index t = ![0, 0] ∧ win0_7.index t = ![0, 0]
    ∧ win0_11.index t = ![t.val, 0] ∧ win0_12.index t = ![t.val, 0] ∧ win0_14.index t = ![t.val, 0]
    ∧ win0_11.flush t = true ∧ win0_12.flush t = true ∧ win0_14.flush t = true :=
  (by decide +kernel : ∀ t : Fin grid0.N, _)

/-- The tests for the halves of a sequence: even points hold its first, odd points its last. -/
theorem half_facts : ∀ t : Fin cfg0.N, (half (grid0.coords t) 0#32 = 1#1 ↔ t.val % 2 = 0) ∧ (half (grid0.coords t) 1#32 = 1#1 ↔ t.val % 2 = 1) :=
  (by decide +kernel : ∀ t : Fin grid0.N, (half (grid0.coords t) 0#32 = 1#1 ↔ t.val % 2 = 0) ∧ (half (grid0.coords t) 1#32 = 1#1 ↔ t.val % 2 = 1))

set_option maxHeartbeats 4000000 in
/-- Every window's block, read off the array it is a block of. -/
theorem reads (t : Fin cfg0.N) (ht : t.val < 16) :
    (∀ (r : Fin 16) (n : Fin 1024), iblk m c 0 t (ix2 r n) = V m c main_arg0 (ix2 ⟨(64 * t.val - 1) * 16 + r.val, by omega⟩ n))
    ∧ (∀ (r n : Fin 1024), iblk m c 1 t (ix2 r n) = V m c main_arg0 (ix2 (row t r) n))
    ∧ (∀ (r : Fin 16) (n : Fin 1024), iblk m c 2 t (ix2 r n) = V m c main_arg0 (ix2 ⟨min (64 * t.val + 64) 1023 * 16 + r.val, by omega⟩ n))
    ∧ (∀ (r : Fin 1) (n : Fin 1024), iblk m c 3 t (ix2 r n) = V m c main_arg1 (ix2 r n))
    ∧ (∀ (r : Fin 1024) (n : Fin 8192), iblk m c 4 t (ix2 r n) = V m c main_v1 (ix2 r n))
    ∧ (∀ (r : Fin 1) (n : Fin 8192), iblk m c 5 t (ix2 r n) = V m c main_arg3 (ix2 r n))
    ∧ (∀ (r : Fin 3) (n : Fin 3072), iblk m c 6 t (ix2 r n) = V m c main_v2 (ix2 r n))
    ∧ (∀ (r : Fin 1) (n : Fin 3072), iblk m c 7 t (ix2 r n) = V m c main_arg5 (ix2 r n)) := by
  obtain ⟨e0, e1, e2, e3, e4, e5, e6, e7, -⟩ := index_facts t
  refine ⟨?_, ?_, ?_, ?_, ?_, ?_, ?_, ?_⟩ <;>
    (intro r n
     blk_ext [iblk, row, e0, e1, e2, e3, e4, e5, e6, e7])

set_option maxHeartbeats 8000000 in
/-- The operands the host makes: the weights and the filters without their unit axis. -/
theorem operands :
    V m c main_v1 = (truncf .bf16 (shapeCast S1024x8192 (m ((c : Thread nD τ).loc main_arg2)) shapeCasts_S1x1024x8192_S1024x8192 : FVec Ideal S1024x8192 .f32) bitsLt_bf16_f32 : FVec Ideal S1024x8192 .bf16)
    ∧ V m c main_v2 = (shapeCast S3x3072 (m ((c : Thread nD τ).loc main_arg4)) shapeCasts_S1x3x3072_S3x3072 : FVec Ideal S3x3072 .f32) := by
  refine ⟨?_, ?_⟩
  all_goals simp only [V, hostOps0, List.flatten_cons, List.flatten_nil, List.append_nil, List.cons_append, List.nil_append, StableHlo.TRef.binary, StableHlo.TRef.nullary, StableHlo.TRef.reshape, StableHlo.TRef.unary, StableHlo.TRef.ternary, StableHlo.TRef.toBuf, StableHlo.TRef.ofBuf, cast_eq]
  all_goals after_results_simp
  all_goals rfl

theorem weight_apply (w : FVec Ideal S1x1024x8192 .f32) (k : Fin 1024) (n : Fin 8192) :
    (truncf .bf16 (shapeCast S1024x8192 w shapeCasts_S1x1024x8192_S1024x8192 : FVec Ideal S1024x8192 .f32) bitsLt_bf16_f32 : FVec Ideal S1024x8192 .bf16) (ix2 k n)
      = w (ix3 0 k n) := by
  pointwise []

theorem filter_apply (w : FVec Ideal S1x3x3072 .f32) (k : Fin 3) (n : Fin 3072) :
    (shapeCast S3x3072 w shapeCasts_S1x3x3072_S3x3072 : FVec Ideal S3x3072 .f32) (ix2 k n) = w (ix3 0 k n) := by
  pointwise []

/-! ## The tile's entries, from the arguments -/

abbrev argX (i : Fin 16384) (k : Fin 1024) : EReal := (m ((c : Thread nD τ).loc main_arg0) : FVec Ideal S16384x1024 .f32) (ix2 i k)
abbrev argG (k : Fin 1024) : EReal := (m ((c : Thread nD τ).loc main_arg1) : FVec Ideal S1x1024 .f32) (ix2 0 k)
abbrev argW (j : Fin 1024) (q : Fin 8192) : EReal := (m ((c : Thread nD τ).loc main_arg2) : FVec Ideal S1x1024x8192 .f32) (ix3 0 j q)
abbrev argB (q : Fin 8192) : EReal := (m ((c : Thread nD τ).loc main_arg3) : FVec Ideal S1x8192 .f32) (ix2 0 q)
abbrev argF (k : Fin 3) (q : Fin 3072) : EReal := (m ((c : Thread nD τ).loc main_arg4) : FVec Ideal S1x3x3072 .f32) (ix3 0 k q)
abbrev argD (q : Fin 3072) : EReal := (m ((c : Thread nD τ).loc main_arg5) : FVec Ideal S1x3072 .f32) (ix2 0 q)

/-- The normed rows of a point: the tile's with the halos. -/
abbrev hidden (t : Fin cfg0.N) : FVec Ideal S1056x1024 .bf16 :=
  k0_pay65 (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 10 t)

theorem joined_row (t : Fin cfg0.N) (r : Fin 1056) (i : Fin 16384) (hi : i.val + 16 = 1024 * t.val + r.val) (k : Fin 1024) :
    joined (iblk m c 0 t) (iblk m c 1 t) (iblk m c 2 t) (ix2 r k) = argX m c i k := by
  have ht : t.val < 16 := t.isLt
  have hr : r.val < 1056 := r.isLt
  have hl : i.val < 16384 := i.isLt
  obtain ⟨h0, h1, h2, -⟩ := reads m c t ht
  rw [V_main_arg0] at h0 h1 h2
  rw [joined_apply]
  by_cases h : r.val < 16
  · rw [dif_pos h, h0]
    exact congrArg (fun i => argX m c i k) (Fin.ext (show (64 * t.val - 1) * 16 + r.val = i.val by omega))
  rw [dif_neg h]
  by_cases h' : r.val < 1040
  · rw [dif_pos h', h1]
    exact congrArg (fun i => argX m c i k) (Fin.ext (show 1024 * t.val + (r.val - 16) = i.val by omega))
  · rw [dif_neg h', h2]
    exact congrArg (fun i => argX m c i k) (Fin.ext (show min (64 * t.val + 64) 1023 * 16 + (r.val - 1040) = i.val by omega))

theorem dot_tile (t : Fin cfg0.N) (r : Fin 1056) (i : Fin 16384) (hi : i.val + 16 = 1024 * t.val + r.val) (q : Fin 8192) :
    dotCol (hidden m c t) (iblk m c 4 t) (iblk m c 5 t) q r = proj (argX m c) (argG m c) (argW m c) (argB m c) q i := by
  obtain ⟨-, -, -, h3, h4, h5, -⟩ := reads m c t t.isLt
  obtain ⟨o1, -⟩ := operands m c
  rw [V_main_arg1] at h3
  rw [V_main_arg3] at h5
  rw [o1] at h4
  unfold dotCol dotRow proj
  refine congrArg₂ (fun a b : EReal => a + b) (Finset.sum_congr rfl fun j _ => ?_) (h5 0 q)
  refine congrArg₂ (fun a b : EReal => a * b) ?_ ((h4 j q).trans (weight_apply _ j q))
  refine (hidden_apply _ _ _ _ _ _ _ _ _ _ _ _ r j).trans ?_
  exact congrArg₂ (fun a b : EReal => a * b) (congrArg (fun f => normed f j) (funext fun k => joined_row m c t r i hi k)) (h3 0 j)

theorem conv_tile (t : Fin cfg0.N) (r : Fin 1024) (q : Fin 3072) :
    convCol (half (grid0.coords t) 0#32) (half (grid0.coords t) 1#32) (hidden m c t) (iblk m c 4 t) (iblk m c 5 t) (iblk m c 6 t) (iblk m c 7 t) q r
      = short (argX m c) (argG m c) (argW m c) (argB m c) (argF m c) (argD m c) q (row t r) := by
  have ht : t.val < 16 := t.isLt
  have hr : r.val < 1024 := r.isLt
  obtain ⟨-, -, -, -, -, -, h6, h7⟩ := reads m c t t.isLt
  obtain ⟨-, o2⟩ := operands m c
  obtain ⟨f0, f1⟩ := half_facts t
  rw [V_main_arg5] at h7
  rw [o2] at h6
  have w6 := fun k => (h6 k q).trans (filter_apply _ k q)
  unfold convCol convRow short
  refine congrArg₂ (fun a b : EReal => a + b) (congrArg₂ (fun a b : EReal => a + b) (congrArg₂ (fun a b : EReal => a + b)
    (congrArg₂ (fun a b : EReal => a * b) ?_ (w6 0)) (congrArg₂ (fun a b : EReal => a * b) ?_ (w6 1))) (congrArg₂ (fun a b : EReal => a * b) ?_ (w6 2))) (h7 0 q)
  · by_cases h : r.val = 0 ∧ half (grid0.coords t) 0#32 = 1#1
    · have h2 := f0.mp h.2
      exact (if_pos h).trans (if_pos (show (1024 * t.val + r.val) % 2048 = 0 by omega)).symm
    · have h2 : ¬ (1024 * t.val + r.val) % 2048 = 0 := fun e => h ⟨by omega, f0.mpr (by omega)⟩
      refine (if_neg h).trans (Eq.trans ?_ (if_neg h2).symm)
      exact dot_tile m c t _ _ (by show 1024 * t.val + r.val - 1 + 16 = 1024 * t.val + (15 + r.val); omega) _
  · exact dot_tile m c t _ _ (by show 1024 * t.val + r.val + 16 = 1024 * t.val + (16 + r.val); omega) _
  · by_cases h : r.val = 1023 ∧ half (grid0.coords t) 1#32 = 1#1
    · have h2 := f1.mp h.2
      exact (if_pos h).trans (if_pos (show (1024 * t.val + r.val) % 2048 = 2047 by omega)).symm
    · have h2 : ¬ (1024 * t.val + r.val) % 2048 = 2047 := fun e => h ⟨by omega, f1.mpr (by omega)⟩
      refine (if_neg h).trans (Eq.trans ?_ (if_neg h2).symm)
      exact dot_tile m c t _ _ (by show min (1024 * t.val + r.val + 1) 16383 + 16 = 1024 * t.val + (17 + r.val); omega) _

/-! ## What the call leaves in its outputs -/

theorem array_reads (t : Fin cfg0.N) :
    (∀ (A : FVec Ideal S16384x1024 .f32) (r n : Fin 1024), ((cfg0.win 11).blk t).view.read (Elt Ideal) A (ix2 r n) = A (ix2 (row t r) n))
    ∧ (∀ (A : FVec Ideal S16384x1024 .bf16) (r n : Fin 1024), ((cfg0.win 12).blk t).view.read (Elt Ideal) A (ix2 r n) = A (ix2 (row t r) n))
    ∧ (∀ (A : FVec Ideal S16384x2048 .bf16) (r : Fin 1024) (n : Fin 2048), ((cfg0.win 14).blk t).view.read (Elt Ideal) A (ix2 r n) = A (ix2 (row t r) n)) := by
  obtain ⟨-, -, -, -, -, -, -, -, e11, e12, e14, -⟩ := index_facts t
  have ht : t.val < 16 := t.isLt
  refine ⟨?_, ?_, ?_⟩ <;>
    (intro A r n
     blk_ext [row, e11, e12, e14])

theorem u_apply (t : Fin cfg0.N) (r n : Fin 1024) :
    ((dats m 0 c).arrAt 11 cfg0.N : FVec Ideal S16384x1024 .f32) (ix2 (row t r) n)
      = resultU (argX m c) (argG m c) (argW m c) (argB m c) (argF m c) (argD m c) (row t r) n := by
  obtain ⟨-, -, -, -, -, -, -, -, -, -, -, hf, -⟩ := index_facts t
  refine ((array_reads t).1 _ r n).symm.trans ((congrFun (blocks11 m c t hf) (ix2 r n)).trans ?_)
  rw [flushed11]
  refine (block_u _ _ _ _ _ _ _ _ _ _ _ _ r n).trans ?_
  exact congrArg₂ (fun a b : EReal => a * b) (conv_tile m c t r _) (conv_tile m c t r _)

theorem g_apply (t : Fin cfg0.N) (r n : Fin 1024) :
    ((dats m 0 c).arrAt 12 cfg0.N : FVec Ideal S16384x1024 .bf16) (ix2 (row t r) n)
      = resultG (argX m c) (argG m c) (argW m c) (argB m c) (argF m c) (argD m c) (row t r) n := by
  obtain ⟨-, -, -, -, -, -, -, -, -, -, -, -, hf, -⟩ := index_facts t
  refine ((array_reads t).2.1 _ r n).symm.trans ((congrFun (blocks12 m c t hf) (ix2 r n)).trans ?_)
  rw [flushed12]
  refine (block_g _ _ _ _ _ _ _ _ _ _ _ _ r n).trans ?_
  refine congrArg₂ (fun a b : EReal => a * b) (conv_tile m c t r _) (congrArg (fun z : EReal => z * Ideal.logistic z) ?_)
  exact dot_tile m c t _ _ (by show 1024 * t.val + r.val + 16 = 1024 * t.val + (16 + r.val); omega) _

theorem p_apply (t : Fin cfg0.N) (r : Fin 1024) (n : Fin 2048) :
    ((dats m 0 c).arrAt 14 cfg0.N : FVec Ideal S16384x2048 .bf16) (ix2 (row t r) n)
      = resultP (argX m c) (argG m c) (argW m c) (argB m c) (row t r) n := by
  obtain ⟨-, -, -, -, -, -, -, -, -, -, -, -, -, hf⟩ := index_facts t
  refine ((array_reads t).2.2 _ r n).symm.trans ((congrFun (blocks14 m c t hf) (ix2 r n)).trans ?_)
  rw [flushed14]
  refine (block_p _ _ _ _ _ _ _ _ _ _ _ _ r n).trans ?_
  exact dot_tile m c t _ _ (by show 1024 * t.val + r.val + 16 = 1024 * t.val + (16 + r.val); omega) _

end Cert.Projection.Ker

/-! ## The claims -/

namespace Cert.Projection

open Idealize.ShloMosaic Idealize.ShloMosaic.TcCoe Idealize.SL.Sem

/-- The shapes' facts the mask is stated with. -/
instance maskFacts : Cert.On_besides_pool.Facts where
  bcast_S_S16384x1024 := by decide
  bcast_S_S16384x2048 := by decide

theorem frame_kernel : Cert.quiescent_Inproj := fun m ρ _ => Cert.Inproj.Gen.frame m ρ

theorem frame_ideal : Cert.quiescent_InprojIdeal := fun m ρ _ => Cert.InprojIdeal.Gen.frame m ρ

theorem frame_reference : Cert.quiescent_InprojReferenceIdeal := fun m ρ _ =>
  (θ_run Cert.InprojReferenceIdeal.defs _ _).mono (fun r h => ⟨fun c => (h c).2.2.2.2, sem_eq_zero_of_no_sems (by decide) r.2⟩)
    (Cert.InprojReferenceIdeal.Value.run (F := Ideal) m ρ)

theorem preserves : Cert.preserves_Inproj_InprojIdeal := trivial

/-- An index of the results is a row of a sequence, and a row of a point's tile. -/
theorem split_row (i : Fin 16384) : ∃ (t : Fin Cert.InprojIdeal.cfg0.N) (r : Fin 1024) (s : Fin 8) (p : Fin 2048), i = Ker.row t r ∧ Ker.row t r = Ref.flat s p := by
  have h : i.val < 16384 := i.isLt
  refine ⟨⟨i.val / 1024, show i.val / 1024 < 16 by omega⟩, ⟨i.val % 1024, Nat.mod_lt _ (by decide)⟩, ⟨i.val / 2048, by omega⟩, ⟨i.val % 2048, Nat.mod_lt _ (by decide)⟩, Fin.ext ?_, Fin.ext ?_⟩
  · show i.val = 1024 * (i.val / 1024) + i.val % 1024
    omega
  · show 1024 * (i.val / 1024) + i.val % 1024 = i.val / 2048 * 2048 + i.val % 2048
    omega

theorem split_idx {n : ℕ} (i : (⟨2, ![16384, n]⟩ : Shape).Idx) : ∃ (r : Fin 16384) (k : Fin n), i = ix2 r k :=
  ⟨i 0, i 1, funext fun a => by match a with | ⟨0, _⟩ => rfl | ⟨1, _⟩ => rfl⟩

/-- At the extended reals the projection and its reference end with the same convolution input, gate and gate columns: every
    entry of either is the same function of the same arguments. -/
theorem algebraic : Cert.algebraic_InprojIdeal_InprojReferenceIdeal_on_besides_pool := by
  intro m ρ m' ρ' _ hagree
  refine ⟨fun c => (Cert.InprojIdeal.Gen.dats m 0 c).arrAt 11 Cert.InprojIdeal.cfg0.N, fun c => (Cert.InprojIdeal.Gen.dats m 0 c).arrAt 12 Cert.InprojIdeal.cfg0.N,
    fun c => (Cert.InprojIdeal.Gen.dats m 0 c).arrAt 13 Cert.InprojIdeal.cfg0.N, fun c => (Cert.InprojIdeal.Gen.dats m 0 c).arrAt 14 Cert.InprojIdeal.cfg0.N, ?_, ?_⟩
  · exact (θ_run Cert.InprojIdeal.defs _ _).mono (fun _ h c => ⟨fun i _ => congrFun (h c).1 i, fun i _ => congrFun (h c).2.1 i,
      fun i _ => congrFun (h c).2.2.1 i, fun i _ => congrFun (h c).2.2.2.1 i, (h c).2.2.2.2⟩)
      (Cert.InprojIdeal.Value.run_blocks (F := Ideal) m ρ)
  refine (θ_run Cert.InprojReferenceIdeal.defs _ _).mono (fun _ h c => ?_)
    (Cert.InprojReferenceIdeal.Value.run (F := Ideal) m' ρ')
  obtain ⟨a0, a1, a2, a3, a4, a5, -⟩ := hagree c
  refine ⟨fun i _ => ?_, fun i _ => ?_, fun i hi => absurd (show (0#1 : BitVec 1) = 1#1 from hi) (by decide), fun i _ => ?_, (h c).2.2.2.2⟩
  · refine (congrFun (h c).1 i).trans ?_
    obtain ⟨k, n, rfl⟩ := split_idx i
    obtain ⟨t, r, s, p, rfl, e⟩ := split_row k
    refine Eq.trans ?_ (Ker.u_apply m c t r n).symm
    rw [e]
    refine Eq.trans (b := Ref.outU (Ref.conv (Ref.padded (Ref.seqs (Ref.lines _ _ _ _))) _ _) (ix2 (Ref.flat s p) n)) rfl ((Ref.u_apply
      (m' ((c.tc : Thread _ _).loc Cert.InprojReferenceIdeal.main_arg0)) (m' ((c.tc : Thread _ _).loc Cert.InprojReferenceIdeal.main_arg1))
      (m' ((c.tc : Thread _ _).loc Cert.InprojReferenceIdeal.main_arg2)) (m' ((c.tc : Thread _ _).loc Cert.InprojReferenceIdeal.main_arg3))
      (m' ((c.tc : Thread _ _).loc Cert.InprojReferenceIdeal.main_arg4)) (m' ((c.tc : Thread _ _).loc Cert.InprojReferenceIdeal.main_arg5)) s p n).trans ?_)
    rw [a0, a1, a2, a3, a4, a5]
  · refine (congrFun (h c).2.1 i).trans ?_
    obtain ⟨k, n, rfl⟩ := split_idx i
    obtain ⟨t, r, s, p, rfl, e⟩ := split_row k
    refine Eq.trans ?_ (Ker.g_apply m c t r n).symm
    rw [e]
    refine Eq.trans (b := Ref.outG (Ref.conv (Ref.padded (Ref.seqs (Ref.lines _ _ _ _))) _ _) (Ref.seqs (Ref.lines _ _ _ _)) (ix2 (Ref.flat s p) n)) rfl ((Ref.g_apply
      (m' ((c.tc : Thread _ _).loc Cert.InprojReferenceIdeal.main_arg0)) (m' ((c.tc : Thread _ _).loc Cert.InprojReferenceIdeal.main_arg1))
      (m' ((c.tc : Thread _ _).loc Cert.InprojReferenceIdeal.main_arg2)) (m' ((c.tc : Thread _ _).loc Cert.InprojReferenceIdeal.main_arg3))
      (m' ((c.tc : Thread _ _).loc Cert.InprojReferenceIdeal.main_arg4)) (m' ((c.tc : Thread _ _).loc Cert.InprojReferenceIdeal.main_arg5)) s p n).trans ?_)
    rw [a0, a1, a2, a3, a4, a5]
  · refine (congrFun (h c).2.2.2.1 i).trans ?_
    obtain ⟨k, n, rfl⟩ := split_idx i
    obtain ⟨t, r, s, p, rfl, e⟩ := split_row k
    refine Eq.trans ?_ (Ker.p_apply m c t r n).symm
    rw [e]
    refine Eq.trans (b := Ref.outP (Ref.seqs (Ref.lines _ _ _ _)) (ix2 (Ref.flat s p) n)) rfl ((Ref.p_apply
      (m' ((c.tc : Thread _ _).loc Cert.InprojReferenceIdeal.main_arg0)) (m' ((c.tc : Thread _ _).loc Cert.InprojReferenceIdeal.main_arg1))
      (m' ((c.tc : Thread _ _).loc Cert.InprojReferenceIdeal.main_arg2)) (m' ((c.tc : Thread _ _).loc Cert.InprojReferenceIdeal.main_arg3)) s p n).trans ?_)
    rw [a0, a1, a2, a3]

end Cert.Projection

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import Idealize.ShloMosaic.Adequacy
public import Idealize.ShloMosaic.Init
public import proofs.«01_k».proof.Proof.Equal
public import proofs.«01_k».proof.Proof.Merge
public import proofs.«01_k».proof.Proof.Inproj

@[expose] public section

noncomputable section

namespace Cert.Proof

theorem claim : Cert.Claim :=
  ⟨Cert.Kernel.Gen.facts, Cert.KernelIdeal.Gen.facts, Cert.ReferenceIdeal.Gen.facts, Cert.Merge.Gen.facts, Cert.MergeIdeal.Gen.facts,
    Cert.MergeReferenceIdeal.Gen.facts, Cert.Inproj.Gen.facts, Cert.InprojIdeal.Gen.facts, Cert.InprojReferenceIdeal.Gen.facts,
    Cert.Hyena.finiteFacts, Cert.Projection.maskFacts,
    Cert.Hyena.frame_kernel, Cert.Hyena.frame_ideal, Cert.Hyena.frame_ideal_finite, Cert.Hyena.frame_reference,
    Cert.Hyena.frame_reference_finite, Cert.Merging.frame_kernel, Cert.Merging.frame_ideal, Cert.Merging.frame_reference,
    Cert.Projection.frame_kernel, Cert.Projection.frame_ideal, Cert.Projection.frame_reference,
    Cert.Hyena.preserves, Cert.Hyena.algebraic, Cert.Merging.preserves, Cert.Merging.algebraic,
    Cert.Projection.preserves, Cert.Projection.algebraic⟩

end Cert.Proof

end
